-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_key_weights_finite [hPre_key_weights_finite : Cert.Pre_key_weights_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_key_weights_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).1 = (fun _ => 1#1)
    ∧ (Cert.Pre_key_weights_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_key_weights_finite [hPre_key_weights_finite : Cert.Pre_key_weights_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_key_weights_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).1 = (fun _ => 1#1)
    ∧ (Cert.Pre_key_weights_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_query_weights_finite [hPre_query_weights_finite : Cert.Pre_query_weights_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_query_weights_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).1 = (fun _ => 1#1)
    ∧ (Cert.Pre_query_weights_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_query_weights_finite [hPre_query_weights_finite : Cert.Pre_query_weights_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_query_weights_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).1 = (fun _ => 1#1)
    ∧ (Cert.Pre_query_weights_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_head_weights_finite [hPre_head_weights_finite : Cert.Pre_head_weights_finite.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_head_weights_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).1 = (fun _ => 1#1)
    ∧ (Cert.Pre_head_weights_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_head_weights_finite [hPre_head_weights_finite : Cert.Pre_head_weights_finite.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_head_weights_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))).1 = (fun _ => 1#1)
    ∧ (Cert.Pre_head_weights_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Kernel4Ideal_pre_key_weights_finite [hKernel4Ideal : Cert.Kernel4Ideal.Facts] [hPre_key_weights_finite : Cert.Pre_key_weights_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_key_weights_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Reference4Ideal_pre_key_weights_finite [hReference4Ideal : Cert.Reference4Ideal.Facts] [hPre_key_weights_finite : Cert.Pre_key_weights_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_key_weights_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Kernel5Ideal_pre_query_weights_finite [hKernel5Ideal : Cert.Kernel5Ideal.Facts] [hPre_query_weights_finite : Cert.Pre_query_weights_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_query_weights_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Reference5Ideal_pre_query_weights_finite [hReference5Ideal : Cert.Reference5Ideal.Facts] [hPre_query_weights_finite : Cert.Pre_query_weights_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_query_weights_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Kernel6Ideal_pre_head_weights_finite [hKernel6Ideal : Cert.Kernel6Ideal.Facts] [hPre_head_weights_finite : Cert.Pre_head_weights_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_head_weights_finite m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Reference6Ideal_pre_head_weights_finite [hReference6Ideal : Cert.Reference6Ideal.Facts] [hPre_head_weights_finite : Cert.Pre_head_weights_finite.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_head_weights_finite m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v19) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal_pre_key_weights_finite [hKernel4Ideal : Cert.Kernel4Ideal.Facts] [hReference4Ideal : Cert.Reference4Ideal.Facts] [hPre_key_weights_finite : Cert.Pre_key_weights_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_key_weights_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v36) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal_pre_query_weights_finite [hKernel5Ideal : Cert.Kernel5Ideal.Facts] [hReference5Ideal : Cert.Reference5Ideal.Facts] [hPre_query_weights_finite : Cert.Pre_query_weights_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_query_weights_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v8)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v8) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v52) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal_pre_head_weights_finite [hKernel6Ideal : Cert.Kernel6Ideal.Facts] [hReference6Ideal : Cert.Reference6Ideal.Facts] [hPre_head_weights_finite : Cert.Pre_head_weights_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_head_weights_finite m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v21_0)) (v1 : (c : Dev Cert.Kernel6Ideal.nD) → Buf (Elt Ideal) ((c.tc : Thread Cert.Kernel6Ideal.nD Cert.Kernel6Ideal.τ).loc Cert.Kernel6Ideal.main_v21_1)) (v2 : (c : Dev Cert.Kernel6Ideal.nD) → Buf (Elt Ideal) ((c.tc : Thread Cert.Kernel6Ideal.nD Cert.Kernel6Ideal.τ).loc Cert.Kernel6Ideal.main_v21_2)) (v3 : (c : Dev Cert.Kernel6Ideal.nD) → Buf (Elt Ideal) ((c.tc : Thread Cert.Kernel6Ideal.nD Cert.Kernel6Ideal.τ).loc Cert.Kernel6Ideal.main_v21_3)) (v4 : (c : Dev Cert.Kernel6Ideal.nD) → Buf (Elt Ideal) ((c.tc : Thread Cert.Kernel6Ideal.nD Cert.Kernel6Ideal.τ).loc Cert.Kernel6Ideal.main_v21_5)) (v5 : (c : Dev Cert.Kernel6Ideal.nD) → Buf (Elt Ideal) ((c.tc : Thread Cert.Kernel6Ideal.nD Cert.Kernel6Ideal.τ).loc Cert.Kernel6Ideal.main_v21_6)) (v6 : (c : Dev Cert.Kernel6Ideal.nD) → Buf (Elt Ideal) ((c.tc : Thread Cert.Kernel6Ideal.nD Cert.Kernel6Ideal.τ).loc Cert.Kernel6Ideal.main_v21_7)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v21_0) = v0 c
          ∧ r.2.mem ((c.tc : Thread Cert.Kernel6Ideal.nD Cert.Kernel6Ideal.τ).loc Cert.Kernel6Ideal.main_v21_1) = v1 c
          ∧ r.2.mem ((c.tc : Thread Cert.Kernel6Ideal.nD Cert.Kernel6Ideal.τ).loc Cert.Kernel6Ideal.main_v21_2) = v2 c
          ∧ r.2.mem ((c.tc : Thread Cert.Kernel6Ideal.nD Cert.Kernel6Ideal.τ).loc Cert.Kernel6Ideal.main_v21_3) = v3 c
          ∧ r.2.mem ((c.tc : Thread Cert.Kernel6Ideal.nD Cert.Kernel6Ideal.τ).loc Cert.Kernel6Ideal.main_v21_5) = v4 c
          ∧ r.2.mem ((c.tc : Thread Cert.Kernel6Ideal.nD Cert.Kernel6Ideal.τ).loc Cert.Kernel6Ideal.main_v21_6) = v5 c
          ∧ r.2.mem ((c.tc : Thread Cert.Kernel6Ideal.nD Cert.Kernel6Ideal.τ).loc Cert.Kernel6Ideal.main_v21_7) = v6 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v63) = v0 c
          ∧ r.2.mem ((c.tc : Thread Cert.Reference6Ideal.nD Cert.Reference6Ideal.τ).loc Cert.Reference6Ideal.main_v64) = v1 c
          ∧ r.2.mem ((c.tc : Thread Cert.Reference6Ideal.nD Cert.Reference6Ideal.τ).loc Cert.Reference6Ideal.main_v65) = v2 c
          ∧ r.2.mem ((c.tc : Thread Cert.Reference6Ideal.nD Cert.Reference6Ideal.τ).loc Cert.Reference6Ideal.main_v53) = v3 c
          ∧ r.2.mem ((c.tc : Thread Cert.Reference6Ideal.nD Cert.Reference6Ideal.τ).loc Cert.Reference6Ideal.main_v62) = v4 c
          ∧ r.2.mem ((c.tc : Thread Cert.Reference6Ideal.nD Cert.Reference6Ideal.τ).loc Cert.Reference6Ideal.main_v68) = v5 c
          ∧ r.2.mem ((c.tc : Thread Cert.Reference6Ideal.nD Cert.Reference6Ideal.τ).loc Cert.Reference6Ideal.main_v71) = v6 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_key_weights_finite : Cert.Pre_key_weights_finite.Facts) (hPre_query_weights_finite : Cert.Pre_query_weights_finite.Facts) (hPre_head_weights_finite : Cert.Pre_head_weights_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_key_weights_finite (hKernel4Ideal := hKernel4Ideal) (hPre_key_weights_finite := hPre_key_weights_finite)
    ∧ quiescent_Reference4Ideal (hReference4Ideal := hReference4Ideal)
    ∧ quiescent_Reference4Ideal_pre_key_weights_finite (hReference4Ideal := hReference4Ideal) (hPre_key_weights_finite := hPre_key_weights_finite)
    ∧ quiescent_Kernel5 (hKernel5 := hKernel5)
    ∧ quiescent_Kernel5Ideal (hKernel5Ideal := hKernel5Ideal)
    ∧ quiescent_Kernel5Ideal_pre_query_weights_finite (hKernel5Ideal := hKernel5Ideal) (hPre_query_weights_finite := hPre_query_weights_finite)
    ∧ quiescent_Reference5Ideal (hReference5Ideal := hReference5Ideal)
    ∧ quiescent_Reference5Ideal_pre_query_weights_finite (hReference5Ideal := hReference5Ideal) (hPre_query_weights_finite := hPre_query_weights_finite)
    ∧ quiescent_Kernel6 (hKernel6 := hKernel6)
    ∧ quiescent_Kernel6Ideal (hKernel6Ideal := hKernel6Ideal)
    ∧ quiescent_Kernel6Ideal_pre_head_weights_finite (hKernel6Ideal := hKernel6Ideal) (hPre_head_weights_finite := hPre_head_weights_finite)
    ∧ quiescent_Reference6Ideal (hReference6Ideal := hReference6Ideal)
    ∧ quiescent_Reference6Ideal_pre_head_weights_finite (hReference6Ideal := hReference6Ideal) (hPre_head_weights_finite := hPre_head_weights_finite)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_key_weights_finite (hKernel4Ideal := hKernel4Ideal) (hReference4Ideal := hReference4Ideal) (hPre_key_weights_finite := hPre_key_weights_finite)
    ∧ preserves_Kernel5_Kernel5Ideal
    ∧ algebraic_Kernel5Ideal_Reference5Ideal_pre_query_weights_finite (hKernel5Ideal := hKernel5Ideal) (hReference5Ideal := hReference5Ideal) (hPre_query_weights_finite := hPre_query_weights_finite)
    ∧ preserves_Kernel6_Kernel6Ideal
    ∧ algebraic_Kernel6Ideal_Reference6Ideal_pre_head_weights_finite (hKernel6Ideal := hKernel6Ideal) (hReference6Ideal := hReference6Ideal) (hPre_head_weights_finite := hPre_head_weights_finite)
-- ==== Pre_head_weights_finite.lean ====
abbrev S2x8192x1024 : Shape := ⟨3, ![2, 8192, 1024]⟩
abbrev S1024 : Shape := ⟨1, ![1024]⟩
abbrev S1024x2688 : Shape := ⟨2, ![1024, 2688]⟩
abbrev S64 : Shape := ⟨1, ![64]⟩
abbrev S128 : Shape := ⟨1, ![128]⟩
abbrev S_ : Shape := ⟨0, ![]⟩
abbrev S1024x1024 : Shape := ⟨2, ![1024, 1024]⟩

class Facts : Prop where
  bcast_S_S1024 : S_.BroadcastsInDim S1024 (![] : Fin 0 → Fin S1024.rank)
  slices_S1024x2688_S1024x1024_0_0 : S1024x2688.Slices ![0, 0] S1024x1024
  bcast_S_S1024x1024 : S_.BroadcastsInDim S1024x1024 (![] : Fin 0 → Fin S1024x1024.rank)

variable [Facts]

def fn {F : FTy → Type} [FloatOps F] (main_arg0 : FVec F S2x8192x1024 .f32) (main_arg1 : FVec F S1024 .f32) (main_arg2 : FVec F S1024x2688 .f32) (main_arg3 : FVec F S64 .f32) (main_arg4 : FVec F S64 .f32) (main_arg5 : FVec F S128 .f32) : IVec S1024 1 × IVec S1024x1024 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024x1024 .f32 := (extractStridedSlice S1024x1024 ![0, 0] · slices_S1024x2688_S1024x1024_0_0) main_arg2
  let main_v4 : FVec F S1024x1024 .f32 := Host.absf main_v3
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  (main_v2, main_v6)
-- ==== Pre_key_weights_finite.lean ====
abbrev S2x256x1024 : Shape := ⟨3, ![2, 256, 1024]⟩
abbrev S1024 : Shape := ⟨1, ![1024]⟩
abbrev S1024x512 : Shape := ⟨2, ![1024, 512]⟩
abbrev S64 : Shape := ⟨1, ![64]⟩
abbrev S_ : Shape := ⟨0, ![]⟩
abbrev S1024x256 : Shape := ⟨2, ![1024, 256]⟩

class Facts : Prop where
  bcast_S_S1024 : S_.BroadcastsInDim S1024 (![] : Fin 0 → Fin S1024.rank)
  slices_S1024x512_S1024x256_0_0 : S1024x512.Slices ![0, 0] S1024x256
  bcast_S_S1024x256 : S_.BroadcastsInDim S1024x256 (![] : Fin 0 → Fin S1024x256.rank)

variable [Facts]

def fn {F : FTy → Type} [FloatOps F] (main_arg0 : FVec F S2x256x1024 .f32) (main_arg1 : FVec F S1024 .f32) (main_arg2 : FVec F S1024x512 .f32) (main_arg3 : FVec F S64 .f32) : IVec S1024 1 × IVec S1024x256 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024x256 .f32 := (extractStridedSlice S1024x256 ![0, 0] · slices_S1024x512_S1024x256_0_0) main_arg2
  let main_v4 : FVec F S1024x256 .f32 := Host.absf main_v3
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  (main_v2, main_v6)
-- ==== Pre_query_weights_finite.lean ====
abbrev S2x8192x1024 : Shape := ⟨3, ![2, 8192, 1024]⟩
abbrev S2x512x256 : Shape := ⟨3, ![2, 512, 256]⟩
abbrev S1024 : Shape := ⟨1, ![1024]⟩
abbrev S1024x256 : Shape := ⟨2, ![1024, 256]⟩
abbrev S256x1024 : Shape := ⟨2, ![256, 1024]⟩
abbrev S64 : Shape := ⟨1, ![64]⟩
abbrev S_ : Shape := ⟨0, ![]⟩

class Facts : Prop where
  bcast_S_S1024 : S_.BroadcastsInDim S1024 (![] : Fin 0 → Fin S1024.rank)
  bcast_S_S1024x256 : S_.BroadcastsInDim S1024x256 (![] : Fin 0 → Fin S1024x256.rank)

variable [Facts]

def fn {F : FTy → Type} [FloatOps F] (main_arg0 : FVec F S2x8192x1024 .f32) (main_arg1 : FVec F S2x512x256 .f32) (main_arg2 : FVec F S1024 .f32) (main_arg3 : FVec F S1024x256 .f32) (main_arg4 : FVec F S256x1024 .f32) (main_arg5 : FVec F S64 .f32) : IVec S1024 1 × IVec S1024x256 1 :=
  let main_v0 : FVec F S1024 .f32 := Host.absf main_arg2
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024x256 .f32 := Host.absf main_arg3
  let main_cst_0 : FVec F S_ .f32 := constant S_ .f32 0x7F800000#32
  let main_v4 : FVec F S1024x256 .f32 := broadcastInDim S1024x256 ![] bcast_S_S1024x256 main_cst_0
  let main_v5 : IVec S1024x256 1 := cmpf .olt main_v3 main_v4
  (main_v2, main_v5)
-- ==== Kernel.lean ====
abbrev S512x16384 : Shape := ⟨2, ![512, 16384]⟩
abbrev S2x8192x512 : Shape := ⟨3, ![2, 8192, 512]⟩
abbrev S2x8192x128 : Shape := ⟨3, ![2, 8192, 128]⟩
abbrev S2x8192x8 : Shape := ⟨3, ![2, 8192, 8]⟩
abbrev S2x8x8192 : Shape := ⟨3, ![2, 8, 8192]⟩
abbrev S512x512 : Shape := ⟨2, ![512, 512]⟩
abbrev S1x1024x512 : Shape := ⟨3, ![1, 1024, 512]⟩
abbrev S512x1024 : Shape := ⟨2, ![512, 1024]⟩
abbrev S1x1024x8 : Shape := ⟨3, ![1, 1024, 8]⟩
abbrev S1x8x512 : Shape := ⟨3, ![1, 8, 512]⟩
abbrev S1x512x512 : Shape := ⟨3, ![1, 512, 512]⟩
abbrev S8x512 : Shape := ⟨2, ![8, 512]⟩
abbrev S1x1024x64 : Shape := ⟨3, ![1, 1024, 64]⟩
abbrev S1024x64 : Shape := ⟨2, ![1024, 64]⟩
abbrev S64x512 : Shape := ⟨2, ![64, 512]⟩
abbrev S1024x512 : Shape := ⟨2, ![1024, 512]⟩
abbrev S1x1x512 : Shape := ⟨3, ![1, 1, 512]⟩
abbrev S1x512 : Shape := ⟨2, ![1, 512]⟩
abbrev S1x1024x1 : Shape := ⟨3, ![1, 1024, 1]⟩
abbrev S1024x1 : Shape := ⟨2, ![1024, 1]⟩
abbrev S512 : Shape := ⟨1, ![512]⟩
abbrev S64x1024 : Shape := ⟨2, ![64, 1024]⟩

abbrev nBuf : Space → Nat
  | .hbm => 7
  | .vmem => 15
  | .smem => 0
  | _ => 0

abbrev bufTy : (tb : Table) → Fin (tcTables nBuf tb) → BufTy
  | .hbm, ⟨0, _⟩ => ⟨S512x16384, .bf16⟩
  | .hbm, ⟨1, _⟩ => ⟨S2x8192x512, .bf16⟩
  | .hbm, ⟨2, _⟩ => ⟨S512x16384, .bf16⟩
  | .hbm, ⟨3, _⟩ => ⟨S2x8192x128, .f32⟩
  | .hbm, ⟨4, _⟩ => ⟨S2x8192x8, .f32⟩
  | .hbm, ⟨5, _⟩ => ⟨S2x8x8192, .f32⟩
  | .hbm, ⟨6, _⟩ => ⟨S2x8192x512, .f32⟩
  | .local _ .vmem, ⟨0, _⟩ => ⟨S512x512, .bf16⟩
  | .local _ .vmem, ⟨1, _⟩ => ⟨S512x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S512x1024, .bf16⟩
  | .local _ .vmem, ⟨5, _⟩ => ⟨S512x1024, .bf16⟩
  | .local _ .vmem, ⟨6, _⟩ => ⟨S1x1024x8, .f32⟩
  | .local _ .vmem, ⟨7, _⟩ => ⟨S1x1024x8, .f32⟩
  | .local _ .vmem, ⟨8, _⟩ => ⟨S1x8x512, .f32⟩
  | .local _ .vmem, ⟨9, _⟩ => ⟨S1x8x512, .f32⟩
  | .local _ .vmem, ⟨10, _⟩ => ⟨S1x512x512, .f32⟩
  | .local _ .vmem, ⟨11, _⟩ => ⟨S1x512x512, .f32⟩
  | .local _ .vmem, ⟨12, _⟩ => ⟨S8x512, .f32⟩
  | .local _ .vmem, ⟨13, _⟩ => ⟨S8x512, .f32⟩
  | .local _ .vmem, ⟨14, _⟩ => ⟨S512x512, .f32⟩
  | _, _ => ⟨S512x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 16, 8], ![false, false, false]⟩

def k0_cond4 (i : grid0.Coords) : BitVec 1 :=
  let arg2 : BitVec 32 := BitVec.ofNat 32 (i 2).val
  let c7_i32 : BitVec 32 := 7#32
  let v29 : BitVec 1 := Scalar.cmpi .eq arg2 c7_i32
  let v30 : BitVec 32 := Scalar.extui v29
  let c0_i32_10 : BitVec 32 := 0#32
  let v31 : BitVec 1 := Scalar.cmpi .ne v30 c0_i32_10
  v31

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c512_i32 : BitVec 32 := 512#32
  let v0 : BitVec 32 := Scalar.muli arg1 c512_i32
  let c512_i32_0 : BitVec 32 := 512#32
  let v1 : BitVec 32 := Scalar.addi v0 c512_i32_0
  let c1_i32 : BitVec 32 := 1#32
  let v2 : BitVec 32 := Scalar.subi v1 c1_i32
  let c1024_i32 : BitVec 32 := 1024#32
  let v3 : BitVec 32 := Scalar.divsi v2 c1024_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let v20 : BitVec 32 := Scalar.minsi arg2 v19
  let c0_i32_6 : BitVec 32 := 0#32
  let c0_i32_7 : BitVec 32 := 0#32
  ![arg0.toNat, v20.toNat, c0_i32_6.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c512_i32 : BitVec 32 := 512#32
  let v1 : BitVec 32 := Scalar.muli arg1 c512_i32
  let c512_i32_0 : BitVec 32 := 512#32
  let v2 : BitVec 32 := Scalar.addi v1 c512_i32_0
  let c1_i32 : BitVec 32 := 1#32
  let v3 : BitVec 32 := Scalar.subi v2 c1_i32
  let c1024_i32 : BitVec 32 := 1024#32
  let v4 : BitVec 32 := Scalar.divsi v3 c1024_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c1024_i32 c0_i32_2
  let v11 : BitVec 32 := Scalar.extui v10
  let c0_i32_3 : BitVec 32 := 0#32
  let v12 : BitVec 1 := Scalar.cmpi .slt c1024_i32 c0_i32_3
  let v13 : BitVec 32 := Scalar.extui v12
  let v14 : BitVec 32 := Scalar.subi v11 v13
  let v15 : BitVec 1 := Scalar.cmpi .ne v9 v14
  let v16 : BitVec 32 := Scalar.remsi v3 c1024_i32
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let v21 : BitVec 32 := Scalar.minsi arg2 v20
  let v22 : BitVec 32 := Scalar.addi v0 v21
  let c0_i32_6 : BitVec 32 := 0#32
  let c0_i32_7 : BitVec 32 := 0#32
  ![c0_i32_6.toNat, v22.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c512_i32 : BitVec 32 := 512#32
  let v0 : BitVec 32 := Scalar.muli arg1 c512_i32
  let c512_i32_0 : BitVec 32 := 512#32
  let v1 : BitVec 32 := Scalar.addi v0 c512_i32_0
  let c1_i32 : BitVec 32 := 1#32
  let v2 : BitVec 32 := Scalar.subi v1 c1_i32
  let c1024_i32 : BitVec 32 := 1024#32
  let v3 : BitVec 32 := Scalar.divsi v2 c1024_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let v20 : BitVec 32 := Scalar.minsi arg2 v19
  let c0_i32_6 : BitVec 32 := 0#32
  let c0_i32_7 : BitVec 32 := 0#32
  ![arg0.toNat, v20.toNat, c0_i32_6.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1024x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== KernelIdeal.lean ====
variable {F : FTy → Type} [FloatOps F] [Named F]
def κ : String → Option EReal := fun
  | "mask" => some ⊥
  | _ => none
-- ==== ReferenceIdeal.lean ====
abbrev S512x16384 : Shape := ⟨2, ![512, 16384]⟩
abbrev S2x8192x512 : Shape := ⟨3, ![2, 8192, 512]⟩
abbrev S2x8192x128 : Shape := ⟨3, ![2, 8192, 128]⟩
abbrev S16384x512 : Shape := ⟨2, ![16384, 512]⟩
abbrev S2x8192x8x64 : Shape := ⟨4, ![2, 8192, 8, 64]⟩
abbrev S2x8192x8 : Shape := ⟨3, ![2, 8192, 8]⟩
abbrev S8192 : Shape := ⟨1, ![8192]⟩
abbrev S2x8x8192x8192 : Shape := ⟨4, ![2, 8, 8192, 8192]⟩
abbrev S2x8x8192 : Shape := ⟨3, ![2, 8, 8192]⟩
abbrev S2x8x8192x1 : Shape := ⟨4, ![2, 8, 8192, 1]⟩
abbrev S2x8x1x8192 : Shape := ⟨4, ![2, 8, 1, 8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩
abbrev S1x1x8192x8192 : Shape := ⟨4, ![1, 1, 8192, 8192]⟩
abbrev S2x8x64x8192 : Shape := ⟨4, ![2, 8, 64, 8192]⟩

abbrev nBuf : Space → Nat
  | .hbm => 54
  | .vmem => 0
  | .smem => 0
  | _ => 0

abbrev bufTy : (tb : Table) → Fin (tcTables nBuf tb) → BufTy
  | .hbm, ⟨0, _⟩ => ⟨S512x16384, .bf16⟩
  | .hbm, ⟨1, _⟩ => ⟨S2x8192x512, .bf16⟩
  | .hbm, ⟨2, _⟩ => ⟨S512x16384, .bf16⟩
  | .hbm, ⟨3, _⟩ => ⟨S2x8192x128, .f32⟩
  | .hbm, ⟨4, _⟩ => ⟨S512x16384, .f32⟩
  | .hbm, ⟨5, _⟩ => ⟨S16384x512, .f32⟩
  | .hbm, ⟨6, _⟩ => ⟨S2x8192x8x64, .f32⟩
  | .hbm, ⟨7, _⟩ => ⟨S2x8192x512, .f32⟩
  | .hbm, ⟨8, _⟩ => ⟨S2x8192x8x64, .f32⟩
  | .hbm, ⟨9, _⟩ => ⟨S512x16384, .f32⟩
  | .hbm, ⟨10, _⟩ => ⟨S16384x512, .f32⟩
  | .hbm, ⟨11, _⟩ => ⟨S2x8192x8x64, .f32⟩
  | .hbm, ⟨12, _⟩ => ⟨S2x8192x8, .f32⟩
  | .hbm, ⟨13, _⟩ => ⟨S8192, .i32⟩
  | .hbm, ⟨14, _⟩ => ⟨S2x8x8192x8192, .f32⟩
  | .hbm, ⟨15, _⟩ => ⟨S2x8x8192, .f32⟩
  | .hbm, ⟨16, _⟩ => ⟨S2x8x8192x1, .f32⟩
  | .hbm, ⟨17, _⟩ => ⟨S2x8x8192x8192, .f32⟩
  | .hbm, ⟨18, _⟩ => ⟨S2x8x8192x8192, .f32⟩
  | .hbm, ⟨19, _⟩ => ⟨S2x8x8192, .f32⟩
  | .hbm, ⟨20, _⟩ => ⟨S2x8x1x8192, .f32⟩
  | .hbm, ⟨21, _⟩ => ⟨S2x8x8192x8192, .f32⟩
  | .hbm, ⟨22, _⟩ => ⟨S2x8x8192x8192, .f32⟩
  | .hbm, ⟨23, _⟩ => ⟨S1x8192, .i32⟩
  | .hbm, ⟨24, _⟩ => ⟨S8192x1, .i32⟩
  | .hbm, ⟨25, _⟩ => ⟨S8192x8192, .i32⟩
  | .hbm, ⟨26, _⟩ => ⟨S8192x8192, .i32⟩
  | .hbm, ⟨27, _⟩ => ⟨S8192x8192, .i1⟩
  | .hbm, ⟨28, _⟩ => ⟨S_, .f32⟩
  | .hbm, ⟨29, _⟩ => ⟨S_, .f32⟩
  | .hbm, ⟨30, _⟩ => ⟨S2x8x8192x8192, .i1⟩
  | .hbm, ⟨31, _⟩ => ⟨S2x8x8192x8192, .f32⟩
  | .hbm, ⟨32, _⟩ => ⟨S2x8x8192x8192, .f32⟩
  | .hbm, ⟨33, _⟩ => ⟨S_, .f32⟩
  | .hbm, ⟨34, _⟩ => ⟨S2x8x8192, .f32⟩
  | .hbm, ⟨35, _⟩ => ⟨S2x8x8192x1, .f32⟩
  | .hbm, ⟨36, _⟩ => ⟨S2x8x8192x8192, .f32⟩
  | .hbm, ⟨37, _⟩ => ⟨S2x8x8192x8192, .f32⟩
  | .hbm, ⟨38, _⟩ => ⟨S2x8x8192x8192, .f32⟩
  | .hbm, ⟨39, _⟩ => ⟨S8192x8192, .f32⟩
  | .hbm, ⟨40, _⟩ => ⟨S1x1x8192x8192, .f32⟩
  | .hbm, ⟨41, _⟩ => ⟨S2x8x8192x8192, .f32⟩
  | .hbm, ⟨42, _⟩ => ⟨S2x8x8192x8192, .f32⟩
  | .hbm, ⟨43, _⟩ => ⟨S_, .f32⟩
  | .hbm, ⟨44, _⟩ => ⟨S2x8x8192, .f32⟩
  | .hbm, ⟨45, _⟩ => ⟨S2x8x8192x1, .f32⟩
  | .hbm, ⟨46, _⟩ => ⟨S_, .f32⟩
  | .hbm, ⟨47, _⟩ => ⟨S2x8x8192x1, .f32⟩
  | .hbm, ⟨48, _⟩ => ⟨S2x8x8192x1, .f32⟩
  | .hbm, ⟨49, _⟩ => ⟨S2x8x8192x8192, .f32⟩
  | .hbm, ⟨50, _⟩ => ⟨S2x8x8192x8192, .f32⟩
  | .hbm, ⟨51, _⟩ => ⟨S2x8x64x8192, .f32⟩
  | .hbm, ⟨52, _⟩ => ⟨S2x8192x8x64, .f32⟩
  | .hbm, ⟨53, _⟩ => ⟨S2x8192x512, .f32⟩
  | _, _ => ⟨S512x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v24 : Ref sig .tc := ⟨.hbm, 32, rfl⟩
abbrev main_cst_0 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_1 : Ref sig .tc := ⟨.hbm, 43, rfl⟩
abbrev main_v34 : Ref sig .tc := ⟨.hbm, 44, rfl⟩
abbrev main_v35 : Ref sig .tc := ⟨.hbm, 45, rfl⟩
abbrev main_cst_2 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩

abbrev nD : Nat := 1
abbrev τ : Topo := Topo.v7x

variable {F : FTy → Type} [FloatOps F]
-- ==== Kernel2.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S1024x1024 : Shape := ⟨2, ![1024, 1024]⟩
abbrev S1024x1408 : Shape := ⟨2, ![1024, 1408]⟩
abbrev S1408x1024 : Shape := ⟨2, ![1408, 1024]⟩
abbrev S1024x1 : Shape := ⟨2, ![1024, 1]⟩

abbrev nBuf : Space → Nat
  | .hbm => 8
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1x1024, .f32⟩
  | .hbm, ⟨5, _⟩ => ⟨S1024x5632, .bf16⟩
  | .hbm, ⟨6, _⟩ => ⟨S2816x1024, .bf16⟩
  | .hbm, ⟨7, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1408x1024, .bf16⟩
  | .local _ .vmem, ⟨8, _⟩ => ⟨S1408x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 2], ![false, false]⟩

def k0_cond2 (i : grid0.Coords) : BitVec 1 :=
  let arg1 : BitVec 32 := BitVec.ofNat 32 (i 1).val
  let c1_i32 : BitVec 32 := 1#32
  let v28 : BitVec 1 := Scalar.cmpi .eq arg1 c1_i32
  let v29 : BitVec 32 := Scalar.extui v28
  let c0_i32_17 : BitVec 32 := 0#32
  let v30 : BitVec 1 := Scalar.cmpi .ne v29 c0_i32_17
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩
abbrev S16384x2816 : Shape := ⟨2, ![16384, 2816]⟩

abbrev nBuf : Space → Nat
  | .hbm => 35
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x5632, .f32⟩
  | .hbm, ⟨21, _⟩ => ⟨S16384x2816, .f32⟩
  | .hbm, ⟨22, _⟩ => ⟨S16384x2816, .f32⟩
  | .hbm, ⟨23, _⟩ => ⟨S16384x2816, .f32⟩
  | .hbm, ⟨24, _⟩ => ⟨S_, .f32⟩
  | .hbm, ⟨25, _⟩ => ⟨S16384x2816, .f32⟩
  | .hbm, ⟨26, _⟩ => ⟨S16384x2816, .f32⟩
  | .hbm, ⟨27, _⟩ => ⟨S_, .f32⟩
  | .hbm, ⟨28, _⟩ => ⟨S16384x2816, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x1024, .f32⟩
  | .hbm, ⟨34, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩

abbrev nD : Nat := 1
abbrev τ : Topo := Topo.v7x

variable {F : FTy → Type} [FloatOps F]
-- ==== Kernel3.lean ====
abbrev S16384x1024 : Shape := ⟨2, ![16384, 1024]⟩
abbrev S16384x512 : Shape := ⟨2, ![16384, 512]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 8
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S1024x1024, .f32⟩
  | .hbm, ⟨4, _⟩ => ⟨S1024x1024, .bf16⟩
  | .hbm, ⟨5, _⟩ => ⟨S512x1024, .bf16⟩
  | .hbm, ⟨6, _⟩ => ⟨S512x1024, .bf16⟩
  | .hbm, ⟨7, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S512x1024, .bf16⟩
  | .local _ .vmem, ⟨7, _⟩ => ⟨S512x1024, .bf16⟩
  | .local _ .vmem, ⟨8, _⟩ => ⟨S1024x1024, .f32⟩
  | .local _ .vmem, ⟨9, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S16384x1024 : Shape := ⟨2, ![16384, 1024]⟩
abbrev S16384x512 : Shape := ⟨2, ![16384, 512]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S1024x1024, .f32⟩
  | .hbm, ⟨4, _⟩ => ⟨S16384x1024, .f32⟩
  | .hbm, ⟨5, _⟩ => ⟨S16384x1024, .f32⟩
  | .hbm, ⟨6, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Kernel4.lean ====
abbrev S2x256x1024 : Shape := ⟨3, ![2, 256, 1024]⟩
abbrev S1024 : Shape := ⟨1, ![1024]⟩
abbrev S1024x512 : Shape := ⟨2, ![1024, 512]⟩
abbrev S64 : Shape := ⟨1, ![64]⟩
abbrev S256x256 : Shape := ⟨2, ![256, 256]⟩
abbrev S1x1024 : Shape := ⟨2, ![1, 1024]⟩
abbrev S1x64 : Shape := ⟨2, ![1, 64]⟩
abbrev S4x64 : Shape := ⟨2, ![4, 64]⟩
abbrev S256 : Shape := ⟨1, ![256]⟩
abbrev S1x256 : Shape := ⟨2, ![1, 256]⟩
abbrev S2x512x256 : Shape := ⟨3, ![2, 512, 256]⟩
abbrev S1x256x1024 : Shape := ⟨3, ![1, 256, 1024]⟩
abbrev S1x512x256 : Shape := ⟨3, ![1, 512, 256]⟩
abbrev S256x1024 : Shape := ⟨2, ![256, 1024]⟩
abbrev S256x1 : Shape := ⟨2, ![256, 1]⟩
abbrev S256x512 : Shape := ⟨2, ![256, 512]⟩
abbrev S1x256x256 : Shape := ⟨3, ![1, 256, 256]⟩

abbrev nBuf : Space → Nat
  | .hbm => 12
  | .vmem => 8
  | .smem => 0
  | _ => 0

abbrev bufTy : (tb : Table) → Fin (tcTables nBuf tb) → BufTy
  | .hbm, ⟨0, _⟩ => ⟨S2x256x1024, .f32⟩
  | .hbm, ⟨1, _⟩ => ⟨S1024, .f32⟩
  | .hbm, ⟨2, _⟩ => ⟨S1024x512, .f32⟩
  | .hbm, ⟨3, _⟩ => ⟨S64, .f32⟩
  | .hbm, ⟨4, _⟩ => ⟨S256x256, .bf16⟩
  | .hbm, ⟨5, _⟩ => ⟨S1x1024, .f32⟩
  | .hbm, ⟨6, _⟩ => ⟨S1024x512, .bf16⟩
  | .hbm, ⟨7, _⟩ => ⟨S1x64, .f32⟩
  | .hbm, ⟨8, _⟩ => ⟨S4x64, .f32⟩
  | .hbm, ⟨9, _⟩ => ⟨S256, .f32⟩
  | .hbm, ⟨10, _⟩ => ⟨S1x256, .f32⟩
  | .hbm, ⟨11, _⟩ => ⟨S2x512x256, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x512, .bf16⟩
  | .local _ .vmem, ⟨4, _⟩ => ⟨S1x256, .f32⟩
  | .local _ .vmem, ⟨5, _⟩ => ⟨S256x256, .bf16⟩
  | .local _ .vmem, ⟨6, _⟩ => ⟨S1x512x256, .f32⟩
  | .local _ .vmem, ⟨7, _⟩ => ⟨S1x512x256, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S2x256x1024 : Shape := ⟨3, ![2, 256, 1024]⟩
abbrev S1024 : Shape := ⟨1, ![1024]⟩
abbrev S1024x512 : Shape := ⟨2, ![1024, 512]⟩
abbrev S64 : Shape := ⟨1, ![64]⟩
abbrev S_ : Shape := ⟨0, ![]⟩
abbrev S2x256 : Shape := ⟨2, ![2, 256]⟩
abbrev S2x256x1 : Shape := ⟨3, ![2, 256, 1]⟩
abbrev S1x1x1024 : Shape := ⟨3, ![1, 1, 1024]⟩
abbrev S2x256x512 : Shape := ⟨3, ![2, 256, 512]⟩
abbrev S2x256x2x4x64 : Shape := ⟨5, ![2, 256, 2, 4, 64]⟩
abbrev S2x256x1x4x64 : Shape := ⟨5, ![2, 256, 1, 4, 64]⟩
abbrev S2x256x4x64 : Shape := ⟨4, ![2, 256, 4, 64]⟩
abbrev S2x256x4 : Shape := ⟨3, ![2, 256, 4]⟩
abbrev S2x256x4x1 : Shape := ⟨4, ![2, 256, 4, 1]⟩
abbrev S1x1x1x64 : Shape := ⟨4, ![1, 1, 1, 64]⟩
abbrev S2x2x4x64x256 : Shape := ⟨5, ![2, 2, 4, 64, 256]⟩
abbrev S2x512x256 : Shape := ⟨3, ![2, 512, 256]⟩

abbrev nBuf : Space → Nat
  | .hbm => 47
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S1024, .f32⟩
  | .hbm, ⟨2, _⟩ => ⟨S1024x512, .f32⟩
  | .hbm, ⟨3, _⟩ => ⟨S64, .f32⟩
  | .hbm, ⟨4, _⟩ => ⟨S2x256x1024, .f32⟩
  | .hbm, ⟨5, _⟩ => ⟨S_, .f32⟩
  | .hbm, ⟨6, _⟩ => ⟨S2x256, .f32⟩
  | .hbm, ⟨7, _⟩ => ⟨S2x256x1, .f32⟩
  | .hbm, ⟨8, _⟩ => ⟨S_, .f32⟩
  | .hbm, ⟨9, _⟩ => ⟨S2x256x1, .f32⟩
  | .hbm, ⟨10, _⟩ => ⟨S2x256x1, .f32⟩
  | .hbm, ⟨11, _⟩ => ⟨S_, .f32⟩
  | .hbm, ⟨12, _⟩ => ⟨S2x256x1, .f32⟩
  | .hbm, ⟨13, _⟩ => ⟨S2x256x1, .f32⟩
  | .hbm, ⟨14, _⟩ => ⟨S2x256x1, .f32⟩
  | .hbm, ⟨15, _⟩ => ⟨S2x256x1024, .f32⟩
  | .hbm, ⟨16, _⟩ => ⟨S2x256x1024, .f32⟩
  | .hbm, ⟨17, _⟩ => ⟨S1x1x1024, .f32⟩
  | .hbm, ⟨18, _⟩ => ⟨S2x256x1024, .f32⟩
  | .hbm, ⟨19, _⟩ => ⟨S2x256x1024, .f32⟩
  | .hbm, ⟨20, _⟩ => ⟨S2x256x512, .f32⟩
  | .hbm, ⟨21, _⟩ => ⟨S2x256x2x4x64, .f32⟩
  | .hbm, ⟨22, _⟩ => ⟨S2x256x1x4x64, .f32⟩
  | .hbm, ⟨23, _⟩ => ⟨S2x256x4x64, .f32⟩
  | .hbm, ⟨24, _⟩ => ⟨S2x256x4x64, .f32⟩
  | .hbm, ⟨25, _⟩ => ⟨S_, .f32⟩
  | .hbm, ⟨26, _⟩ => ⟨S2x256x4, .f32⟩
  | .hbm, ⟨27, _⟩ => ⟨S2x256x4x1, .f32⟩
  | .hbm, ⟨28, _⟩ => ⟨S_, .f32⟩
  | .hbm, ⟨29, _⟩ => ⟨S2x256x4x1, .f32⟩
  | .hbm, ⟨30, _⟩ => ⟨S2x256x4x1, .f32⟩
  | .hbm, ⟨31, _⟩ => ⟨S_, .f32⟩
  | .hbm, ⟨32, _⟩ => ⟨S2x256x4x1, .f32⟩
  | .hbm, ⟨33, _⟩ => ⟨S2x256x4x1, .f32⟩
  | .hbm, ⟨34, _⟩ => ⟨S2x256x4x1, .f32⟩
  | .hbm, ⟨35, _⟩ => ⟨S2x256x4x64, .f32⟩
  | .hbm, ⟨36, _⟩ => ⟨S2x256x4x64, .f32⟩
  | .hbm, ⟨37, _⟩ => ⟨S1x1x1x64, .f32⟩
  | .hbm, ⟨38, _⟩ => ⟨S2x256x4x64, .f32⟩
  | .hbm, ⟨39, _⟩ => ⟨S2x256x4x64, .f32⟩
  | .hbm, ⟨40, _⟩ => ⟨S2x256x1x4x64, .f32⟩
  | .hbm, ⟨41, _⟩ => ⟨S2x256x4x64, .f32⟩
  | .hbm, ⟨42, _⟩ => ⟨S2x256x1x4x64, .f32⟩
  | .hbm, ⟨43, _⟩ => ⟨S2x256x1x4x64, .f32⟩
  | .hbm, ⟨44, _⟩ => ⟨S2x256x2x4x64, .f32⟩
  | .hbm, ⟨45, _⟩ => ⟨S2x2x4x64x256, .f32⟩
  | .hbm, ⟨46, _⟩ => ⟨S2x512x256, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]
-- ==== Kernel5.lean ====
abbrev S2x8192x1024 : Shape := ⟨3, ![2, 8192, 1024]⟩
abbrev S2x512x256 : Shape := ⟨3, ![2, 512, 256]⟩
abbrev S1024 : Shape := ⟨1, ![1024]⟩
abbrev S1024x256 : Shape := ⟨2, ![1024, 256]⟩
abbrev S256x1024 : Shape := ⟨2, ![256, 1024]⟩
abbrev S64 : Shape := ⟨1, ![64]⟩
abbrev S256x256 : Shape := ⟨2, ![256, 256]⟩
abbrev S1x2x512x256 : Shape := ⟨4, ![1, 2, 512, 256]⟩
abbrev S1x1024 : Shape := ⟨2, ![1, 1024]⟩
abbrev S1x64 : Shape := ⟨2, ![1, 64]⟩
abbrev S4x64 : Shape := ⟨2, ![4, 64]⟩
abbrev S256 : Shape := ⟨1, ![256]⟩
abbrev S1x256 : Shape := ⟨2, ![1, 256]⟩
abbrev S1x1024x1024 : Shape := ⟨3, ![1, 1024, 1024]⟩
abbrev S1x1x512x256 : Shape := ⟨4, ![1, 1, 512, 256]⟩
abbrev S1024x1024 : Shape := ⟨2, ![1024, 1024]⟩
abbrev S1024x1 : Shape := ⟨2, ![1024, 1]⟩
abbrev S1x1x64x256 : Shape := ⟨4, ![1, 1, 64, 256]⟩
abbrev S64x256 : Shape := ⟨2, ![64, 256]⟩
abbrev S1024x64 : Shape := ⟨2, ![1024, 64]⟩

abbrev nBuf : Space → Nat
  | .hbm => 16
  | .vmem => 11
  | .smem => 0
  | _ => 0

abbrev bufTy : (tb : Table) → Fin (tcTables nBuf tb) → BufTy
  | .hbm, ⟨0, _⟩ => ⟨S2x8192x1024, .f32⟩
  | .hbm, ⟨1, _⟩ => ⟨S2x512x256, .f32⟩
  | .hbm, ⟨2, _⟩ => ⟨S1024, .f32⟩
  | .hbm, ⟨3, _⟩ => ⟨S1024x256, .f32⟩
  | .hbm, ⟨4, _⟩ => ⟨S256x1024, .f32⟩
  | .hbm, ⟨5, _⟩ => ⟨S64, .f32⟩
  | .hbm, ⟨6, _⟩ => ⟨S256x256, .bf16⟩
  | .hbm, ⟨7, _⟩ => ⟨S1x2x512x256, .f32⟩
  | .hbm, ⟨8, _⟩ => ⟨S1x1024, .f32⟩
  | .hbm, ⟨9, _⟩ => ⟨S1024x256, .bf16⟩
  | .hbm, ⟨10, _⟩ => ⟨S256x1024, .bf16⟩
  | .hbm, ⟨11, _⟩ => ⟨S1x64, .f32⟩
  | .hbm, ⟨12, _⟩ => ⟨S4x64, .f32⟩
  | .hbm, ⟨13, _⟩ => ⟨S256, .f32⟩
  | .hbm, ⟨14, _⟩ => ⟨S1x256, .f32⟩
  | .hbm, ⟨15, _⟩ => ⟨S2x8192x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1x512x256, .f32⟩
  | .local _ .vmem, ⟨3, _⟩ => ⟨S1x1x512x256, .f32⟩
  | .local _ .vmem, ⟨4, _⟩ => ⟨S1x1024, .f32⟩
  | .local _ .vmem, ⟨5, _⟩ => ⟨S1024x256, .bf16⟩
  | .local _ .vmem, ⟨6, _⟩ => ⟨S256x1024, .bf16⟩
  | .local _ .vmem, ⟨7, _⟩ => ⟨S1x256, .f32⟩
  | .local _ .vmem, ⟨8, _⟩ => ⟨S256x256, .bf16⟩
  | .local _ .vmem, ⟨9, _⟩ => ⟨S1x1024x1024, .f32⟩
  | .local _ .vmem, ⟨10, _⟩ => ⟨S1x1024x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference5Ideal.lean ====
abbrev S2x8192x1024 : Shape := ⟨3, ![2, 8192, 1024]⟩
abbrev S2x512x256 : Shape := ⟨3, ![2, 512, 256]⟩
abbrev S1024 : Shape := ⟨1, ![1024]⟩
abbrev S1024x256 : Shape := ⟨2, ![1024, 256]⟩
abbrev S256x1024 : Shape := ⟨2, ![256, 1024]⟩
abbrev S64 : Shape := ⟨1, ![64]⟩
abbrev S2x2x4x64x256 : Shape := ⟨5, ![2, 2, 4, 64, 256]⟩
abbrev S2x256x2x4x64 : Shape := ⟨5, ![2, 256, 2, 4, 64]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x256 : Shape := ⟨3, ![2, 8192, 256]⟩
abbrev S2x8192x4x64 : Shape := ⟨4, ![2, 8192, 4, 64]⟩
abbrev S2x8192x4 : Shape := ⟨3, ![2, 8192, 4]⟩
abbrev S2x8192x4x1 : Shape := ⟨4, ![2, 8192, 4, 1]⟩
abbrev S1x1x1x64 : Shape := ⟨4, ![1, 1, 1, 64]⟩
abbrev S2x256x1x4x64 : Shape := ⟨5, ![2, 256, 1, 4, 64]⟩
abbrev S2x256x4x64 : Shape := ⟨4, ![2, 256, 4, 64]⟩
abbrev S2x4x8192x256 : Shape := ⟨4, ![2, 4, 8192, 256]⟩
abbrev S2x4x8192 : Shape := ⟨3, ![2, 4, 8192]⟩
abbrev S2x4x8192x1 : Shape := ⟨4, ![2, 4, 8192, 1]⟩
abbrev S2x4x64x8192 : Shape := ⟨4, ![2, 4, 64, 8192]⟩

abbrev nBuf : Space → Nat
  | .hbm => 69
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x512x256, .f32⟩
  | .hbm, ⟨2, _⟩ => ⟨S1024, .f32⟩
  | .hbm, ⟨3, _⟩ => ⟨S1024x256, .f32⟩
  | .hbm, ⟨4, _⟩ => ⟨S256x1024, .f32⟩
  | .hbm, ⟨5, _⟩ => ⟨S64, .f32⟩
  | .hbm, ⟨6, _⟩ => ⟨S2x2x4x64x256, .f32⟩
  | .hbm, ⟨7, _⟩ => ⟨S2x256x2x4x64, .f32⟩
  | .hbm, ⟨8, _⟩ => ⟨S2x8192x1024, .f32⟩
  | .hbm, ⟨9, _⟩ => ⟨S_, .f32⟩
  | .hbm, ⟨10, _⟩ => ⟨S2x8192, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S_, .f32⟩
  | .hbm, ⟨16, _⟩ => ⟨S2x8192x1, .f32⟩
  | .hbm, ⟨17, _⟩ => ⟨S2x8192x1, .f32⟩
  | .hbm, ⟨18, _⟩ => ⟨S2x8192x1, .f32⟩
  | .hbm, ⟨19, _⟩ => ⟨S2x8192x1024, .f32⟩
  | .hbm, ⟨20, _⟩ => ⟨S2x8192x1024, .f32⟩
  | .hbm, ⟨21, _⟩ => ⟨S1x1x1024, .f32⟩
  | .hbm, ⟨22, _⟩ => ⟨S2x8192x1024, .f32⟩
  | .hbm, ⟨23, _⟩ => ⟨S2x8192x1024, .f32⟩
  | .hbm, ⟨24, _⟩ => ⟨S2x8192x256, .f32⟩
  | .hbm, ⟨25, _⟩ => ⟨S2x8192x4x64, .f32⟩
  | .hbm, ⟨26, _⟩ => ⟨S2x8192x4x64, .f32⟩
  | .hbm, ⟨27, _⟩ => ⟨S_, .f32⟩
  | .hbm, ⟨28, _⟩ => ⟨S2x8192x4, .f32⟩
  | .hbm, ⟨29, _⟩ => ⟨S2x8192x4x1, .f32⟩
  | .hbm, ⟨30, _⟩ => ⟨S_, .f32⟩
  | .hbm, ⟨31, _⟩ => ⟨S2x8192x4x1, .f32⟩
  | .hbm, ⟨32, _⟩ => ⟨S2x8192x4x1, .f32⟩
  | .hbm, ⟨33, _⟩ => ⟨S_, .f32⟩
  | .hbm, ⟨34, _⟩ => ⟨S2x8192x4x1, .f32⟩
  | .hbm, ⟨35, _⟩ => ⟨S2x8192x4x1, .f32⟩
  | .hbm, ⟨36, _⟩ => ⟨S2x8192x4x1, .f32⟩
  | .hbm, ⟨37, _⟩ => ⟨S2x8192x4x64, .f32⟩
  | .hbm, ⟨38, _⟩ => ⟨S2x8192x4x64, .f32⟩
  | .hbm, ⟨39, _⟩ => ⟨S1x1x1x64, .f32⟩
  | .hbm, ⟨40, _⟩ => ⟨S2x8192x4x64, .f32⟩
  | .hbm, ⟨41, _⟩ => ⟨S2x8192x4x64, .f32⟩
  | .hbm, ⟨42, _⟩ => ⟨S2x256x1x4x64, .f32⟩
  | .hbm, ⟨43, _⟩ => ⟨S2x256x4x64, .f32⟩
  | .hbm, ⟨44, _⟩ => ⟨S2x4x8192x256, .f32⟩
  | .hbm, ⟨45, _⟩ => ⟨S_, .f32⟩
  | .hbm, ⟨46, _⟩ => ⟨S2x4x8192x256, .f32⟩
  | .hbm, ⟨47, _⟩ => ⟨S2x4x8192x256, .f32⟩
  | .hbm, ⟨48, _⟩ => ⟨S_, .f32⟩
  | .hbm, ⟨49, _⟩ => ⟨S2x4x8192, .f32⟩
  | .hbm, ⟨50, _⟩ => ⟨S_, .f32⟩
  | .hbm, ⟨51, _⟩ => ⟨S2x4x8192, .f32⟩
  | .hbm, ⟨52, _⟩ => ⟨S2x4x8192, .f32⟩
  | .hbm, ⟨53, _⟩ => ⟨S2x4x8192x1, .f32⟩
  | .hbm, ⟨54, _⟩ => ⟨S2x4x8192x256, .f32⟩
  | .hbm, ⟨55, _⟩ => ⟨S2x4x8192x256, .f32⟩
  | .hbm, ⟨56, _⟩ => ⟨S2x4x8192x256, .f32⟩
  | .hbm, ⟨57, _⟩ => ⟨S_, .f32⟩
  | .hbm, ⟨58, _⟩ => ⟨S2x4x8192, .f32⟩
  | .hbm, ⟨59, _⟩ => ⟨S2x4x8192x1, .f32⟩
  | .hbm, ⟨60, _⟩ => ⟨S2x4x8192x256, .f32⟩
  | .hbm, ⟨61, _⟩ => ⟨S2x4x8192x256, .f32⟩
  | .hbm, ⟨62, _⟩ => ⟨S2x256x1x4x64, .f32⟩
  | .hbm, ⟨63, _⟩ => ⟨S2x256x4x64, .f32⟩
  | .hbm, ⟨64, _⟩ => ⟨S2x4x64x8192, .f32⟩
  | .hbm, ⟨65, _⟩ => ⟨S2x8192x4x64, .f32⟩
  | .hbm, ⟨66, _⟩ => ⟨S2x8192x256, .f32⟩
  | .hbm, ⟨67, _⟩ => ⟨S2x8192x1024, .f32⟩
  | .hbm, ⟨68, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_8 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩

abbrev nD : Nat := 1
abbrev τ : Topo := Topo.v7x

variable {F : FTy → Type} [FloatOps F]
-- ==== Kernel6.lean ====
abbrev S2x8192x1024 : Shape := ⟨3, ![2, 8192, 1024]⟩
abbrev S1024 : Shape := ⟨1, ![1024]⟩
abbrev S1024x2688 : Shape := ⟨2, ![1024, 2688]⟩
abbrev S64 : Shape := ⟨1, ![64]⟩
abbrev S128 : Shape := ⟨1, ![128]⟩
abbrev S256x256 : Shape := ⟨2, ![256, 256]⟩
abbrev S1x1024 : Shape := ⟨2, ![1, 1024]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S1x128 : Shape := ⟨2, ![1, 128]⟩
abbrev S_ : Shape := ⟨0, ![]⟩
abbrev S512x1 : Shape := ⟨2, ![512, 1]⟩
abbrev S512x512 : Shape := ⟨2, ![512, 512]⟩
abbrev S2x8192x512 : Shape := ⟨3, ![2, 8192, 512]⟩
abbrev S2x8192x128 : Shape := ⟨3, ![2, 8192, 128]⟩
abbrev S512x16384 : Shape := ⟨2, ![512, 16384]⟩
abbrev S1x256x1024 : Shape := ⟨3, ![1, 256, 1024]⟩
abbrev S1x256x512 : Shape := ⟨3, ![1, 256, 512]⟩
abbrev S1x256x128 : Shape := ⟨3, ![1, 256, 128]⟩
abbrev S512x256 : Shape := ⟨2, ![512, 256]⟩
abbrev S8x128 : Shape := ⟨2, ![8, 128]⟩
abbrev S256x1024 : Shape := ⟨2, ![256, 1024]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩
abbrev S1024x128 : Shape := ⟨2, ![1024, 128]⟩
abbrev S256x128 : Shape := ⟨2, ![256, 128]⟩

abbrev nBuf : Space → Nat
  | .hbm => 41
  | .vmem => 26
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x2688, .f32⟩
  | .hbm, ⟨3, _⟩ => ⟨S64, .f32⟩
  | .hbm, ⟨4, _⟩ => ⟨S64, .f32⟩
  | .hbm, ⟨5, _⟩ => ⟨S128, .f32⟩
  | .hbm, ⟨6, _⟩ => ⟨S256x256, .f32⟩
  | .hbm, ⟨7, _⟩ => ⟨S1x1024, .f32⟩
  | .hbm, ⟨8, _⟩ => ⟨S1024x2688, .bf16⟩
  | .hbm, ⟨9, _⟩ => ⟨S1x64, .f32⟩
  | .hbm, ⟨10, _⟩ => ⟨S8x64, .f32⟩
  | .hbm, ⟨11, _⟩ => ⟨S512, .f32⟩
  | .hbm, ⟨12, _⟩ => ⟨S1x512, .f32⟩
  | .hbm, ⟨13, _⟩ => ⟨S1x64, .f32⟩
  | .hbm, ⟨14, _⟩ => ⟨S8x64, .f32⟩
  | .hbm, ⟨15, _⟩ => ⟨S512, .f32⟩
  | .hbm, ⟨16, _⟩ => ⟨S1x512, .f32⟩
  | .hbm, ⟨17, _⟩ => ⟨S1x128, .f32⟩
  | .hbm, ⟨18, _⟩ => ⟨S512, .i32⟩
  | .hbm, ⟨19, _⟩ => ⟨S_, .i32⟩
  | .hbm, ⟨20, _⟩ => ⟨S512, .i32⟩
  | .hbm, ⟨21, _⟩ => ⟨S512, .i32⟩
  | .hbm, ⟨22, _⟩ => ⟨S512x1, .i32⟩
  | .hbm, ⟨23, _⟩ => ⟨S1x512, .i32⟩
  | .hbm, ⟨24, _⟩ => ⟨S512x512, .i32⟩
  | .hbm, ⟨25, _⟩ => ⟨S512x512, .i32⟩
  | .hbm, ⟨26, _⟩ => ⟨S512x512, .i1⟩
  | .hbm, ⟨27, _⟩ => ⟨S_, .f32⟩
  | .hbm, ⟨28, _⟩ => ⟨S_, .f32⟩
  | .hbm, ⟨29, _⟩ => ⟨S512x512, .f32⟩
  | .hbm, ⟨30, _⟩ => ⟨S512x512, .f32⟩
  | .hbm, ⟨31, _⟩ => ⟨S512x512, .f32⟩
  | .hbm, ⟨32, _⟩ => ⟨S512x512, .bf16⟩
  | .hbm, ⟨33, _⟩ => ⟨S2x8192x512, .bf16⟩
  | .hbm, ⟨34, _⟩ => ⟨S2x8192x1024, .f32⟩
  | .hbm, ⟨35, _⟩ => ⟨S2x8192x512, .bf16⟩
  | .hbm, ⟨36, _⟩ => ⟨S2x8192x128, .f32⟩
  | .hbm, ⟨37, _⟩ => ⟨S2x8192x128, .f32⟩
  | .hbm, ⟨38, _⟩ => ⟨S2x8192x512, .f32⟩
  | .hbm, ⟨39, _⟩ => ⟨S512x16384, .bf16⟩
  | .hbm, ⟨40, _⟩ => ⟨S512x16384, .bf16⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x2688, .bf16⟩
  | .local _ .vmem, ⟨4, _⟩ => ⟨S1x512, .f32⟩
  | .local _ .vmem, ⟨5, _⟩ => ⟨S1x512, .f32⟩
  | .local _ .vmem, ⟨6, _⟩ => ⟨S1x128, .f32⟩
  | .local _ .vmem, ⟨7, _⟩ => ⟨S512x512, .bf16⟩
  | .local _ .vmem, ⟨8, _⟩ => ⟨S256x256, .f32⟩
  | .local _ .vmem, ⟨9, _⟩ => ⟨S1x256x512, .bf16⟩
  | .local _ .vmem, ⟨10, _⟩ => ⟨S1x256x512, .bf16⟩
  | .local _ .vmem, ⟨11, _⟩ => ⟨S1x256x1024, .f32⟩
  | .local _ .vmem, ⟨12, _⟩ => ⟨S1x256x1024, .f32⟩
  | .local _ .vmem, ⟨13, _⟩ => ⟨S1x256x512, .bf16⟩
  | .local _ .vmem, ⟨14, _⟩ => ⟨S1x256x512, .bf16⟩
  | .local _ .vmem, ⟨15, _⟩ => ⟨S1x256x128, .f32⟩
  | .local _ .vmem, ⟨16, _⟩ => ⟨S1x256x128, .f32⟩
  | .local _ .vmem, ⟨17, _⟩ => ⟨S1x256x128, .f32⟩
  | .local _ .vmem, ⟨18, _⟩ => ⟨S1x256x128, .f32⟩
  | .local _ .vmem, ⟨19, _⟩ => ⟨S1x256x512, .f32⟩
  | .local _ .vmem, ⟨20, _⟩ => ⟨S1x256x512, .f32⟩
  | .local _ .vmem, ⟨21, _⟩ => ⟨S512x256, .bf16⟩
  | .local _ .vmem, ⟨22, _⟩ => ⟨S512x256, .bf16⟩
  | .local _ .vmem, ⟨23, _⟩ => ⟨S512x256, .bf16⟩
  | .local _ .vmem, ⟨24, _⟩ => ⟨S512x256, .bf16⟩
  | .local _ .vmem, ⟨25, _⟩ => ⟨S8x128, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_cst_1 : Ref sig .tc := ⟨.hbm, 28, rfl⟩
abbrev main_call0_v0 : Ref sig .tc := ⟨.hbm, 29, rfl⟩
abbrev main_call0_v1 : Ref sig .tc := ⟨.hbm, 30, rfl⟩
abbrev main_v19 : Ref sig .tc := ⟨.hbm, 31, rfl⟩
abbrev main_v20 : Ref sig .tc := ⟨.hbm, 32, rfl⟩
abbrev main_v21_0 : Ref sig .tc := ⟨.hbm, 33, rfl⟩
abbrev main_v21_1 : Ref sig .tc := ⟨.hbm, 34, rfl⟩
abbrev main_v21_2 : Ref sig .tc := ⟨.hbm, 35, rfl⟩
abbrev main_v21_3 : Ref sig .tc := ⟨.hbm, 36, rfl⟩
abbrev main_v21_4 : Ref sig .tc := ⟨.hbm, 37, rfl⟩
abbrev main_v21_5 : Ref sig .tc := ⟨.hbm, 38, rfl⟩
abbrev main_v21_6 : Ref sig .tc := ⟨.hbm, 39, rfl⟩
abbrev main_v21_7 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![c0_i32.toNat, v1.toNat]

def cc0_transform_15 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2688 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S512x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Reference6Ideal.lean ====
abbrev S2x8192x1024 : Shape := ⟨3, ![2, 8192, 1024]⟩
abbrev S1024 : Shape := ⟨1, ![1024]⟩
abbrev S1024x2688 : Shape := ⟨2, ![1024, 2688]⟩
abbrev S64 : Shape := ⟨1, ![64]⟩
abbrev S128 : Shape := ⟨1, ![128]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x2688 : Shape := ⟨3, ![2, 8192, 2688]⟩
abbrev S2x8192x512 : Shape := ⟨3, ![2, 8192, 512]⟩
abbrev S2x8192x8x64 : Shape := ⟨4, ![2, 8192, 8, 64]⟩
abbrev S2x8192x8 : Shape := ⟨3, ![2, 8192, 8]⟩
abbrev S2x8192x8x1 : Shape := ⟨4, ![2, 8192, 8, 1]⟩
abbrev S1x1x1x64 : Shape := ⟨4, ![1, 1, 1, 64]⟩
abbrev S2x8192x128 : Shape := ⟨3, ![2, 8192, 128]⟩
abbrev S1x1x128 : Shape := ⟨3, ![1, 1, 128]⟩
abbrev S16384x512 : Shape := ⟨2, ![16384, 512]⟩
abbrev S512x16384 : Shape := ⟨2, ![512, 16384]⟩

abbrev nBuf : Space → Nat
  | .hbm => 105
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x2688, .f32⟩
  | .hbm, ⟨3, _⟩ => ⟨S64, .f32⟩
  | .hbm, ⟨4, _⟩ => ⟨S64, .f32⟩
  | .hbm, ⟨5, _⟩ => ⟨S128, .f32⟩
  | .hbm, ⟨6, _⟩ => ⟨S2x8192x1024, .f32⟩
  | .hbm, ⟨7, _⟩ => ⟨S_, .f32⟩
  | .hbm, ⟨8, _⟩ => ⟨S2x8192, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S_, .f32⟩
  | .hbm, ⟨14, _⟩ => ⟨S2x8192x1, .f32⟩
  | .hbm, ⟨15, _⟩ => ⟨S2x8192x1, .f32⟩
  | .hbm, ⟨16, _⟩ => ⟨S2x8192x1, .f32⟩
  | .hbm, ⟨17, _⟩ => ⟨S2x8192x1024, .f32⟩
  | .hbm, ⟨18, _⟩ => ⟨S2x8192x1024, .f32⟩
  | .hbm, ⟨19, _⟩ => ⟨S1x1x1024, .f32⟩
  | .hbm, ⟨20, _⟩ => ⟨S2x8192x1024, .f32⟩
  | .hbm, ⟨21, _⟩ => ⟨S2x8192x1024, .f32⟩
  | .hbm, ⟨22, _⟩ => ⟨S2x8192x2688, .f32⟩
  | .hbm, ⟨23, _⟩ => ⟨S2x8192x512, .f32⟩
  | .hbm, ⟨24, _⟩ => ⟨S2x8192x512, .f32⟩
  | .hbm, ⟨25, _⟩ => ⟨S2x8192x512, .f32⟩
  | .hbm, ⟨26, _⟩ => ⟨S2x8192x8x64, .f32⟩
  | .hbm, ⟨27, _⟩ => ⟨S2x8192x8x64, .f32⟩
  | .hbm, ⟨28, _⟩ => ⟨S_, .f32⟩
  | .hbm, ⟨29, _⟩ => ⟨S2x8192x8, .f32⟩
  | .hbm, ⟨30, _⟩ => ⟨S2x8192x8x1, .f32⟩
  | .hbm, ⟨31, _⟩ => ⟨S_, .f32⟩
  | .hbm, ⟨32, _⟩ => ⟨S2x8192x8x1, .f32⟩
  | .hbm, ⟨33, _⟩ => ⟨S2x8192x8x1, .f32⟩
  | .hbm, ⟨34, _⟩ => ⟨S_, .f32⟩
  | .hbm, ⟨35, _⟩ => ⟨S2x8192x8x1, .f32⟩
  | .hbm, ⟨36, _⟩ => ⟨S2x8192x8x1, .f32⟩
  | .hbm, ⟨37, _⟩ => ⟨S2x8192x8x1, .f32⟩
  | .hbm, ⟨38, _⟩ => ⟨S2x8192x8x64, .f32⟩
  | .hbm, ⟨39, _⟩ => ⟨S2x8192x8x64, .f32⟩
  | .hbm, ⟨40, _⟩ => ⟨S1x1x1x64, .f32⟩
  | .hbm, ⟨41, _⟩ => ⟨S2x8192x8x64, .f32⟩
  | .hbm, ⟨42, _⟩ => ⟨S2x8192x8x64, .f32⟩
  | .hbm, ⟨43, _⟩ => ⟨S2x8192x512, .f32⟩
  | .hbm, ⟨44, _⟩ => ⟨S_, .f32⟩
  | .hbm, ⟨45, _⟩ => ⟨S2x8192x512, .f32⟩
  | .hbm, ⟨46, _⟩ => ⟨S2x8192x512, .f32⟩
  | .hbm, ⟨47, _⟩ => ⟨S2x8192x8x64, .f32⟩
  | .hbm, ⟨48, _⟩ => ⟨S2x8192x8x64, .f32⟩
  | .hbm, ⟨49, _⟩ => ⟨S_, .f32⟩
  | .hbm, ⟨50, _⟩ => ⟨S2x8192x8, .f32⟩
  | .hbm, ⟨51, _⟩ => ⟨S2x8192x8x1, .f32⟩
  | .hbm, ⟨52, _⟩ => ⟨S_, .f32⟩
  | .hbm, ⟨53, _⟩ => ⟨S2x8192x8x1, .f32⟩
  | .hbm, ⟨54, _⟩ => ⟨S2x8192x8x1, .f32⟩
  | .hbm, ⟨55, _⟩ => ⟨S_, .f32⟩
  | .hbm, ⟨56, _⟩ => ⟨S2x8192x8x1, .f32⟩
  | .hbm, ⟨57, _⟩ => ⟨S2x8192x8x1, .f32⟩
  | .hbm, ⟨58, _⟩ => ⟨S2x8192x8x1, .f32⟩
  | .hbm, ⟨59, _⟩ => ⟨S2x8192x8x64, .f32⟩
  | .hbm, ⟨60, _⟩ => ⟨S2x8192x8x64, .f32⟩
  | .hbm, ⟨61, _⟩ => ⟨S1x1x1x64, .f32⟩
  | .hbm, ⟨62, _⟩ => ⟨S2x8192x8x64, .f32⟩
  | .hbm, ⟨63, _⟩ => ⟨S2x8192x8x64, .f32⟩
  | .hbm, ⟨64, _⟩ => ⟨S2x8192x512, .f32⟩
  | .hbm, ⟨65, _⟩ => ⟨S2x8192x128, .f32⟩
  | .hbm, ⟨66, _⟩ => ⟨S1x1x128, .f32⟩
  | .hbm, ⟨67, _⟩ => ⟨S2x8192x128, .f32⟩
  | .hbm, ⟨68, _⟩ => ⟨S2x8192x128, .f32⟩
  | .hbm, ⟨69, _⟩ => ⟨S2x8192x128, .f32⟩
  | .hbm, ⟨70, _⟩ => ⟨S_, .f32⟩
  | .hbm, ⟨71, _⟩ => ⟨S2x8192x128, .f32⟩
  | .hbm, ⟨72, _⟩ => ⟨S2x8192x128, .f32⟩
  | .hbm, ⟨73, _⟩ => ⟨S2x8192x128, .f32⟩
  | .hbm, ⟨74, _⟩ => ⟨S2x8192x128, .f32⟩
  | .hbm, ⟨75, _⟩ => ⟨S2x8192x128, .i1⟩
  | .hbm, ⟨76, _⟩ => ⟨S2x8192x128, .f32⟩
  | .hbm, ⟨77, _⟩ => ⟨S2x8192x128, .f32⟩
  | .hbm, ⟨78, _⟩ => ⟨S2x8192x128, .f32⟩
  | .hbm, ⟨79, _⟩ => ⟨S2x8192x128, .f32⟩
  | .hbm, ⟨80, _⟩ => ⟨S2x8192x128, .f32⟩
  | .hbm, ⟨81, _⟩ => ⟨S2x8192x128, .f32⟩
  | .hbm, ⟨82, _⟩ => ⟨S2x8192x128, .f32⟩
  | .hbm, ⟨83, _⟩ => ⟨S2x8192x128, .f32⟩
  | .hbm, ⟨84, _⟩ => ⟨S2x8192x128, .f32⟩
  | .hbm, ⟨85, _⟩ => ⟨S2x8192x512, .f32⟩
  | .hbm, ⟨86, _⟩ => ⟨S2x8192x512, .f32⟩
  | .hbm, ⟨87, _⟩ => ⟨S2x8192x512, .f32⟩
  | .hbm, ⟨88, _⟩ => ⟨S2x8192x512, .f32⟩
  | .hbm, ⟨89, _⟩ => ⟨S_, .f32⟩
  | .hbm, ⟨90, _⟩ => ⟨S2x8192x512, .f32⟩
  | .hbm, ⟨91, _⟩ => ⟨S2x8192x512, .f32⟩
  | .hbm, ⟨92, _⟩ => ⟨S_, .f32⟩
  | .hbm, ⟨93, _⟩ => ⟨S2x8192x512, .f32⟩
  | .hbm, ⟨94, _⟩ => ⟨S2x8192x512, .f32⟩
  | .hbm, ⟨95, _⟩ => ⟨S2x8192x512, .f32⟩
  | .hbm, ⟨96, _⟩ => ⟨S2x8192x512, .bf16⟩
  | .hbm, ⟨97, _⟩ => ⟨S2x8192x1024, .f32⟩
  | .hbm, ⟨98, _⟩ => ⟨S2x8192x512, .bf16⟩
  | .hbm, ⟨99, _⟩ => ⟨S2x8192x512, .bf16⟩
  | .hbm, ⟨100, _⟩ => ⟨S16384x512, .bf16⟩
  | .hbm, ⟨101, _⟩ => ⟨S512x16384, .bf16⟩
  | .hbm, ⟨102, _⟩ => ⟨S2x8192x512, .bf16⟩
  | .hbm, ⟨103, _⟩ => ⟨S16384x512, .bf16⟩
  | .hbm, ⟨104, _⟩ => ⟨S512x16384, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_call0_v0 : Ref sig .tc := ⟨.hbm, 69, rfl⟩
abbrev main_call0_call0_cst : Ref sig .tc := ⟨.hbm, 70, rfl⟩
abbrev main_call0_call0_v0 : Ref sig .tc := ⟨.hbm, 71, rfl⟩
abbrev main_call0_call0_v1 : Ref sig .tc := ⟨.hbm, 72, rfl⟩
abbrev main_call0_call0_v2 : Ref sig .tc := ⟨.hbm, 73, rfl⟩
abbrev main_call0_call0_v3 : Ref sig .tc := ⟨.hbm, 74, rfl⟩
abbrev main_call0_call0_v4 : Ref sig .tc := ⟨.hbm, 75, rfl⟩
abbrev main_call0_call0_v5 : Ref sig .tc := ⟨.hbm, 76, rfl⟩
abbrev main_call0_call0_v6 : Ref sig .tc := ⟨.hbm, 77, rfl⟩
abbrev main_call0_call0_v7 : Ref sig .tc := ⟨.hbm, 78, rfl⟩
abbrev main_call0_call0_v8 : Ref sig .tc := ⟨.hbm, 79, rfl⟩
abbrev main_call0_call0_v9 : Ref sig .tc := ⟨.hbm, 80, rfl⟩
abbrev main_call0_call0_v10 : Ref sig .tc := ⟨.hbm, 81, rfl⟩
abbrev main_call0_call0_v11 : Ref sig .tc := ⟨.hbm, 82, rfl⟩
abbrev main_call0_v1 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_9 : Ref sig .tc := ⟨.hbm, 89, rfl⟩
abbrev main_v58 : Ref sig .tc := ⟨.hbm, 90, rfl⟩
abbrev main_v59 : Ref sig .tc := ⟨.hbm, 91, rfl⟩
abbrev main_cst_10 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩

abbrev nD : Nat := 1
abbrev τ : Topo := Topo.v7x

variable {F : FTy → Type} [FloatOps F]
-- ==== Proof.Array.lean ====
/- What the kernel's result array holds after the run, in terms of what each grid point leaves behind. -/
module

public import proofs.«01_k».proof.Proof.Gen.KernelIdeal.Frame
public import Idealize.ShloMosaic.Lib.Pipeline.Value
public import Idealize.ShloMosaic.Lib.Pointwise

@[expose] public section

set_option maxRecDepth 16384

noncomputable section

namespace Cert.KernelIdeal.Array

open Idealize.ShloMosaic Cert.KernelIdeal Cert.KernelIdeal.Gen Idealize.ShloMosaic.TcCoe Idealize.SL.Sem

variable (m : (ℓ : Loc nD τ sig) → Buf (Elt Ideal) ℓ) (ρ : Dev nD → PrngReg)

/-- The grid point of sequence `b`, query block `q` and key tile `k`. -/
def point (b : Fin 2) (q : Fin 16) (k : Fin 8) : Fin cfg0.N :=
  ⟨8 * (16 * b.val + q.val) + k.val, lt_of_lt_of_eq (by omega) N_0.symm⟩

/-- The query block a row of the result lies in, and its place there. -/
def blockOf (r : Fin 8192) : Fin 16 := ⟨r.val / 512, by omega⟩
def rowOf (r : Fin 8192) : Fin 512 := ⟨r.val % 512, by omega⟩

/-- The result array: row `r` of sequence `b` is what the last point of its query block leaves in the output block. -/
def result (c : Dev nD) : Buf (Elt Ideal) ((c : Thread nD τ).loc main_v2) := fun i =>
  (outsAt0 m c (point (i 0) (blockOf (i 1)) 7).val (point (i 0) (blockOf (i 1)) 7).isLt).1 (ix3 0 (rowOf (i 1)) (i 2))

/-- Which block of the result a point writes. -/
theorem index5 : ∀ t : Fin cfg0.N, win0_5.index t (0 : Fin 3) = t.val / 128 ∧ win0_5.index t (1 : Fin 3) = t.val / 8 % 16
    ∧ win0_5.index t (2 : Fin 3) = 0 :=
  (by decide +kernel : ∀ t : Fin grid0.N, _)

/-- The last point of every query block writes its block back. -/
theorem flush_last : ∀ (b : Fin 2) (q : Fin 16), (cfg0.win 5).flush (point b q 7) = true := fun b q =>
  (flush0_5 (point b q 7)).mpr (by show (8 * (16 * b.val + q.val) + 7) % 8 = 7; omega)

/-- A point that writes back writes its block of `result`. -/
theorem flushed (c : Dev nD) (t : Fin cfg0.N) (hf : (cfg0.win 5).flush t = true) :
    (dats m 0 c).flushed 5 t = ((cfg0.win 5).blk t).view.read (Elt Ideal) (result m c) := by
  show (cfg0.win 5).cut (grid0.coords t) ((dats m 0 c).after 5 t) = _
  rw [after0_5]
  have hm : t.val % 8 = 7 := (flush0_5 t).mp hf
  have hN : t.val < 256 := lt_of_lt_of_eq t.isLt N_0
  obtain ⟨e0, e1, e2⟩ := index5 t
  funext y
  have hy0 : (y 0).val < 1 := (y 0).isLt
  have hy1 : (y 1).val < 512 := (y 1).isLt
  have b0 : (((cfg0.win 5).blk t).view.emb y 0).val = win0_5.index t (0 : Fin 3) * 1 + 1 * (y 0).val := rfl
  have b1 : (((cfg0.win 5).blk t).view.emb y 1).val = win0_5.index t (1 : Fin 3) * 512 + 1 * (y 1).val := rfl
  have b2 : (((cfg0.win 5).blk t).view.emb y 2).val = win0_5.index t (2 : Fin 3) * 512 + 1 * (y 2).val := rfl
  rw [e0] at b0; rw [e1] at b1; rw [e2] at b2
  have hp : ∀ i : S2x8192x512.Idx, (i 0).val = t.val / 128 * 1 + 1 * (y 0).val → (i 1).val = t.val / 8 % 16 * 512 + 1 * (y 1).val →
      (i 2).val = 0 * 512 + 1 * (y 2).val →
      (outsAt0 m c t.val t.isLt).1 ((cfg0.win 5).xinj (grid0.coords t) y) = result m c i := by
    intro i h0 h1 h2
    have ht : t = point (i 0) (blockOf (i 1)) 7 := Fin.ext (by
      show t.val = 8 * (16 * (i 0).val + (i 1).val / 512) + 7
      rw [h0, h1]; omega)
    have hl : (cfg0.win 5).xinj (grid0.coords t) y = (ix3 (n0 := 1) (n1 := 512) (n2 := 512) 0 (rowOf (i 1)) (i 2)) := by
      funext a; apply Fin.ext
      match a with
      | ⟨0, _⟩ => show (y 0).val = 0; omega
      | ⟨1, _⟩ => show (y 1).val = (i 1).val % 512; rw [h1]; omega
      | ⟨2, _⟩ => show (y 2).val = (i 2).val; rw [h2]; omega
    rw [hl]
    exact congrArg (fun u : Fin cfg0.N => (outsAt0 m c u.val u.isLt).1 (ix3 (n0 := 1) (n1 := 512) (n2 := 512) 0 (rowOf (i 1)) (i 2))) ht
  exact hp _ b0 b1 b2

/-- Every index lies in some block written back. -/
theorem covered (i : S2x8192x512.Idx) : ∃ t : Fin cfg0.N, (cfg0.win 5).flush t = true ∧ i ∈ ((cfg0.win 5).blk t).view.set := by
  have h0 : (i 0).val < 2 := (i 0).isLt
  have h1 : (i 1).val < 8192 := (i 1).isLt
  have h2 : (i 2).val < 512 := (i 2).isLt
  refine ⟨point (i 0) (blockOf (i 1)) 7, flush_last _ _, ?_⟩
  obtain ⟨e0, e1, e2⟩ := index5 (point (i 0) (blockOf (i 1)) 7)
  have ev : (point (i 0) (blockOf (i 1)) 7).val = 8 * (16 * (i 0).val + (i 1).val / 512) + 7 := rfl
  rw [ev] at e0 e1
  generalize point (i 0) (blockOf (i 1)) 7 = t at *
  show i ∈ ((View.whole main_v2).slice (win0_5.rect t)).set
  rw [View.set_slice_whole, Rect.mem_set_unit]
  intro a
  match a with
  | ⟨0, _⟩ => show win0_5.index t (0 : Fin 3) * 1 ≤ (i 0).val ∧ (i 0).val < win0_5.index t (0 : Fin 3) * 1 + 1; rw [e0]; omega
  | ⟨1, _⟩ => show win0_5.index t (1 : Fin 3) * 512 ≤ (i 1).val ∧ (i 1).val < win0_5.index t (1 : Fin 3) * 512 + 512; rw [e1]; omega
  | ⟨2, _⟩ => show win0_5.index t (2 : Fin 3) * 512 ≤ (i 2).val ∧ (i 2).val < win0_5.index t (2 : Fin 3) * 512 + 512; rw [e2]; omega

/-- The kernel's run ends with `result` in its result array and its arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
    ⟨((h c).1 5).trans ((dats m 0 c).arrAt_eq_of_cover 5 _ (fun t hf => flushed m c t hf) covered),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c)⟩)
    (run_main m ρ)

end Cert.KernelIdeal.Array

end
-- ==== Proof.Head.lean ====
/- What the kernel body computes for ONE head on one tile of 1024 keys and 512 queries, read element by element:
   the scores, the new largest score, the weights, the new summed weights and the new summed values. Keys run down
   a tile's rows, queries along its columns. Every head and every case of the body is an instance of these. -/
module

public import proofs.«01_k».proof.Proof.Gen.KernelIdeal.Skeleton
public import Idealize.ShloMosaic.Lib.Pointwise
public import Idealize.ShloMosaic.Lib.WordCmp

@[expose] public section

noncomputable section

namespace Cert.KernelIdeal.Head

open Idealize.ShloMosaic Cert.KernelIdeal Cert.KernelIdeal.Gen

/-- The scores of one head: keys times queries, plus the query's gate sum, minus the key's. -/
def scores (kb : Vec Ideal S1x1024x64 .bf16) (q : Vec Ideal S64x512 .bf16) (cq : Vec Ideal S1x1x512 .f32)
    (ck : Vec Ideal S1x1024x1 .f32) : FVec Ideal S1024x512 .f32 :=
  subf (addf (matmul (φ₁ := .bf16) (φ₂ := .bf16) dot_S1024x64_S64x512_S1024x512_1_0_0_1_n_n none (shapeCast S1024x64 kb shapeCasts_S1x1024x64_S1024x64)
      q (constant S1024x512 .f32 0x00000000#32))
    (broadcastTo S1024x512 (shapeCast S1x512 cq shapeCasts_S1x1x512_S1x512) broadcasts_S1x512_S1024x512))
    (broadcastTo S1024x512 (shapeCast S1024x1 ck shapeCasts_S1x1024x1_S1024x1) broadcasts_S1024x1_S1024x512)

/-- The largest score of each query so far. -/
def level (s : FVec Ideal S1024x512 .f32) (r : Vec Ideal S1x512 .f32) : FVec Ideal S1x512 .f32 :=
  maximumf r (shapeCast S1x512 (multiReduction .maximumf [0] S512 s 0xFF800000#32 reduces_S1024x512_S512 (.inl rfl) rfl) shapeCasts_S512_S1x512)

/-- The weights of the tile's keys, from the new largest score. -/
def weights (s : FVec Ideal S1024x512 .f32) (r : Vec Ideal S1x512 .f32) : FVec Ideal S1024x512 .f32 :=
  exp (subf s (broadcastTo S1024x512 (level s r) broadcasts_S1x512_S1024x512))

/-- The factor that brings the old sums to the new largest score. -/
def fade (s : FVec Ideal S1024x512 .f32) (r : Vec Ideal S1x512 .f32) : FVec Ideal S1x512 .f32 :=
  exp (subf r (level s r))

/-- The new row of largest scores, as stored. -/
def levelRow (s : FVec Ideal S1024x512 .f32) (r : Vec Ideal S1x512 .f32) : FVec Ideal S1x512 .f32 :=
  shapeCast S1x512 (level s r) shapeCasts_S1x512_S1x512

/-- The new row of summed weights, as stored. -/
def massRow (s : FVec Ideal S1024x512 .f32) (r l : Vec Ideal S1x512 .f32) : FVec Ideal S1x512 .f32 :=
  shapeCast S1x512 (addf (mulf (fade s r) l)
    (shapeCast S1x512 (multiReduction .add [0] S512 (weights s r) 0x00000000#32 reduces_S1024x512_S512 (.inl rfl) rfl) shapeCasts_S512_S1x512))
    shapeCasts_S1x512_S1x512

/-- The new slab of summed values, as stored. -/
def loadSlab (s : FVec Ideal S1024x512 .f32) (r : Vec Ideal S1x512 .f32) (a : Vec Ideal S64x512 .f32) (v : Vec Ideal S64x1024 .bf16) :
    FVec Ideal S64x512 .f32 :=
  shapeCast S64x512 (addf (mulf (broadcastTo S64x512 (fade s r) broadcasts_S1x512_S64x512) a)
    (matmul (φ₁ := .bf16) (φ₂ := .bf16) dot_S64x1024_S1024x512_S64x512_1_0_0_1_n_n none v (truncf .bf16 (weights s r) bitsLt_bf16_f32)
      (constant S64x512 .f32 0x00000000#32))) shapeCasts_S64x512_S64x512

/-- The finished slab: the summed values over the summed weights, floored. -/
def quotSlab (a : Vec Ideal S64x512 .f32) (l : Vec Ideal S1x512 .f32) : FVec Ideal S64x512 .f32 :=
  shapeCast S64x512 (divf a (broadcastTo S64x512 (maximumf l (broadcast S1x512 (Scalar.ofBits .f32 0x0DA24260#32)))
    broadcasts_S1x512_S64x512)) shapeCasts_S64x512_S64x512

theorem scores_apply (kb : Vec Ideal S1x1024x64 .bf16) (q : Vec Ideal S64x512 .bf16) (cq : Vec Ideal S1x1x512 .f32)
    (ck : Vec Ideal S1x1024x1 .f32) (j : Fin 1024) (t : Fin 512) :
    scores kb q cq ck (ix2 j t)
      = ((∑ d : Fin 64, kb (ix3 0 j d) * q (ix2 d t)) + cq (ix3 0 0 t)) - ck (ix3 0 j 0) := by
  unfold scores
  pointwise

/-- The bits a running maximum starts from read as ⊥. -/
theorem floor_bits : Ideal.ofBits .f32 0xFF800000#32 = ⊥ := by
  simp [Ideal.ofBits, Ideal.ieee]

/-- The named mask reads as ⊥. -/
theorem mask_bot : (Named.named κ "mask" 0xF149F2CA#32 : Ideal .f32) = ⊥ :=
  IdealRules.named_const.ideal_named_scalar _ _ _ _ rfl

theorem level_apply (s : FVec Ideal S1024x512 .f32) (r : Vec Ideal S1x512 .f32) (t : Fin 512) :
    level s r (ix2 0 t) = max (r (ix2 0 t)) ((Finset.univ : Finset (Fin 1024)).fold max ⊥ fun j => s (ix2 j t)) := by
  unfold level
  pointwise
  rw [floor_bits]

theorem weights_apply (s : FVec Ideal S1024x512 .f32) (r : Vec Ideal S1x512 .f32) (j : Fin 1024) (t : Fin 512) :
    weights s r (ix2 j t) = Ideal.exp (s (ix2 j t) - level s r (ix2 0 t)) := by
  unfold weights
  pointwise

theorem fade_apply (s : FVec Ideal S1024x512 .f32) (r : Vec Ideal S1x512 .f32) (t : Fin 512) :
    fade s r (ix2 0 t) = Ideal.exp (r (ix2 0 t) - level s r (ix2 0 t)) := by
  unfold fade
  pointwise

theorem levelRow_apply (s : FVec Ideal S1024x512 .f32) (r : Vec Ideal S1x512 .f32) (t : Fin 512) :
    levelRow s r (ix2 0 t) = level s r (ix2 0 t) := by
  unfold levelRow
  rw [shapeCast_self]

theorem massRow_apply (s : FVec Ideal S1024x512 .f32) (r l : Vec Ideal S1x512 .f32) (t : Fin 512) :
    massRow s r l (ix2 0 t) = Ideal.exp (r (ix2 0 t) - level s r (ix2 0 t)) * l (ix2 0 t)
      + ∑ j : Fin 1024, Ideal.exp (s (ix2 j t) - level s r (ix2 0 t)) := by
  unfold massRow
  rw [shapeCast_self]
  pointwise [fade_apply, weights_apply]

theorem loadSlab_apply (s : FVec Ideal S1024x512 .f32) (r : Vec Ideal S1x512 .f32) (a : Vec Ideal S64x512 .f32)
    (v : Vec Ideal S64x1024 .bf16) (d : Fin 64) (t : Fin 512) :
    loadSlab s r a v (ix2 d t) = Ideal.exp (r (ix2 0 t) - level s r (ix2 0 t)) * a (ix2 d t)
      + ∑ j : Fin 1024, v (ix2 d j) * Ideal.exp (s (ix2 j t) - level s r (ix2 0 t)) := by
  unfold loadSlab
  rw [shapeCast_self]
  pointwise [fade_apply, weights_apply]

theorem quotSlab_apply (a : Vec Ideal S64x512 .f32) (l : Vec Ideal S1x512 .f32) (d : Fin 64) (t : Fin 512) :
    quotSlab a l (ix2 d t) = Ideal.div (a (ix2 d t)) (max (l (ix2 0 t)) (Ideal.ofBits .f32 0x0DA24260#32)) := by
  unfold quotSlab
  rw [shapeCast_self]
  pointwise

/-- What the last tile of a query block adds to a score: nothing where the key does not come after the query, ⊥ where it does. -/
theorem mask_apply (a b : ℕ) (ha : a < 16) (hb : b < 8) (j : Fin 1024) (t : Fin 512) :
    k0_pay72 (F := Ideal) (BitVec.ofNat 32 a) (BitVec.ofNat 32 b) (ix2 j t)
      = if 1024 * b + j.val ≤ 512 * a + t.val then 0 else ⊥ := by
  unfold k0_pay72
  pointwise
  have hj := j.isLt
  have ht := t.isLt
  have e1 : IntOp.addi (Scalar.muli (BitVec.ofNat 32 b) 1024#32) (BitVec.ofNat 32 j.val) = BitVec.ofNat 32 (1024 * b + j.val) := by
    show BitVec.ofNat 32 b * BitVec.ofNat 32 1024 + BitVec.ofNat 32 j.val = _
    rw [← BitVec.ofNat_mul, ← BitVec.ofNat_add, Nat.mul_comm]
  have e2 : IntOp.addi (Scalar.muli (BitVec.ofNat 32 a) 512#32) (BitVec.ofNat 32 t.val) = BitVec.ofNat 32 (512 * a + t.val) := by
    show BitVec.ofNat 32 a * BitVec.ofNat 32 512 + BitVec.ofNat 32 t.val = _
    rw [← BitVec.ofNat_mul, ← BitVec.ofNat_add, Nat.mul_comm]
  rw [e1, e2, mask_bot, WordCmp.cmpi_sle_ofNat (by omega) (by omega)]
  by_cases h : 1024 * b + j.val ≤ 512 * a + t.val
  · simp [h, Scalar.select]
  · simp [h, Scalar.select]

end Cert.KernelIdeal.Head

end
-- ==== Proof.SoftmaxMath.lean ====
/- The arithmetic of a softmax taken a tile of keys at a time, over the extended reals. No program is
   mentioned here: `s j` is the score of key `j` for one query (⊥ for a key the query may not see),
   `v j` one component of the value of key `j`. -/
module

public import Idealize.ShloMosaic.PureOps.Ideal

@[expose] public section

noncomputable section

namespace Cert.Softmax

open Idealize.ShloMosaic

/-- The largest of the first `n` scores. -/
def top (s : ℕ → EReal) (n : ℕ) : EReal := (Finset.range n).sup s

/-- The weights of the first `n` keys, measured from their largest score, summed. -/
def mass (s : ℕ → EReal) (n : ℕ) : EReal := ∑ j ∈ Finset.range n, Ideal.exp (s j - top s n)

/-- The values of the first `n` keys, each times its weight, summed. -/
def load (s v : ℕ → EReal) (n : ℕ) : EReal := ∑ j ∈ Finset.range n, v j * Ideal.exp (s j - top s n)

theorem exp_nonneg (x : EReal) : 0 ≤ Ideal.exp x := by
  induction x using EReal.rec with
  | bot => simp
  | top => simp
  | coe r => simpa using (Real.exp_pos r).le

theorem exp_le_one {x : EReal} (h : x ≤ 0) : Ideal.exp x ≤ 1 := by
  induction x using EReal.rec with
  | bot => simp
  | top => simp at h
  | coe r =>
    have h' : r ≤ 0 := by exact_mod_cast h
    rw [Ideal.exp_coe]
    exact_mod_cast Real.exp_le_one_iff.mpr h'

/-- A number no larger than another, minus it, is at most zero — at the infinities too. -/
theorem sub_le_zero {a b : EReal} (h : a ≤ b) : a - b ≤ 0 := by
  induction b using EReal.rec with
  | bot => simp [le_bot_iff.mp h]
  | top => simp
  | coe b =>
    induction a using EReal.rec with
    | bot => simp
    | top => simp at h
    | coe a =>
      have : a ≤ b := by exact_mod_cast h
      rw [← EReal.coe_sub]
      exact_mod_cast sub_nonpos.mpr this

theorem exp_sub_ne_top {a b : EReal} (h : a ≤ b) : Ideal.exp (a - b) ≠ ⊤ := fun e => by
  have := exp_le_one (sub_le_zero h)
  rw [e] at this
  exact absurd (top_le_iff.mp this) (EReal.coe_ne_top 1)

/-- Moving the level a weight is measured from: `exp (a − b) · exp (s − a) = exp (s − b)` whenever `s ≤ a ≤ b`, with
    no finiteness asked (at an infinite level both sides are zero). -/
theorem rescale {s a b : EReal} (hs : s ≤ a) (hab : a ≤ b) :
    Ideal.exp (a - b) * Ideal.exp (s - a) = Ideal.exp (s - b) := by
  induction b using EReal.rec with
  | bot =>
    obtain rfl := le_bot_iff.mp hab
    obtain rfl := le_bot_iff.mp hs
    simp
  | top => simp
  | coe b =>
    induction a using EReal.rec with
    | bot =>
      obtain rfl := le_bot_iff.mp hs
      simp
    | top => simp at hab
    | coe a =>
      induction s using EReal.rec with
      | bot => simp
      | top => simp at hs
      | coe s =>
        rw [← EReal.coe_sub, ← EReal.coe_sub, ← EReal.coe_sub, Ideal.exp_coe, Ideal.exp_coe, Ideal.exp_coe,
          ← EReal.coe_mul, ← Real.exp_add]
        congr 2
        ring

/-- A factor that is not negative and not infinite distributes over a finite sum. -/
theorem mul_sum {ι : Type*} (t : Finset ι) (f : ι → EReal) {c : EReal} (h0 : 0 ≤ c) (h1 : c ≠ ⊤) :
    c * ∑ j ∈ t, f j = ∑ j ∈ t, c * f j := by
  classical
  induction t using Finset.induction_on with
  | empty => simp
  | insert a t ha ih => rw [Finset.sum_insert ha, Finset.sum_insert ha, EReal.left_distrib_of_nonneg_of_ne_top h0 h1, ih]

theorem le_top (s : ℕ → EReal) {n j : ℕ} (h : j < n) : s j ≤ top s n := Finset.le_sup (Finset.mem_range.mpr h)

theorem top_mono (s : ℕ → EReal) {n n' : ℕ} (h : n ≤ n') : top s n ≤ top s n' :=
  Finset.sup_mono (Finset.range_mono h)

@[simp] theorem top_zero (s : ℕ → EReal) : top s 0 = ⊥ := rfl
@[simp] theorem mass_zero (s : ℕ → EReal) : mass s 0 = 0 := rfl
@[simp] theorem load_zero (s v : ℕ → EReal) : load s v 0 = 0 := rfl

/-- The largest score, a tile of `m` keys further on. -/
theorem top_add (s : ℕ → EReal) (n m : ℕ) :
    top s (n + m) = max (top s n) ((Finset.univ : Finset (Fin m)).fold max ⊥ fun j : Fin m => s (n + j.val)) := by
  show _ = top s n ⊔ (Finset.univ : Finset (Fin m)).sup fun j : Fin m => s (n + j.val)
  refine le_antisymm (Finset.sup_le fun j hj => ?_) (sup_le (top_mono s (Nat.le_add_right n m)) (Finset.sup_le fun j _ => ?_))
  · have hj' := Finset.mem_range.mp hj
    by_cases h : j < n
    · exact (le_top s h).trans le_sup_left
    · refine le_trans ?_ le_sup_right
      have e : s j = (fun i : Fin m => s (n + i)) ⟨j - n, by omega⟩ := by
        show s j = s (n + (j - n)); congr 1; omega
      rw [e]
      exact Finset.le_sup (f := fun i : Fin m => s (n + i)) (Finset.mem_univ _)
  · exact le_top s (by omega)

/-- The summed values, a tile further on: what was summed is rescaled to the new level and the tile's is added. -/
theorem load_add (s v : ℕ → EReal) (n m : ℕ) :
    load s v (n + m) = Ideal.exp (top s n - top s (n + m)) * load s v n
      + ∑ j : Fin m, v (n + j) * Ideal.exp (s (n + j) - top s (n + m)) := by
  have hle := top_mono s (Nat.le_add_right n m)
  unfold load
  rw [Finset.sum_range_add, mul_sum _ _ (exp_nonneg _) (exp_sub_ne_top hle),
    Finset.sum_range fun j => v (n + j) * Ideal.exp (s (n + j) - top s (n + m))]
  congr 1
  refine Finset.sum_congr rfl fun j hj => ?_
  rw [← rescale (le_top s (Finset.mem_range.mp hj)) hle, mul_left_comm]

theorem mass_eq_load (s : ℕ → EReal) (n : ℕ) : mass s n = load s (fun _ => 1) n := by
  unfold mass load; exact Finset.sum_congr rfl fun j _ => (one_mul _).symm

/-- The summed weights, a tile further on. -/
theorem mass_add (s : ℕ → EReal) (n m : ℕ) :
    mass s (n + m) = Ideal.exp (top s n - top s (n + m)) * mass s n
      + ∑ j : Fin m, Ideal.exp (s (n + j) - top s (n + m)) := by
  rw [mass_eq_load, mass_eq_load, load_add]
  congr 1
  exact Finset.sum_congr rfl fun j _ => one_mul _

/-- Keys of score ⊥ past the first `n` leave the largest score as it is, -/
theorem top_of_bot {s : ℕ → EReal} {n n' : ℕ} (h : n ≤ n') (hb : ∀ j, n ≤ j → j < n' → s j = ⊥) : top s n' = top s n := by
  refine le_antisymm (Finset.sup_le fun j hj => ?_) (top_mono s h)
  by_cases hj' : j < n
  · exact le_top s hj'
  · rw [hb j (by omega) (Finset.mem_range.mp hj)]; exact bot_le

/-- and the summed values too. -/
theorem load_of_bot {s : ℕ → EReal} (v : ℕ → EReal) {n n' : ℕ} (h : n ≤ n') (hb : ∀ j, n ≤ j → j < n' → s j = ⊥) :
    load s v n' = load s v n := by
  unfold load
  rw [top_of_bot h hb]
  refine (Finset.sum_subset (Finset.range_mono h) fun j hj hj' => ?_).symm
  rw [hb j (by simpa using hj') (Finset.mem_range.mp hj)]
  simp

theorem mass_of_bot {s : ℕ → EReal} {n n' : ℕ} (h : n ≤ n') (hb : ∀ j, n ≤ j → j < n' → s j = ⊥) :
    mass s n' = mass s n := by
  rw [mass_eq_load, mass_eq_load, load_of_bot _ h hb]

theorem mass_nonneg (s : ℕ → EReal) (n : ℕ) : 0 ≤ mass s n := Finset.sum_nonneg fun _ _ => exp_nonneg _

/-- A finite sum of terms that are neither negative nor infinite is not infinite. -/
theorem sum_ne_top {ι : Type*} (t : Finset ι) (f : ι → EReal) (h0 : ∀ j ∈ t, 0 ≤ f j) (h : ∀ j ∈ t, f j ≠ ⊤) :
    ∑ j ∈ t, f j ≠ ⊤ := by
  classical
  induction t using Finset.induction_on with
  | empty => simp
  | insert a t ha ih =>
    rw [Finset.sum_insert ha]
    exact EReal.add_ne_top (h a (Finset.mem_insert_self _ _))
      (ih (fun j hj => h0 j (Finset.mem_insert_of_mem hj)) fun j hj => h j (Finset.mem_insert_of_mem hj))

theorem mass_ne_top (s : ℕ → EReal) (n : ℕ) : mass s n ≠ ⊤ :=
  sum_ne_top _ _ (fun _ _ => exp_nonneg _) fun j hj => exp_sub_ne_top (le_top s (Finset.mem_range.mp hj))

/-- Dividing by a positive real: the quotient is a product with a number neither negative nor infinite. -/
theorem div_eq_mul {y : EReal} (h0 : 0 < y) (h1 : y ≠ ⊤) (x : EReal) :
    ∃ r : EReal, 0 ≤ r ∧ r ≠ ⊤ ∧ ∀ x : EReal, Ideal.div x y = x * r := by
  induction y using EReal.rec with
  | bot => simp at h0
  | top => exact absurd rfl h1
  | coe y =>
    have hy : 0 < y := by exact_mod_cast h0
    exact ⟨((1 / y : ℝ) : EReal), by exact_mod_cast (one_div_pos.mpr hy).le, EReal.coe_ne_top _, fun x => Ideal.div_coe hy.ne' x⟩

/-- The softmax divided at the end is the softmax divided weight by weight: `c` is the floor put under the summed
    weights, `n` keys. -/
theorem load_div (s v : ℕ → EReal) (n : ℕ) {c : EReal} (hc : 0 < c) (hc' : c ≠ ⊤) :
    Ideal.div (load s v n) (max (mass s n) c)
      = ∑ j ∈ Finset.range n, Ideal.div (Ideal.exp (s j - top s n)) (max (mass s n) c) * v j := by
  have hpos : 0 < max (mass s n) c := lt_of_lt_of_le hc (le_max_right _ _)
  have hfin : max (mass s n) c ≠ ⊤ := by
    rcases max_choice (mass s n) c with h | h <;> rw [h]
    · exact mass_ne_top s n
    · exact hc'
  obtain ⟨r, hr0, hr1, hr⟩ := div_eq_mul hpos hfin 0
  rw [hr]
  unfold load
  rw [mul_comm, mul_sum _ _ hr0 hr1]
  refine Finset.sum_congr rfl fun j _ => ?_
  rw [hr, mul_comm r, mul_assoc, mul_comm (v j)]

end Cert.Softmax

end
-- ==== Proof.Layer.lean ====
/- The layer: attention with a forgetting gate, over two sequences of 8192 positions and eight heads of 64 components.
   Query `r` scores key `j ≤ r` by their inner product plus the difference of the two gate sums; later keys are out. -/
module

public import proofs.«01_k».proof.Proof.SoftmaxMath

@[expose] public section

noncomputable section

namespace Cert.Layer

open Idealize.ShloMosaic Cert.Softmax

/-- Component `d` of head `h`, among the 512. -/
def lane (h : Fin 8) (d : Fin 64) : Fin 512 := ⟨64 * h.val + d.val, by omega⟩
/-- Position `r` of sequence `b` among the positions of both. -/
def col (b : Fin 2) (r : Fin 8192) : Fin 16384 := ⟨8192 * b.val + r.val, by omega⟩
/-- Head `h`'s column of the gate sums. -/
def gate (h : Fin 8) : Fin 128 := ⟨h.val, by omega⟩

/-- The scores of query `r`, key by key; `⊥` for a key after the query. -/
def score (Q : Fin 512 → Fin 16384 → EReal) (K : Fin 2 → Fin 8192 → Fin 512 → EReal) (C : Fin 2 → Fin 8192 → Fin 128 → EReal)
    (b : Fin 2) (h : Fin 8) (r : Fin 8192) (j : ℕ) : EReal :=
  if hj : j < 8192 then
    if j ≤ r.val then
      ((∑ d : Fin 64, K b ⟨j, hj⟩ (lane h d) * Q (lane h d) (col b r)) + C b r (gate h)) - C b ⟨j, hj⟩ (gate h)
    else ⊥
  else ⊥

/-- Component `d` of the values, key by key. -/
def value (V : Fin 512 → Fin 16384 → EReal) (b : Fin 2) (h : Fin 8) (d : Fin 64) (j : ℕ) : EReal :=
  if hj : j < 8192 then V (lane h d) (col b ⟨j, hj⟩) else 0

/-- The layer's result: the weighted values over the summed weights, which are held above `f`. -/
def attention (Q : Fin 512 → Fin 16384 → EReal) (K : Fin 2 → Fin 8192 → Fin 512 → EReal) (V : Fin 512 → Fin 16384 → EReal)
    (C : Fin 2 → Fin 8192 → Fin 128 → EReal) (f : EReal) (b : Fin 2) (r : Fin 8192) (h : Fin 8) (d : Fin 64) : EReal :=
  Ideal.div (load (score Q K C b h r) (value V b h d) 8192) (max (mass (score Q K C b h r) 8192) f)

/-- A key after the query scores `⊥`. -/
theorem score_of_lt {Q : Fin 512 → Fin 16384 → EReal} {K : Fin 2 → Fin 8192 → Fin 512 → EReal} {C : Fin 2 → Fin 8192 → Fin 128 → EReal}
    (b : Fin 2) (h : Fin 8) (r : Fin 8192) {j : ℕ} (hj : r.val < j) : score Q K C b h r j = ⊥ := by
  unfold score
  split
  · rw [if_neg (by omega)]
  · rfl

/-- Keys past the query change nothing: the result over the first `n` keys, as soon as `n` passes the query. -/
theorem attention_eq {Q : Fin 512 → Fin 16384 → EReal} {K : Fin 2 → Fin 8192 → Fin 512 → EReal} {V : Fin 512 → Fin 16384 → EReal}
    {C : Fin 2 → Fin 8192 → Fin 128 → EReal} (f : EReal) (b : Fin 2) (r : Fin 8192) (h : Fin 8) (d : Fin 64) {n : ℕ} (hn : r.val < n)
    (hn' : n ≤ 8192) : attention Q K V C f b r h d
      = Ideal.div (load (score Q K C b h r) (value V b h d) n) (max (mass (score Q K C b h r) n) f) := by
  have hb : ∀ j, n ≤ j → j < 8192 → score Q K C b h r j = ⊥ := fun j hj _ => score_of_lt b h r (by omega)
  unfold attention
  rw [load_of_bot _ hn' hb, mass_of_bot hn' hb]

end Cert.Layer

end
-- ==== Proof.Rows.lean ====
/- The body's buffers are written one head at a time: head `h` owns row `h` of a buffer of 8 rows, and rows `64h` to
   `64h + 63` of a buffer of 512. Here: what a buffer written so holds, and the body's step on whole buffers. -/
module

public import proofs.«01_k».proof.Proof.Head
public import proofs.«01_k».proof.Proof.Layer
public import Idealize.ShloMosaic.Lib.Pipeline.Value

@[expose] public section

noncomputable section

namespace Cert.KernelIdeal.Head

open Idealize.ShloMosaic Cert.KernelIdeal Cert.KernelIdeal.Gen Cert.Layer

theorem row_inb (h : Fin 8) : ∀ a, (![h.val, 0] : Fin 2 → ℕ) a + S1x512.size a ≤ S8x512.size a := by
  intro a; fin_cases a
  · show h.val + 1 ≤ 8; omega
  · show 0 + 512 ≤ 512; omega

theorem slab_inb (h : Fin 8) : ∀ a, (![64 * h.val, 0] : Fin 2 → ℕ) a + S64x512.size a ≤ S512x512.size a := by
  intro a; fin_cases a
  · show 64 * h.val + 64 ≤ 512; omega
  · show 0 + 512 ≤ 512; omega

theorem vslab_inb (h : Fin 8) : ∀ a, (![64 * h.val, 0] : Fin 2 → ℕ) a + S64x1024.size a ≤ S512x1024.size a := by
  intro a; fin_cases a
  · show 64 * h.val + 64 ≤ 512; omega
  · show 0 + 1024 ≤ 1024; omega

theorem keys_inb (h : Fin 8) : ∀ a, (![0, 0, 64 * h.val] : Fin 3 → ℕ) a + S1x1024x64.size a ≤ S1x1024x512.size a := by
  intro a; fin_cases a
  · show 0 + 1 ≤ 1; omega
  · show 0 + 1024 ≤ 1024; omega
  · show 64 * h.val + 64 ≤ 512; omega

theorem gateRow_inb (h : Fin 8) : ∀ a, (![0, h.val, 0] : Fin 3 → ℕ) a + S1x1x512.size a ≤ S1x8x512.size a := by
  intro a; fin_cases a
  · show 0 + 1 ≤ 1; omega
  · show h.val + 1 ≤ 8; omega
  · show 0 + 512 ≤ 512; omega

theorem gateCol_inb (h : Fin 8) : ∀ a, (![0, 0, h.val] : Fin 3 → ℕ) a + S1x1024x1.size a ≤ S1x1024x8.size a := by
  intro a; fin_cases a
  · show 0 + 1 ≤ 1; omega
  · show 0 + 1024 ≤ 1024; omega
  · show h.val + 1 ≤ 8; omega

/-- Row `h` of a buffer of 8 rows. -/
abbrev rowRect (h : Fin 8) : Rect S8x512 := Rect.unit ![h.val, 0] S1x512.size (row_inb h)
/-- The 64 rows of head `h` in a buffer of 512. -/
abbrev slabRect (h : Fin 8) : Rect S512x512 := Rect.unit ![64 * h.val, 0] S64x512.size (slab_inb h)
/-- The 64 rows of head `h` in a tile of values. -/
abbrev vslabRect (h : Fin 8) : Rect S512x1024 := Rect.unit ![64 * h.val, 0] S64x1024.size (vslab_inb h)
/-- The 64 columns of head `h` in a tile of keys. -/
abbrev keysRect (h : Fin 8) : Rect S1x1024x512 := Rect.unit ![0, 0, 64 * h.val] S1x1024x64.size (keys_inb h)
/-- The queries' gate sums of head `h`. -/
abbrev gateRowRect (h : Fin 8) : Rect S1x8x512 := Rect.unit ![0, h.val, 0] S1x1x512.size (gateRow_inb h)
/-- The keys' gate sums of head `h`. -/
abbrev gateColRect (h : Fin 8) : Rect S1x1024x8 := Rect.unit ![0, 0, h.val] S1x1024x1.size (gateCol_inb h)

/-- The head a component belongs to, -/
def headOf (r : Fin 512) : Fin 8 := ⟨r.val / 64, by omega⟩
/-- and its place in the head. -/
def placeOf (r : Fin 512) : Fin 64 := ⟨r.val % 64, by omega⟩

theorem lane_headOf (r : Fin 512) : lane (headOf r) (placeOf r) = r := Fin.ext (by show 64 * (r.val / 64) + r.val % 64 = r.val; omega)
theorem headOf_lane (h : Fin 8) (d : Fin 64) : headOf (lane h d) = h := Fin.ext (by show (64 * h.val + d.val) / 64 = h.val; omega)
theorem placeOf_lane (h : Fin 8) (d : Fin 64) : placeOf (lane h d) = d := Fin.ext (by show (64 * h.val + d.val) % 64 = d.val; omega)

/-- Eight stores, one per head, last head first. -/
def eight {S : Shape} (p : Fin 8 → View.Piece (Elt Ideal) S .f32) (L : List (View.Piece (Elt Ideal) S .f32)) :
    List (View.Piece (Elt Ideal) S .f32) :=
  p 7 :: p 6 :: p 5 :: p 4 :: p 3 :: p 2 :: p 1 :: p 0 :: L

/-- Eight stores, each a block of one function `G` and together covering the buffer, leave `G`, whatever was stored before. -/
theorem canon_eight {S : Shape} (p : Fin 8 → View.Piece (Elt Ideal) S .f32) (L : List (View.Piece (Elt Ideal) S .f32))
    (G : S.Idx → Elt Ideal .f32) (hG : ∀ h, ∀ x : (p h).1.shape.Idx, (p h).2 x = G ((p h).1.emb x))
    (hc : ∀ y, ∃ h, y ∈ (p h).1.set) : View.canon (eight p L) = G := by
  have key : ∀ (hs : List (Fin 8)) (y : S.Idx), (∃ h ∈ hs, y ∈ (p h).1.set) → View.canon (hs.map p ++ L) y = G y := by
    intro hs
    induction hs with
    | nil => rintro y ⟨h, hm, -⟩; simp at hm
    | cons h hs ih =>
      rintro y ⟨h', hm, hy⟩
      rw [List.map_cons, List.cons_append]
      by_cases hy' : y ∈ (p h).1.set
      · obtain ⟨x, rfl⟩ := (p h).1.exists_idx_of_mem hy'
        exact (View.canon_cons_emb (p h).1 (p h).2 _ x).trans (hG h x)
      · rw [View.canon_cons_of_not_mem _ _ hy']
        refine ih y ⟨h', ?_, hy⟩
        rcases List.mem_cons.mp hm with rfl | hm
        · exact absurd hy hy'
        · exact hm
  funext y
  obtain ⟨h, hy⟩ := hc y
  exact key [7, 6, 5, 4, 3, 2, 1, 0] y ⟨h, by fin_cases h <;> simp, hy⟩

/-- A buffer of 8 rows whose row `h` is `f h`. -/
def ofRows (f : Fin 8 → Vec Ideal S1x512 .f32) : Vec Ideal S8x512 .f32 := fun i => f (i 0) (ix2 0 (i 1))

/-- A buffer of 512 rows whose 64 rows of head `h` are `f h`. -/
def ofSlabs (f : Fin 8 → Vec Ideal S64x512 .f32) : Vec Ideal S512x512 .f32 := fun i => f (headOf (i 0)) (ix2 (placeOf (i 0)) (i 1))

/-- Eight row stores leave the buffer made of those rows. -/
theorem canon_rows (f : Fin 8 → Vec Ideal S1x512 .f32) (L : List (View.Piece (Elt Ideal) S8x512 .f32)) :
    View.canon (eight (fun h => ⟨rowRect h, f h⟩) L) = ofRows f := by
  refine canon_eight _ L _ (fun h x => ?_) fun y => ⟨y 0, ?_⟩
  · have e : (rowRect h).emb x = ix2 (n0 := 8) (n1 := 512) h (x 1) := by
      funext a; apply Fin.ext; fin_cases a
      · show h.val + 1 * (x 0).val = h.val
        have : (x 0).val < 1 := (x 0).isLt
        omega
      · show 0 + 1 * (x 1).val = (x 1).val
        omega
    show f h x = ofRows f ((rowRect h).emb x)
    rw [e]
    show f h x = f h (ix2 0 (x 1))
    congr 1
    funext a; fin_cases a
    · exact Subsingleton.elim (α := Fin 1) _ _
    · rfl
  · rw [Rect.mem_set_unit]
    intro a
    have h1 : (y 1).val < 512 := (y 1).isLt
    fin_cases a
    · show (y 0).val ≤ (y 0).val ∧ (y 0).val < (y 0).val + 1; omega
    · show 0 ≤ (y 1).val ∧ (y 1).val < 0 + 512; omega

/-- Eight slab stores leave the buffer made of those slabs. -/
theorem canon_slabs (f : Fin 8 → Vec Ideal S64x512 .f32) (L : List (View.Piece (Elt Ideal) S512x512 .f32)) :
    View.canon (eight (fun h => ⟨slabRect h, f h⟩) L) = ofSlabs f := by
  refine canon_eight _ L _ (fun h x => ?_) fun y => ⟨headOf (y 0), ?_⟩
  · have e : (slabRect h).emb x = ix2 (n0 := 512) (n1 := 512) (lane h (x 0)) (x 1) := by
      funext a; apply Fin.ext; fin_cases a
      · show 64 * h.val + 1 * (x 0).val = 64 * h.val + (x 0).val
        omega
      · show 0 + 1 * (x 1).val = (x 1).val
        omega
    show f h x = ofSlabs f ((slabRect h).emb x)
    rw [e]
    have key : ∀ (d : Fin 64) (t : Fin 512), f h (ix2 d t) = ofSlabs f (ix2 (lane h d) t) := fun d t => by
      show _ = f (headOf (lane h d)) (ix2 (placeOf (lane h d)) t)
      rw [headOf_lane, placeOf_lane]
    refine Eq.trans (congrArg (f h) ?_) (key (x 0) (x 1))
    funext a; fin_cases a <;> rfl
  · rw [Rect.mem_set_unit]
    intro a
    have h0 : (y 0).val < 512 := (y 0).isLt
    have h1 : (y 1).val < 512 := (y 1).isLt
    fin_cases a
    · show 64 * ((y 0).val / 64) ≤ (y 0).val ∧ (y 0).val < 64 * ((y 0).val / 64) + 64; omega
    · show 0 ≤ (y 1).val ∧ (y 1).val < 0 + 512; omega

/-- The scores of head `h`, from the tile's keys `x1`, the block's queries `x0` and the gate sums of both (`x3`, `x4`). -/
def headScores (x0 : Vec Ideal S512x512 .bf16) (x1 : Vec Ideal S1x1024x512 .bf16) (x3 : Vec Ideal S1x1024x8 .f32)
    (x4 : Vec Ideal S1x8x512 .f32) (h : Fin 8) : FVec Ideal S1024x512 .f32 :=
  scores (View.ld x1 (keysRect h)) (View.ld x0 (slabRect h)) (View.ld x4 (gateRowRect h)) (View.ld x3 (gateColRect h))

/-- The largest scores after a tile of scores `s`, head by head; -/
def newLevel (s : Fin 8 → FVec Ideal S1024x512 .f32) (m : Vec Ideal S8x512 .f32) : Vec Ideal S8x512 .f32 :=
  ofRows fun h => levelRow (s h) (View.ld m (rowRect h))

/-- the summed weights; -/
def newMass (s : Fin 8 → FVec Ideal S1024x512 .f32) (m l : Vec Ideal S8x512 .f32) : Vec Ideal S8x512 .f32 :=
  ofRows fun h => massRow (s h) (View.ld m (rowRect h)) (View.ld l (rowRect h))

/-- the summed values, the tile's values being `x2`; -/
def newLoad (s : Fin 8 → FVec Ideal S1024x512 .f32) (m : Vec Ideal S8x512 .f32) (a : Vec Ideal S512x512 .f32)
    (x2 : Vec Ideal S512x1024 .bf16) : Vec Ideal S512x512 .f32 :=
  ofSlabs fun h => loadSlab (s h) (View.ld m (rowRect h)) (View.ld a (slabRect h)) (View.ld x2 (vslabRect h))

/-- and the block of results at the end: the quotient, one query per row. -/
def result (l : Vec Ideal S8x512 .f32) (a : Vec Ideal S512x512 .f32) : Vec Ideal S1x512x512 .f32 :=
  k0_pay7 (ofSlabs fun h => quotSlab (View.ld a (slabRect h)) (View.ld l (rowRect h)))

theorem ld_row (m : Vec Ideal S8x512 .f32) (h : Fin 8) (t : Fin 512) : View.ld m (rowRect h) (ix2 0 t) = m (ix2 h t) := by
  refine congrArg m (funext fun a => Fin.ext ?_)
  fin_cases a
  · show h.val + 1 * 0 = h.val; omega
  · show 0 + 1 * t.val = t.val; omega

theorem ld_slab {φ : EltTy} (m : Vec Ideal S512x512 φ) (h : Fin 8) (d : Fin 64) (t : Fin 512) :
    View.ld m (slabRect h) (ix2 d t) = m (ix2 (lane h d) t) := by
  refine congrArg m (funext fun a => Fin.ext ?_)
  fin_cases a
  · show 64 * h.val + 1 * d.val = 64 * h.val + d.val; omega
  · show 0 + 1 * t.val = t.val; omega

theorem ld_vslab {φ : EltTy} (m : Vec Ideal S512x1024 φ) (h : Fin 8) (d : Fin 64) (j : Fin 1024) :
    View.ld m (vslabRect h) (ix2 d j) = m (ix2 (lane h d) j) := by
  refine congrArg m (funext fun a => Fin.ext ?_)
  fin_cases a
  · show 64 * h.val + 1 * d.val = 64 * h.val + d.val; omega
  · show 0 + 1 * j.val = j.val; omega

theorem ld_keys {φ : EltTy} (m : Vec Ideal S1x1024x512 φ) (h : Fin 8) (j : Fin 1024) (d : Fin 64) :
    View.ld m (keysRect h) (ix3 0 j d) = m (ix3 0 j (lane h d)) := by
  refine congrArg m (funext fun a => Fin.ext ?_)
  fin_cases a
  · rfl
  · show 0 + 1 * j.val = j.val; omega
  · show 64 * h.val + 1 * d.val = 64 * h.val + d.val; omega

theorem ld_gateRow {φ : EltTy} (m : Vec Ideal S1x8x512 φ) (h : Fin 8) (t : Fin 512) :
    View.ld m (gateRowRect h) (ix3 0 0 t) = m (ix3 0 h t) := by
  refine congrArg m (funext fun a => Fin.ext ?_)
  fin_cases a
  · rfl
  · show h.val + 1 * 0 = h.val; omega
  · show 0 + 1 * t.val = t.val; omega

theorem ld_gateCol {φ : EltTy} (m : Vec Ideal S1x1024x8 φ) (h : Fin 8) (j : Fin 1024) :
    View.ld m (gateColRect h) (ix3 0 j 0) = m (ix3 0 j h) := by
  refine congrArg m (funext fun a => Fin.ext ?_)
  fin_cases a
  · rfl
  · show 0 + 1 * j.val = j.val; omega
  · show h.val + 1 * 0 = h.val; omega

theorem headScores_apply (x0 : Vec Ideal S512x512 .bf16) (x1 : Vec Ideal S1x1024x512 .bf16) (x3 : Vec Ideal S1x1024x8 .f32)
    (x4 : Vec Ideal S1x8x512 .f32) (h : Fin 8) (j : Fin 1024) (t : Fin 512) :
    headScores x0 x1 x3 x4 h (ix2 j t)
      = ((∑ d : Fin 64, x1 (ix3 0 j (lane h d)) * x0 (ix2 (lane h d) t)) + x4 (ix3 0 h t)) - x3 (ix3 0 j h) := by
  unfold headScores
  rw [scores_apply, ld_gateRow, ld_gateCol]
  congr 2
  exact Finset.sum_congr rfl fun d _ => by rw [ld_keys, ld_slab]

theorem newLevel_apply (s : Fin 8 → FVec Ideal S1024x512 .f32) (m : Vec Ideal S8x512 .f32) (h : Fin 8) (t : Fin 512) :
    newLevel s m (ix2 h t) = max (m (ix2 h t)) ((Finset.univ : Finset (Fin 1024)).fold max ⊥ fun j => s h (ix2 j t)) := by
  show levelRow (s h) (View.ld m (rowRect h)) (ix2 0 t) = _
  rw [levelRow_apply, level_apply, ld_row]

theorem level_row (s : Fin 8 → FVec Ideal S1024x512 .f32) (m : Vec Ideal S8x512 .f32) (h : Fin 8) (t : Fin 512) :
    level (s h) (View.ld m (rowRect h)) (ix2 0 t) = newLevel s m (ix2 h t) := (levelRow_apply _ _ _).symm

theorem newMass_apply (s : Fin 8 → FVec Ideal S1024x512 .f32) (m l : Vec Ideal S8x512 .f32) (h : Fin 8) (t : Fin 512) :
    newMass s m l (ix2 h t) = Ideal.exp (m (ix2 h t) - newLevel s m (ix2 h t)) * l (ix2 h t)
      + ∑ j : Fin 1024, Ideal.exp (s h (ix2 j t) - newLevel s m (ix2 h t)) := by
  show massRow (s h) (View.ld m (rowRect h)) (View.ld l (rowRect h)) (ix2 0 t) = _
  rw [massRow_apply, level_row, ld_row, ld_row]

theorem newLoad_apply (s : Fin 8 → FVec Ideal S1024x512 .f32) (m : Vec Ideal S8x512 .f32) (a : Vec Ideal S512x512 .f32)
    (x2 : Vec Ideal S512x1024 .bf16) (h : Fin 8) (d : Fin 64) (t : Fin 512) :
    newLoad s m a x2 (ix2 (lane h d) t) = Ideal.exp (m (ix2 h t) - newLevel s m (ix2 h t)) * a (ix2 (lane h d) t)
      + ∑ j : Fin 1024, x2 (ix2 (lane h d) j) * Ideal.exp (s h (ix2 j t) - newLevel s m (ix2 h t)) := by
  show loadSlab (s (headOf (lane h d))) (View.ld m (rowRect (headOf (lane h d)))) (View.ld a (slabRect (headOf (lane h d))))
    (View.ld x2 (vslabRect (headOf (lane h d)))) (ix2 (placeOf (lane h d)) t) = _
  rw [headOf_lane, placeOf_lane, loadSlab_apply, level_row, ld_row, ld_slab]
  congr 1
  exact Finset.sum_congr rfl fun j _ => by rw [ld_vslab]

theorem result_apply (l : Vec Ideal S8x512 .f32) (a : Vec Ideal S512x512 .f32) (t : Fin 512) (h : Fin 8) (d : Fin 64) :
    result l a (ix3 0 t (lane h d)) = Ideal.div (a (ix2 (lane h d) t)) (max (l (ix2 h t)) (Ideal.ofBits .f32 0x0DA24260#32)) := by
  have e : result l a (ix3 0 t (lane h d))
      = ofSlabs (fun h => quotSlab (View.ld a (slabRect h)) (View.ld l (rowRect h))) (ix2 (lane h d) t) := by
    unfold result k0_pay7
    pointwise
  rw [e]
  show quotSlab (View.ld a (slabRect (headOf (lane h d)))) (View.ld l (rowRect (headOf (lane h d)))) (ix2 (placeOf (lane h d)) t) = _
  rw [headOf_lane, placeOf_lane, quotSlab_apply, ld_row, ld_slab]

end Cert.KernelIdeal.Head

end
-- ==== Proof.Blocks.lean ====
/- The blocks a grid point works on, as entries of the kernel's arguments. -/
module

public import proofs.«01_k».proof.Proof.Array
public import proofs.«01_k».proof.Proof.Head
public import proofs.«01_k».proof.Proof.Rows

@[expose] public section

set_option maxRecDepth 16384

noncomputable section

namespace Cert.KernelIdeal.Array

open Idealize.ShloMosaic Cert.KernelIdeal Cert.KernelIdeal.Gen Cert.KernelIdeal.Head Cert.Layer Idealize.ShloMosaic.TcCoe Idealize.SL.Sem

/-- Query `t` of query block `q`, -/
def query (q : Fin 16) (t : Fin 512) : Fin 8192 := ⟨512 * q.val + t.val, by omega⟩
/-- and key `j` of key tile `k`. -/
def key (k : Fin 8) (j : Fin 1024) : Fin 8192 := ⟨1024 * k.val + j.val, by omega⟩
/-- The key tile that grid point stages: its own, or the query block's last one when that comes first. -/
def tileOf (q : Fin 16) (k : Fin 8) : Fin 8 := ⟨min k.val (q.val / 2), by omega⟩

variable (m : (ℓ : Loc nD τ sig) → Buf (Elt Ideal) ℓ) (c : Dev nD)

/-- The four arguments: queries and values one position per column, keys and gate sums one per row. -/
def argQ : Vec Ideal S512x16384 .bf16 := m ((c : Thread nD τ).loc main_arg0)
def argK : Vec Ideal S2x8192x512 .bf16 := m ((c : Thread nD τ).loc main_arg1)
def argV : Vec Ideal S512x16384 .bf16 := m ((c : Thread nD τ).loc main_arg2)
def argC : Vec Ideal S2x8192x128 .f32 := m ((c : Thread nD τ).loc main_arg3)

/-! ## Which block a point stages -/

theorem index0 : ∀ t : Fin cfg0.N, win0_0.index t (0 : Fin 2) = 0 ∧ win0_0.index t (1 : Fin 2) = t.val / 8 :=
  (by decide +kernel : ∀ t : Fin grid0.N, _)
theorem index1 : ∀ t : Fin cfg0.N, win0_1.index t (0 : Fin 3) = t.val / 128
    ∧ win0_1.index t (1 : Fin 3) = min (t.val % 8) (t.val / 8 % 16 / 2) ∧ win0_1.index t (2 : Fin 3) = 0 :=
  (by decide +kernel : ∀ t : Fin grid0.N, _)
theorem index2 : ∀ t : Fin cfg0.N, win0_2.index t (0 : Fin 2) = 0
    ∧ win0_2.index t (1 : Fin 2) = 8 * (t.val / 128) + min (t.val % 8) (t.val / 8 % 16 / 2) :=
  (by decide +kernel : ∀ t : Fin grid0.N, _)
theorem index3 : ∀ t : Fin cfg0.N, win0_3.index t (0 : Fin 3) = t.val / 128
    ∧ win0_3.index t (1 : Fin 3) = min (t.val % 8) (t.val / 8 % 16 / 2) ∧ win0_3.index t (2 : Fin 3) = 0 :=
  (by decide +kernel : ∀ t : Fin grid0.N, _)
theorem index4 : ∀ t : Fin cfg0.N, win0_4.index t (0 : Fin 3) = t.val / 128
    ∧ win0_4.index t (1 : Fin 3) = 0 ∧ win0_4.index t (2 : Fin 3) = t.val / 8 % 16 :=
  (by decide +kernel : ∀ t : Fin grid0.N, _)

/-- A point's coordinates. -/
theorem coords_point : ∀ t : Fin cfg0.N, (grid0.coords t 1).val = t.val / 8 % 16 ∧ (grid0.coords t 2).val = t.val % 8 :=
  (by decide +kernel : ∀ t : Fin grid0.N, _)

/-- The gate sums the host passes on: the first eight columns, -/
theorem gates_eq (b : Fin 2) (r : Fin 8192) (h : Fin 8) : V m c main_v0 (ix3 b r h) = argC m c (ix3 b r (gate h)) := by
  have e : V m c main_v0 = (extractStridedSlice S2x8192x8 ![0, 0, 0] (argC m c) slices_S2x8192x128_S2x8192x8_0_0_0 : Vec Ideal S2x8192x8 .f32) := by
    show StableHlo.after hostOps0 _ _ = _
    simp only [hostOps0]
    after_results
    rfl
  rw [e]
  pointwise
  rfl

/-- and their transpose. -/
theorem gatesT_eq (b : Fin 2) (h : Fin 8) (r : Fin 8192) : V m c main_v1 (ix3 b h r) = argC m c (ix3 b r (gate h)) := by
  have e : V m c main_v1 = (transpose S2x8x8192 [0, 2, 1] (extractStridedSlice S2x8192x8 ![0, 0, 0] (argC m c)
      slices_S2x8192x128_S2x8192x8_0_0_0) transposes_S2x8192x8_S2x8x8192_0_2_1 : Vec Ideal S2x8x8192 .f32) := by
    show StableHlo.after hostOps0 _ _ = _
    simp only [hostOps0]
    after_results
    rfl
  rw [e]
  pointwise
  rfl

/-! ## The blocks at a point -/

variable (b : Fin 2) (q : Fin 16) (k : Fin 8)

/-- A point's number, taken apart. -/
theorem point_seq : (point b q k).val / 128 = b.val := by show (8 * (16 * b.val + q.val) + k.val) / 128 = b.val; omega
theorem point_block : (point b q k).val / 8 % 16 = q.val := by show (8 * (16 * b.val + q.val) + k.val) / 8 % 16 = q.val; omega
theorem point_tile : (point b q k).val % 8 = k.val := by show (8 * (16 * b.val + q.val) + k.val) % 8 = k.val; omega
theorem point_run : (point b q k).val / 8 = 16 * b.val + q.val := by show (8 * (16 * b.val + q.val) + k.val) / 8 = 16 * b.val + q.val; omega

theorem block_q (e : Fin 512) (t : Fin 512) : iblk m c 0 (point b q k) (ix2 e t) = argQ m c (ix2 e (col b (query q t))) := by
  obtain ⟨i0, i1⟩ := index0 (point b q k)
  simp only [point_seq, point_block, point_tile, point_run] at i1
  generalize point b q k = p at *
  show V m c main_arg0 (((cfg0.win 0).blk p).view.emb (ix2 e t)) = _
  rw [V_main_arg0]
  refine congrArg (argQ m c) (funext fun a => Fin.ext ?_)
  match a with
  | ⟨0, _⟩ => show win0_0.index p (0 : Fin 2) * 512 + 1 * e.val = e.val; rw [i0]; omega
  | ⟨1, _⟩ => show win0_0.index p (1 : Fin 2) * 512 + 1 * t.val = 8192 * b.val + (512 * q.val + t.val); rw [i1]; omega

theorem block_k (j : Fin 1024) (e : Fin 512) :
    iblk m c 1 (point b q k) (ix3 0 j e) = argK m c (ix3 b (key (tileOf q k) j) e) := by
  obtain ⟨i0, i1, i2⟩ := index1 (point b q k)
  simp only [point_seq, point_block, point_tile, point_run] at i0 i1
  generalize point b q k = p at *
  show V m c main_arg1 (((cfg0.win 1).blk p).view.emb (ix3 0 j e)) = _
  rw [V_main_arg1]
  refine congrArg (argK m c) (funext fun a => Fin.ext ?_)
  match a with
  | ⟨0, _⟩ => show win0_1.index p (0 : Fin 3) * 1 + 1 * 0 = b.val; rw [i0]; omega
  | ⟨1, _⟩ => show win0_1.index p (1 : Fin 3) * 1024 + 1 * j.val = 1024 * min k.val (q.val / 2) + j.val; rw [i1]; omega
  | ⟨2, _⟩ => show win0_1.index p (2 : Fin 3) * 512 + 1 * e.val = e.val; rw [i2]; omega

theorem block_v (e : Fin 512) (j : Fin 1024) :
    iblk m c 2 (point b q k) (ix2 e j) = argV m c (ix2 e (col b (key (tileOf q k) j))) := by
  obtain ⟨i0, i1⟩ := index2 (point b q k)
  simp only [point_seq, point_block, point_tile, point_run] at i1
  generalize point b q k = p at *
  show V m c main_arg2 (((cfg0.win 2).blk p).view.emb (ix2 e j)) = _
  rw [V_main_arg2]
  refine congrArg (argV m c) (funext fun a => Fin.ext ?_)
  match a with
  | ⟨0, _⟩ => show win0_2.index p (0 : Fin 2) * 512 + 1 * e.val = e.val; rw [i0]; omega
  | ⟨1, _⟩ =>
    show win0_2.index p (1 : Fin 2) * 1024 + 1 * j.val = 8192 * b.val + (1024 * min k.val (q.val / 2) + j.val)
    rw [i1]; omega

theorem block_ck (j : Fin 1024) (h : Fin 8) :
    iblk m c 3 (point b q k) (ix3 0 j h) = argC m c (ix3 b (key (tileOf q k) j) (gate h)) := by
  obtain ⟨i0, i1, i2⟩ := index3 (point b q k)
  simp only [point_seq, point_block, point_tile, point_run] at i0 i1
  generalize point b q k = p at *
  show V m c main_v0 (((cfg0.win 3).blk p).view.emb (ix3 0 j h)) = _
  rw [← gates_eq m c]
  refine congrArg (V m c main_v0) (funext fun a => Fin.ext ?_)
  match a with
  | ⟨0, _⟩ => show win0_3.index p (0 : Fin 3) * 1 + 1 * 0 = b.val; rw [i0]; omega
  | ⟨1, _⟩ => show win0_3.index p (1 : Fin 3) * 1024 + 1 * j.val = 1024 * min k.val (q.val / 2) + j.val; rw [i1]; omega
  | ⟨2, _⟩ => show win0_3.index p (2 : Fin 3) * 8 + 1 * h.val = h.val; rw [i2]; omega

theorem block_cq (h : Fin 8) (t : Fin 512) :
    iblk m c 4 (point b q k) (ix3 0 h t) = argC m c (ix3 b (query q t) (gate h)) := by
  obtain ⟨i0, i1, i2⟩ := index4 (point b q k)
  simp only [point_seq, point_block, point_tile, point_run] at i0 i2
  generalize point b q k = p at *
  show V m c main_v1 (((cfg0.win 4).blk p).view.emb (ix3 0 h t)) = _
  rw [← gatesT_eq m c]
  refine congrArg (V m c main_v1) (funext fun a => Fin.ext ?_)
  match a with
  | ⟨0, _⟩ => show win0_4.index p (0 : Fin 3) * 1 + 1 * 0 = b.val; rw [i0]; omega
  | ⟨1, _⟩ => show win0_4.index p (1 : Fin 3) * 8 + 1 * h.val = h.val; rw [i1]; omega
  | ⟨2, _⟩ => show win0_4.index p (2 : Fin 3) * 512 + 1 * t.val = 512 * q.val + t.val; rw [i2]; omega

end Cert.KernelIdeal.Array

end
-- ==== Proof.Cases.lean ====
/- What one run of the kernel's body leaves in the three carried buffers (largest scores, summed weights, summed values)
   and in the output block, in each of the cases the body distinguishes. -/
module

public import proofs.«01_k».proof.Proof.Rows
public import proofs.«01_k».proof.Proof.Gen.KernelIdeal.Frame
public import Idealize.ShloMosaic.Lib.Pipeline.ReadBack

@[expose] public section

set_option maxRecDepth 16384

noncomputable section

namespace Cert.KernelIdeal.Head

open Idealize.ShloMosaic Cert.KernelIdeal Cert.KernelIdeal.Gen Cert.Layer Idealize.ShloMosaic.TcCoe Idealize.SL.Sem

/-- The scores of a tile the diagonal may cross: a key after the query gets `⊥`. -/
def maskedScores (i : grid0.Coords) (x0 : Vec Ideal S512x512 .bf16) (x1 : Vec Ideal S1x1024x512 .bf16) (x3 : Vec Ideal S1x1024x8 .f32)
    (x4 : Vec Ideal S1x8x512 .f32) (h : Fin 8) : FVec Ideal S1024x512 .f32 :=
  addf (headScores x0 x1 x3 x4 h) (k0_pay72 (BitVec.ofNat 32 (i 1).val) (BitVec.ofNat 32 (i 2).val))

variable (c : Dev nD) (i : grid0.Coords)
  (arg3 : Memref sig .tc .vmem S512x512 .bf16) (harg3 : arg3.IsWhole) (arg4 : Memref sig .tc .vmem S1x1024x512 .bf16) (harg4 : arg4.IsWhole)
  (arg5 : Memref sig .tc .vmem S512x1024 .bf16) (harg5 : arg5.IsWhole) (arg6 : Memref sig .tc .vmem S1x1024x8 .f32) (harg6 : arg6.IsWhole)
  (arg7 : Memref sig .tc .vmem S1x8x512 .f32) (harg7 : arg7.IsWhole) (arg8 : Memref sig .tc .vmem S1x512x512 .f32) (harg8 : arg8.IsWhole)
  (arg9 : Memref sig .tc .vmem S8x512 .f32) (harg9 : arg9.IsWhole) (arg10 : Memref sig .tc .vmem S8x512 .f32) (harg10 : arg10.IsWhole)
  (arg11 : Memref sig .tc .vmem S512x512 .f32) (harg11 : arg11.IsWhole)
  (x0 : Vec Ideal S512x512 .bf16) (x1 : Vec Ideal S1x1024x512 .bf16) (x2 : Vec Ideal S512x1024 .bf16) (x3 : Vec Ideal S1x1024x8 .f32)
  (x4 : Vec Ideal S1x8x512 .f32) (xs0 xs1 : Vec Ideal S8x512 .f32) (xs2 : Vec Ideal S512x512 .f32)

/-! ## A later tile, the diagonal one -/

theorem level_E (hc0 : ¬cond0_0 i) (hc1 : ¬cond0_1 i) (hc2 : cond0_2 i) (hc3 : ¬cond0_3 i) :
    sout0_E_0 c i arg3 harg3 arg4 harg4 arg5 harg5 arg6 harg6 arg7 harg7 arg8 harg8 arg9 harg9 arg10 harg10 arg11 harg11 hc0 hc1 hc2 hc3
      x0 x1 x2 x3 x4 xs0 xs1 xs2 = newLevel (maskedScores i x0 x1 x3 x4) xs0 := by
  unfold sout0_E_0
  rw [View.read_writes_junk_eq_canon]
  unfold kernelRun0_E
  dsimp only
  sl_unfold_words
  simp only [View.readAt_eq_ld, harg3.read_unread, harg4.read_unread, harg5.read_unread, harg6.read_unread, harg7.read_unread,
    harg9.read_unread, harg10.read_unread, harg11.read_unread]
  exact canon_rows (fun h => levelRow (maskedScores i x0 x1 x3 x4 h) (View.ld xs0 (rowRect h))) []

theorem mass_E (hc0 : ¬cond0_0 i) (hc1 : ¬cond0_1 i) (hc2 : cond0_2 i) (hc3 : ¬cond0_3 i) :
    sout0_E_1 c i arg3 harg3 arg4 harg4 arg5 harg5 arg6 harg6 arg7 harg7 arg8 harg8 arg9 harg9 arg10 harg10 arg11 harg11 hc0 hc1 hc2 hc3
      x0 x1 x2 x3 x4 xs0 xs1 xs2 = newMass (maskedScores i x0 x1 x3 x4) xs0 xs1 := by
  unfold sout0_E_1
  rw [View.read_writes_junk_eq_canon]
  unfold kernelRun0_E
  dsimp only
  sl_unfold_words
  simp only [View.readAt_eq_ld, harg3.read_unread, harg4.read_unread, harg5.read_unread, harg6.read_unread, harg7.read_unread,
    harg9.read_unread, harg10.read_unread, harg11.read_unread]
  exact canon_rows (fun h => massRow (maskedScores i x0 x1 x3 x4 h) (View.ld xs0 (rowRect h)) (View.ld xs1 (rowRect h))) []

theorem load_E (hc0 : ¬cond0_0 i) (hc1 : ¬cond0_1 i) (hc2 : cond0_2 i) (hc3 : ¬cond0_3 i) :
    sout0_E_2 c i arg3 harg3 arg4 harg4 arg5 harg5 arg6 harg6 arg7 harg7 arg8 harg8 arg9 harg9 arg10 harg10 arg11 harg11 hc0 hc1 hc2 hc3
      x0 x1 x2 x3 x4 xs0 xs1 xs2 = newLoad (maskedScores i x0 x1 x3 x4) xs0 xs2 x2 := by
  unfold sout0_E_2
  rw [View.read_writes_junk_eq_canon]
  unfold kernelRun0_E
  dsimp only
  sl_unfold_words
  simp only [View.readAt_eq_ld, harg3.read_unread, harg4.read_unread, harg5.read_unread, harg6.read_unread, harg7.read_unread,
    harg9.read_unread, harg10.read_unread, harg11.read_unread]
  exact canon_slabs (fun h => loadSlab (maskedScores i x0 x1 x3 x4 h) (View.ld xs0 (rowRect h)) (View.ld xs2 (slabRect h))
    (View.ld x2 (vslabRect h))) []

/-! ## A later tile before the diagonal -/

theorem level_F (hc0 : ¬cond0_0 i) (hc1 : cond0_1 i) (hc2 : ¬cond0_2 i) (hc3 : ¬cond0_3 i) :
    sout0_F_0 c i arg3 harg3 arg4 harg4 arg5 harg5 arg6 harg6 arg7 harg7 arg8 harg8 arg9 harg9 arg10 harg10 arg11 harg11 hc0 hc1 hc2 hc3
      x0 x1 x2 x3 x4 xs0 xs1 xs2 = newLevel (headScores x0 x1 x3 x4) xs0 := by
  unfold sout0_F_0
  rw [View.read_writes_junk_eq_canon]
  unfold kernelRun0_F
  dsimp only
  sl_unfold_words
  simp only [View.readAt_eq_ld, harg3.read_unread, harg4.read_unread, harg5.read_unread, harg6.read_unread, harg7.read_unread,
    harg9.read_unread, harg10.read_unread, harg11.read_unread]
  exact canon_rows (fun h => levelRow (headScores x0 x1 x3 x4 h) (View.ld xs0 (rowRect h))) []

theorem mass_F (hc0 : ¬cond0_0 i) (hc1 : cond0_1 i) (hc2 : ¬cond0_2 i) (hc3 : ¬cond0_3 i) :
    sout0_F_1 c i arg3 harg3 arg4 harg4 arg5 harg5 arg6 harg6 arg7 harg7 arg8 harg8 arg9 harg9 arg10 harg10 arg11 harg11 hc0 hc1 hc2 hc3
      x0 x1 x2 x3 x4 xs0 xs1 xs2 = newMass (headScores x0 x1 x3 x4) xs0 xs1 := by
  unfold sout0_F_1
  rw [View.read_writes_junk_eq_canon]
  unfold kernelRun0_F
  dsimp only
  sl_unfold_words
  simp only [View.readAt_eq_ld, harg3.read_unread, harg4.read_unread, harg5.read_unread, harg6.read_unread, harg7.read_unread,
    harg9.read_unread, harg10.read_unread, harg11.read_unread]
  exact canon_rows (fun h => massRow (headScores x0 x1 x3 x4 h) (View.ld xs0 (rowRect h)) (View.ld xs1 (rowRect h))) []

theorem load_F (hc0 : ¬cond0_0 i) (hc1 : cond0_1 i) (hc2 : ¬cond0_2 i) (hc3 : ¬cond0_3 i) :
    sout0_F_2 c i arg3 harg3 arg4 harg4 arg5 harg5 arg6 harg6 arg7 harg7 arg8 harg8 arg9 harg9 arg10 harg10 arg11 harg11 hc0 hc1 hc2 hc3
      x0 x1 x2 x3 x4 xs0 xs1 xs2 = newLoad (headScores x0 x1 x3 x4) xs0 xs2 x2 := by
  unfold sout0_F_2
  rw [View.read_writes_junk_eq_canon]
  unfold kernelRun0_F
  dsimp only
  sl_unfold_words
  simp only [View.readAt_eq_ld, harg3.read_unread, harg4.read_unread, harg5.read_unread, harg6.read_unread, harg7.read_unread,
    harg9.read_unread, harg10.read_unread, harg11.read_unread]
  exact canon_slabs (fun h => loadSlab (headScores x0 x1 x3 x4 h) (View.ld xs0 (rowRect h)) (View.ld xs2 (slabRect h))
    (View.ld x2 (vslabRect h))) []

/-! ## A tile past the diagonal: nothing changes -/

theorem level_B (hc0 : ¬cond0_0 i) (hc1 : ¬cond0_1 i) (hc2 : ¬cond0_2 i) (hc3 : ¬cond0_3 i) :
    sout0_B_0 c i arg3 harg3 arg4 harg4 arg5 harg5 arg6 harg6 arg7 harg7 arg8 harg8 arg9 harg9 arg10 harg10 arg11 harg11 hc0 hc1 hc2 hc3
      x0 x1 x2 x3 x4 xs0 xs1 xs2 = xs0 := by
  unfold sout0_B_0
  first
    | rfl
    | (unfold kernelRun0_B; rfl)

theorem mass_B (hc0 : ¬cond0_0 i) (hc1 : ¬cond0_1 i) (hc2 : ¬cond0_2 i) (hc3 : ¬cond0_3 i) :
    sout0_B_1 c i arg3 harg3 arg4 harg4 arg5 harg5 arg6 harg6 arg7 harg7 arg8 harg8 arg9 harg9 arg10 harg10 arg11 harg11 hc0 hc1 hc2 hc3
      x0 x1 x2 x3 x4 xs0 xs1 xs2 = xs1 := by
  unfold sout0_B_1
  first
    | rfl
    | (unfold kernelRun0_B; rfl)

theorem load_B (hc0 : ¬cond0_0 i) (hc1 : ¬cond0_1 i) (hc2 : ¬cond0_2 i) (hc3 : ¬cond0_3 i) :
    sout0_B_2 c i arg3 harg3 arg4 harg4 arg5 harg5 arg6 harg6 arg7 harg7 arg8 harg8 arg9 harg9 arg10 harg10 arg11 harg11 hc0 hc1 hc2 hc3
      x0 x1 x2 x3 x4 xs0 xs1 xs2 = xs2 := by
  unfold sout0_B_2
  first
    | rfl
    | (unfold kernelRun0_B; rfl)

/-! ## The last tile: the block of results is written -/

/-- Reading the whole of a buffer of 512 rows after the eight slab stores. -/
theorem read_slabs {κ : Kind} {sp : Space} (v : View sig κ sp S512x512 .f32) (f : Fin 8 → Vec Ideal S64x512 .f32)
    (L : List (View.Piece (Elt Ideal) S512x512 .f32)) (inb : ∀ a, (![0, 0] : Fin 2 → ℕ) a + S512x512.size a ≤ S512x512.size a) :
    v.readCov (eight (fun h => ⟨slabRect h, f h⟩) L) (Rect.unit ![0, 0] S512x512.size inb).toLoadRect = ofSlabs f := by
  rw [View.readCov_eq_canon', canon_slabs]
  funext j
  refine congrArg (ofSlabs f) (funext fun a => Fin.ext ?_)
  fin_cases a
  · show 0 + 1 * (j 0).val = (j 0).val; omega
  · show 0 + 1 * (j 1).val = (j 1).val; omega

/-- The stored rows and slabs, read back. -/
theorem ld_ofRows (f : Fin 8 → Vec Ideal S1x512 .f32) (h : Fin 8) : View.ld (ofRows f) (rowRect h) = f h := by
  funext x
  have hx : x = ix2 (n0 := 1) (n1 := 512) 0 (x 1) := by
    funext a; fin_cases a
    · exact Subsingleton.elim (α := Fin 1) _ _
    · rfl
  rw [hx]
  exact ld_row (ofRows f) h (x 1)

theorem ld_ofSlabs (f : Fin 8 → Vec Ideal S64x512 .f32) (h : Fin 8) : View.ld (ofSlabs f) (slabRect h) = f h := by
  funext x
  have hx : x = ix2 (n0 := 64) (n1 := 512) (x 0) (x 1) := by
    funext a; fin_cases a <;> rfl
  rw [hx]
  have key : ∀ (d : Fin 64) (t : Fin 512), ofSlabs f (ix2 (lane h d) t) = f h (ix2 d t) := fun d t => by
    show f (headOf (lane h d)) (ix2 (placeOf (lane h d)) t) = _
    rw [headOf_lane, placeOf_lane]
  exact (ld_slab (ofSlabs f) h (x 0) (x 1)).trans (key (x 0) (x 1))

theorem result_of (g : Fin 8 → Vec Ideal S1x512 .f32) (f : Fin 8 → Vec Ideal S64x512 .f32) :
    result (ofRows g) (ofSlabs f) = k0_pay7 (ofSlabs fun h => quotSlab (f h) (g h)) := by
  unfold result
  congr 2
  funext h
  rw [ld_ofRows, ld_ofSlabs]

theorem out_C (hc0 : ¬cond0_0 i) (hc1 : ¬cond0_1 i) (hc2 : ¬cond0_2 i) (hc3 : cond0_3 i) :
    out0_C_5 c i arg3 harg3 arg4 harg4 arg5 harg5 arg6 harg6 arg7 harg7 arg8 harg8 arg9 harg9 arg10 harg10 arg11 harg11 hc0 hc1 hc2 hc3
      x0 x1 x2 x3 x4 xs0 xs1 xs2 = result xs1 xs2 := by
  unfold out0_C_5
  rw [View.read_writes_junk_eq_canon]
  unfold kernelRun0_C
  dsimp only
  sl_unfold_words
  simp (disch := decide) only [↓View.readCov_skip, ↓View.readCov_cons_toLoadRect, ↓View.readCov_fill, View.readAt_eq_ld,
    harg3.read_unread, harg4.read_unread, harg5.read_unread, harg6.read_unread, harg7.read_unread,
    harg9.read_unread, harg10.read_unread, harg11.read_unread]
  rw [View.canon_cons_unit_zero (funext fun a => by fin_cases a <;> rfl)]
  exact congrArg (k0_pay7 (F := Ideal)) (read_slabs _ (fun h => quotSlab (View.ld xs2 (slabRect h)) (View.ld xs1 (rowRect h))) _ _)

theorem out_G (hc0 : ¬cond0_0 i) (hc1 : ¬cond0_1 i) (hc2 : cond0_2 i) (hc3 : cond0_3 i) :
    out0_G_5 c i arg3 harg3 arg4 harg4 arg5 harg5 arg6 harg6 arg7 harg7 arg8 harg8 arg9 harg9 arg10 harg10 arg11 harg11 hc0 hc1 hc2 hc3
      x0 x1 x2 x3 x4 xs0 xs1 xs2 = result (newMass (maskedScores i x0 x1 x3 x4) xs0 xs1) (newLoad (maskedScores i x0 x1 x3 x4) xs0 xs2 x2) := by
  unfold out0_G_5
  rw [View.read_writes_junk_eq_canon]
  unfold kernelRun0_G
  dsimp only
  sl_unfold_words
  simp (disch := decide) only [↓View.readCov_skip, ↓View.readCov_cons_toLoadRect, ↓View.readCov_fill, View.readAt_eq_ld,
    harg3.read_unread, harg4.read_unread, harg5.read_unread, harg6.read_unread, harg7.read_unread,
    harg9.read_unread, harg10.read_unread, harg11.read_unread]
  rw [View.canon_cons_unit_zero (funext fun a => by fin_cases a <;> rfl)]
  refine Eq.trans ?_ (result_of _ _).symm
  exact congrArg (k0_pay7 (F := Ideal)) (read_slabs _ (fun h => quotSlab
    (loadSlab (maskedScores i x0 x1 x3 x4 h) (View.ld xs0 (rowRect h)) (View.ld xs2 (slabRect h)) (View.ld x2 (vslabRect h)))
    (massRow (maskedScores i x0 x1 x3 x4 h) (View.ld xs0 (rowRect h)) (View.ld xs1 (rowRect h)))) _ _)

end Cert.KernelIdeal.Head

end
-- ==== Proof.First.lean ====
/- What the body leaves in the three carried buffers at the first tile of a query block, where it fills them before it
   reads them back. -/
module

public import proofs.«01_k».proof.Proof.Cases
public import proofs.«01_k».proof.Proof.Gen.KernelIdeal.Frame
public import Idealize.ShloMosaic.Lib.Pipeline.ReadBack

@[expose] public section

set_option maxRecDepth 16384

noncomputable section

namespace Cert.KernelIdeal.Head

open Idealize.ShloMosaic Cert.KernelIdeal Cert.KernelIdeal.Gen Cert.Layer Idealize.ShloMosaic.TcCoe Idealize.SL.Sem

variable (c : Dev nD) (i : grid0.Coords)
  (arg3 : Memref sig .tc .vmem S512x512 .bf16) (harg3 : arg3.IsWhole) (arg4 : Memref sig .tc .vmem S1x1024x512 .bf16) (harg4 : arg4.IsWhole)
  (arg5 : Memref sig .tc .vmem S512x1024 .bf16) (harg5 : arg5.IsWhole) (arg6 : Memref sig .tc .vmem S1x1024x8 .f32) (harg6 : arg6.IsWhole)
  (arg7 : Memref sig .tc .vmem S1x8x512 .f32) (harg7 : arg7.IsWhole) (arg8 : Memref sig .tc .vmem S1x512x512 .f32) (harg8 : arg8.IsWhole)
  (arg9 : Memref sig .tc .vmem S8x512 .f32) (harg9 : arg9.IsWhole) (arg10 : Memref sig .tc .vmem S8x512 .f32) (harg10 : arg10.IsWhole)
  (arg11 : Memref sig .tc .vmem S512x512 .f32) (harg11 : arg11.IsWhole)
  (x0 : Vec Ideal S512x512 .bf16) (x1 : Vec Ideal S1x1024x512 .bf16) (x2 : Vec Ideal S512x1024 .bf16) (x3 : Vec Ideal S1x1024x8 .f32)
  (x4 : Vec Ideal S1x8x512 .f32) (xs0 xs1 : Vec Ideal S8x512 .f32) (xs2 : Vec Ideal S512x512 .f32)

/-! ## The first tile, on the diagonal: the buffers start at `⊥`, zero and zero -/

theorem level_A (hc0 : cond0_0 i) (hc1 : ¬cond0_1 i) (hc2 : cond0_2 i) (hc3 : ¬cond0_3 i) :
    sout0_A_0 c i arg3 harg3 arg4 harg4 arg5 harg5 arg6 harg6 arg7 harg7 arg8 harg8 arg9 harg9 arg10 harg10 arg11 harg11 hc0 hc1 hc2 hc3
      x0 x1 x2 x3 x4 = newLevel (maskedScores i x0 x1 x3 x4) (k0_pay1 (F := Ideal)) := by
  unfold sout0_A_0
  rw [View.read_writes_junk_eq_canon]
  unfold kernelRun0_A
  dsimp only
  sl_unfold_words
  simp (disch := decide) only [↓View.readCov_skip, ↓View.readCov_cons_toLoadRect, ↓View.readCov_fill, View.readAt_eq_ld,
    harg3.read_unread, harg4.read_unread, harg5.read_unread, harg6.read_unread, harg7.read_unread]
  generalize k0_pay1 (F := Ideal) = z
  exact canon_rows (fun h => levelRow (maskedScores i x0 x1 x3 x4 h) (View.ld (Val := Elt Ideal) (e' := .f32) z (rowRect h))) _

theorem mass_A (hc0 : cond0_0 i) (hc1 : ¬cond0_1 i) (hc2 : cond0_2 i) (hc3 : ¬cond0_3 i) :
    sout0_A_1 c i arg3 harg3 arg4 harg4 arg5 harg5 arg6 harg6 arg7 harg7 arg8 harg8 arg9 harg9 arg10 harg10 arg11 harg11 hc0 hc1 hc2 hc3
      x0 x1 x2 x3 x4 = newMass (maskedScores i x0 x1 x3 x4) (k0_pay1 (F := Ideal)) (k0_pay2 (F := Ideal)) := by
  unfold sout0_A_1
  rw [View.read_writes_junk_eq_canon]
  unfold kernelRun0_A
  dsimp only
  sl_unfold_words
  simp (disch := decide) only [↓View.readCov_skip, ↓View.readCov_cons_toLoadRect, ↓View.readCov_fill, View.readAt_eq_ld,
    harg3.read_unread, harg4.read_unread, harg5.read_unread, harg6.read_unread, harg7.read_unread]
  generalize k0_pay1 (F := Ideal) = z, k0_pay2 (F := Ideal) = y
  exact canon_rows (fun h => massRow (maskedScores i x0 x1 x3 x4 h) (View.ld (Val := Elt Ideal) (e' := .f32) z (rowRect h))
    (View.ld (Val := Elt Ideal) (e' := .f32) y (rowRect h))) _

theorem load_A (hc0 : cond0_0 i) (hc1 : ¬cond0_1 i) (hc2 : cond0_2 i) (hc3 : ¬cond0_3 i) :
    sout0_A_2 c i arg3 harg3 arg4 harg4 arg5 harg5 arg6 harg6 arg7 harg7 arg8 harg8 arg9 harg9 arg10 harg10 arg11 harg11 hc0 hc1 hc2 hc3
      x0 x1 x2 x3 x4 = newLoad (maskedScores i x0 x1 x3 x4) (k0_pay1 (F := Ideal)) (k0_pay3 (F := Ideal)) x2 := by
  unfold sout0_A_2
  rw [View.read_writes_junk_eq_canon]
  unfold kernelRun0_A
  dsimp only
  sl_unfold_words
  simp (disch := decide) only [↓View.readCov_skip, ↓View.readCov_cons_toLoadRect, ↓View.readCov_fill, View.readAt_eq_ld,
    harg3.read_unread, harg4.read_unread, harg5.read_unread, harg6.read_unread, harg7.read_unread]
  generalize k0_pay1 (F := Ideal) = z, k0_pay3 (F := Ideal) = y
  exact canon_slabs (fun h => loadSlab (maskedScores i x0 x1 x3 x4 h) (View.ld (Val := Elt Ideal) (e' := .f32) z (rowRect h))
    (View.ld (Val := Elt Ideal) (e' := .f32) y (slabRect h)) (View.ld x2 (vslabRect h))) _

/-! ## The first tile, before the diagonal -/

theorem level_D (hc0 : cond0_0 i) (hc1 : cond0_1 i) (hc2 : ¬cond0_2 i) (hc3 : ¬cond0_3 i) :
    sout0_D_0 c i arg3 harg3 arg4 harg4 arg5 harg5 arg6 harg6 arg7 harg7 arg8 harg8 arg9 harg9 arg10 harg10 arg11 harg11 hc0 hc1 hc2 hc3
      x0 x1 x2 x3 x4 = newLevel (headScores x0 x1 x3 x4) (k0_pay1 (F := Ideal)) := by
  unfold sout0_D_0
  rw [View.read_writes_junk_eq_canon]
  unfold kernelRun0_D
  dsimp only
  sl_unfold_words
  simp (disch := decide) only [↓View.readCov_skip, ↓View.readCov_cons_toLoadRect, ↓View.readCov_fill, View.readAt_eq_ld,
    harg3.read_unread, harg4.read_unread, harg5.read_unread, harg6.read_unread, harg7.read_unread]
  generalize k0_pay1 (F := Ideal) = z
  exact canon_rows (fun h => levelRow (headScores x0 x1 x3 x4 h) (View.ld (Val := Elt Ideal) (e' := .f32) z (rowRect h))) _

theorem mass_D (hc0 : cond0_0 i) (hc1 : cond0_1 i) (hc2 : ¬cond0_2 i) (hc3 : ¬cond0_3 i) :
    sout0_D_1 c i arg3 harg3 arg4 harg4 arg5 harg5 arg6 harg6 arg7 harg7 arg8 harg8 arg9 harg9 arg10 harg10 arg11 harg11 hc0 hc1 hc2 hc3
      x0 x1 x2 x3 x4 = newMass (headScores x0 x1 x3 x4) (k0_pay1 (F := Ideal)) (k0_pay2 (F := Ideal)) := by
  unfold sout0_D_1
  rw [View.read_writes_junk_eq_canon]
  unfold kernelRun0_D
  dsimp only
  sl_unfold_words
  simp (disch := decide) only [↓View.readCov_skip, ↓View.readCov_cons_toLoadRect, ↓View.readCov_fill, View.readAt_eq_ld,
    harg3.read_unread, harg4.read_unread, harg5.read_unread, harg6.read_unread, harg7.read_unread]
  generalize k0_pay1 (F := Ideal) = z, k0_pay2 (F := Ideal) = y
  exact canon_rows (fun h => massRow (headScores x0 x1 x3 x4 h) (View.ld (Val := Elt Ideal) (e' := .f32) z (rowRect h))
    (View.ld (Val := Elt Ideal) (e' := .f32) y (rowRect h))) _

theorem load_D (hc0 : cond0_0 i) (hc1 : cond0_1 i) (hc2 : ¬cond0_2 i) (hc3 : ¬cond0_3 i) :
    sout0_D_2 c i arg3 harg3 arg4 harg4 arg5 harg5 arg6 harg6 arg7 harg7 arg8 harg8 arg9 harg9 arg10 harg10 arg11 harg11 hc0 hc1 hc2 hc3
      x0 x1 x2 x3 x4 = newLoad (headScores x0 x1 x3 x4) (k0_pay1 (F := Ideal)) (k0_pay3 (F := Ideal)) x2 := by
  unfold sout0_D_2
  rw [View.read_writes_junk_eq_canon]
  unfold kernelRun0_D
  dsimp only
  sl_unfold_words
  simp (disch := decide) only [↓View.readCov_skip, ↓View.readCov_cons_toLoadRect, ↓View.readCov_fill, View.readAt_eq_ld,
    harg3.read_unread, harg4.read_unread, harg5.read_unread, harg6.read_unread, harg7.read_unread]
  generalize k0_pay1 (F := Ideal) = z, k0_pay3 (F := Ideal) = y
  exact canon_slabs (fun h => loadSlab (headScores x0 x1 x3 x4 h) (View.ld (Val := Elt Ideal) (e' := .f32) z (rowRect h))
    (View.ld (Val := Elt Ideal) (e' := .f32) y (slabRect h)) (View.ld x2 (vslabRect h))) _

end Cert.KernelIdeal.Head

end
-- ==== Proof.Fold.lean ====
/- The kernel's running state: after a key tile the three carried buffers hold the largest score, the summed weights and
   the summed values over the keys met so far; after the last tile the output block holds the layer's result. -/
module

public import proofs.«01_k».proof.Proof.Blocks
public import proofs.«01_k».proof.Proof.Cases
public import proofs.«01_k».proof.Proof.First
public import proofs.«01_k».proof.Proof.Layer

@[expose] public section

set_option maxRecDepth 16384

noncomputable section

namespace Cert.KernelIdeal.Array

open Idealize.ShloMosaic Cert.KernelIdeal Cert.KernelIdeal.Gen Cert.KernelIdeal.Head Cert.Layer Cert.Softmax
open Idealize.ShloMosaic.TcCoe Idealize.SL.Sem

/-- The buffers hold the running quantities over the first `n` keys, the scores being `s` and the values `v`. -/
structure Holds (s : Fin 8 → Fin 512 → ℕ → EReal) (v : Fin 8 → Fin 64 → ℕ → EReal) (n : ℕ)
    (x l : Vec Ideal S8x512 .f32) (a : Vec Ideal S512x512 .f32) : Prop where
  level : ∀ h t, x (ix2 h t) = top (s h t) n
  mass : ∀ h t, l (ix2 h t) = mass (s h t) n
  load : ∀ h d t, a (ix2 (lane h d) t) = load (s h t) (v h d) n

/-- At the start no key has been met. -/
theorem holds_zero (s : Fin 8 → Fin 512 → ℕ → EReal) (v : Fin 8 → Fin 64 → ℕ → EReal) :
    Holds s v 0 (k0_pay1 (F := Ideal)) (k0_pay2 (F := Ideal)) (k0_pay3 (F := Ideal)) where
  level h t := by
    rw [top_zero]
    exact mask_bot
  mass h t := by
    rw [mass_zero]
    show k0_pay2 (F := Ideal) (ix2 h t) = 0
    unfold k0_pay2
    pointwise
  load h d t := by
    rw [load_zero]
    show k0_pay3 (F := Ideal) (ix2 (lane h d) t) = 0
    unfold k0_pay3
    pointwise

/-- A tile of 1024 keys further on. -/
theorem Holds.step {s : Fin 8 → Fin 512 → ℕ → EReal} {v : Fin 8 → Fin 64 → ℕ → EReal} {n : ℕ}
    {x l : Vec Ideal S8x512 .f32} {a : Vec Ideal S512x512 .f32} (H : Holds s v n x l a)
    (S : Fin 8 → FVec Ideal S1024x512 .f32) (w : Vec Ideal S512x1024 .bf16)
    (hS : ∀ h (j : Fin 1024) t, S h (ix2 j t) = s h t (n + j.val)) (hw : ∀ h d (j : Fin 1024), w (ix2 (lane h d) j) = v h d (n + j.val)) :
    Holds s v (n + 1024) (newLevel S x) (newMass S x l) (newLoad S x a w) := by
  have hl : ∀ h t, newLevel S x (ix2 h t) = top (s h t) (n + 1024) := fun h t => by
    rw [newLevel_apply, H.level, top_add]
    simp only [hS]
  refine ⟨hl, fun h t => ?_, fun h d t => ?_⟩
  · rw [newMass_apply, hl, H.level, H.mass, mass_add]
    simp only [hS]
  · rw [newLoad_apply, hl, H.level, H.load, load_add]
    simp only [hS, hw]

variable (m : (ℓ : Loc nD τ sig) → Buf (Elt Ideal) ℓ) (c : Dev nD)

/-- The scores and the values over the launch's arguments. -/
def scoreAt (b : Fin 2) (r : Fin 8192) (h : Fin 8) : ℕ → EReal :=
  score (fun e p => argQ m c (ix2 e p)) (fun b r e => argK m c (ix3 b r e)) (fun b r e => argC m c (ix3 b r e)) b h r
def valueAt (b : Fin 2) (h : Fin 8) (d : Fin 64) : ℕ → EReal := value (fun e p => argV m c (ix2 e p)) b h d

/-- The three carried buffers after a point. -/
def HoldsAt (b : Fin 2) (q : Fin 16) (p : Fin cfg0.N) (n : ℕ) : Prop :=
  Holds (fun h t => scoreAt m c b (query q t) h) (valueAt m c b) n
    (outsAt0 m c p.val p.isLt).2.1 (outsAt0 m c p.val p.isLt).2.2.1 (outsAt0 m c p.val p.isLt).2.2.2

variable (b : Fin 2) (q : Fin 16) (k : Fin 8)

/-- The tile's inner products and gate sums, before the mask. -/
theorem raw_scores (hk : k.val ≤ q.val / 2) (h : Fin 8) (j : Fin 1024) (t : Fin 512) (hjt : 1024 * k.val + j.val ≤ 512 * q.val + t.val) :
    headScores (iblk m c 0 (point b q k)) (iblk m c 1 (point b q k)) (iblk m c 3 (point b q k)) (iblk m c 4 (point b q k)) h (ix2 j t)
      = scoreAt m c b (query q t) h (1024 * k.val + j.val) := by
  have hkey : key (tileOf q k) j = ⟨1024 * k.val + j.val, by omega⟩ := Fin.ext (by
    show 1024 * min k.val (q.val / 2) + j.val = 1024 * k.val + j.val
    rw [min_eq_left hk])
  rw [headScores_apply, block_cq, block_ck, hkey]
  unfold scoreAt score
  rw [dif_pos (by omega), if_pos (show 1024 * k.val + j.val ≤ (query q t).val from hjt)]
  congr 2
  exact Finset.sum_congr rfl fun d _ => by rw [block_k, block_q, hkey]

/-- A tile wholly before the query block: no key is masked. -/
theorem scores_before (hk : k.val < q.val / 2) (h : Fin 8) (j : Fin 1024) (t : Fin 512) :
    headScores (iblk m c 0 (point b q k)) (iblk m c 1 (point b q k)) (iblk m c 3 (point b q k)) (iblk m c 4 (point b q k)) h (ix2 j t)
      = scoreAt m c b (query q t) h (1024 * k.val + j.val) :=
  raw_scores m c b q k hk.le h j t (by omega)

/-- The tile the diagonal crosses: keys after the query are masked. -/
theorem scores_diag (hk : k.val = q.val / 2) (h : Fin 8) (j : Fin 1024) (t : Fin 512) :
    maskedScores (grid0.coords (point b q k)) (iblk m c 0 (point b q k)) (iblk m c 1 (point b q k)) (iblk m c 3 (point b q k))
        (iblk m c 4 (point b q k)) h (ix2 j t)
      = scoreAt m c b (query q t) h (1024 * k.val + j.val) := by
  show headScores _ _ _ _ h (ix2 j t) + k0_pay72 _ _ (ix2 j t) = _
  obtain ⟨c1, c2⟩ := coords_point (point b q k)
  rw [point_block] at c1
  rw [point_tile] at c2
  rw [c1, c2, mask_apply q.val k.val q.isLt k.isLt]
  by_cases hjt : 1024 * k.val + j.val ≤ 512 * q.val + t.val
  · rw [if_pos hjt, add_zero, raw_scores m c b q k hk.le h j t hjt]
  · rw [if_neg hjt, EReal.add_bot]
    exact (score_of_lt _ _ _ (by show 512 * q.val + t.val < _; omega)).symm

/-- The tile's values. -/
theorem values_tile (hk : k.val ≤ q.val / 2) (h : Fin 8) (d : Fin 64) (j : Fin 1024) :
    iblk m c 2 (point b q k) (ix2 (lane h d) j) = valueAt m c b h d (1024 * k.val + j.val) := by
  have hkey : key (tileOf q k) j = ⟨1024 * k.val + j.val, by omega⟩ := Fin.ext (by
    show 1024 * min k.val (q.val / 2) + j.val = 1024 * k.val + j.val
    rw [min_eq_left hk])
  rw [block_v, hkey]
  unfold valueAt value
  rw [dif_pos (by omega)]

/-- The state a point starts from is the one the point before left. -/
theorem outs_congr {n n' : ℕ} (e : n = n') (hn : n < cfg0.N) (hn' : n' < cfg0.N) : outsAt0 m c n hn = outsAt0 m c n' hn' := by
  subst e; rfl

/-- The first tile. -/
theorem holds_first : HoldsAt m c b q (point b q 0) 1024 := by
  have hb := point_block b q 0
  have ht := point_tile b q 0
  have v0 : ((0 : Fin 8)).val = 0 := rfl
  by_cases hq : q.val / 2 = 0
  · have e := outsAt0_A m c (point b q 0) (by rw [ht]; rfl) (by rw [hb, ht, v0]; omega) (by rw [hb, ht, v0]; omega) (by rw [ht, v0]; omega)
    unfold HoldsAt
    rw [e]
    dsimp only
    rw [level_A, mass_A, load_A]
    have := (holds_zero (fun h t => scoreAt m c b (query q t) h) (valueAt m c b)).step _ (iblk m c 2 (point b q 0))
      (fun h j t => (scores_diag m c b q 0 hq.symm h j t).trans (by rw [v0])) (fun h d j => (values_tile m c b q 0 (Nat.zero_le _) h d j).trans (by rw [v0]))
    rwa [Nat.zero_add] at this
  · have e := outsAt0_D m c (point b q 0) (by rw [ht]; rfl) (by rw [hb, ht, v0]; omega) (by rw [hb, ht, v0]; omega) (by rw [ht, v0]; omega)
    unfold HoldsAt
    rw [e]
    dsimp only
    rw [level_D, mass_D, load_D]
    have := (holds_zero (fun h t => scoreAt m c b (query q t) h) (valueAt m c b)).step _ (iblk m c 2 (point b q 0))
      (fun h j t => (scores_before m c b q 0 (by rw [v0]; omega) h j t).trans (by rw [v0])) (fun h d j => (values_tile m c b q 0 (Nat.zero_le _) h d j).trans (by rw [v0]))
    rwa [Nat.zero_add] at this

/-- A later tile, other than the last of the grid. -/
theorem holds_next (k' : Fin 8) (hk' : k'.val = k.val + 1) (h7 : k'.val < 7)
    (H : HoldsAt m c b q (point b q k) (1024 * (min k.val (q.val / 2) + 1))) :
    HoldsAt m c b q (point b q k') (1024 * (min k'.val (q.val / 2) + 1)) := by
  have hb := point_block b q k'
  have ht := point_tile b q k'
  have hp : ∀ hn, outsAt0 m c ((point b q k').val - 1) hn = outsAt0 m c (point b q k).val (point b q k).isLt := fun hn =>
    outs_congr m c (by show 8 * (16 * b.val + q.val) + k'.val - 1 = 8 * (16 * b.val + q.val) + k.val; omega) _ _
  rcases lt_trichotomy k'.val (q.val / 2) with hq | hq | hq
  · have e := outsAt0_F m c (point b q k') (by rw [ht]; omega) (by rw [hb, ht]; omega) (by rw [hb, ht]; omega) (by rw [ht]; omega)
    unfold HoldsAt
    rw [e]
    dsimp only
    rw [level_F, mass_F, load_F]
    simp only [hp]
    have hn : 1024 * (min k.val (q.val / 2) + 1) = 1024 * k'.val := by rw [min_eq_left (by omega), hk']
    have hn' : 1024 * (min k'.val (q.val / 2) + 1) = 1024 * k'.val + 1024 := by rw [min_eq_left hq.le]; omega
    rw [hn] at H
    rw [hn']
    exact Holds.step H _ (iblk m c 2 (point b q k')) (fun h j t => scores_before m c b q k' hq h j t) (fun h d j => values_tile m c b q k' hq.le h d j)
  · have e := outsAt0_E m c (point b q k') (by rw [ht]; omega) (by rw [hb, ht]; omega) (by rw [hb, ht]; omega) (by rw [ht]; omega)
    unfold HoldsAt
    rw [e]
    dsimp only
    rw [level_E, mass_E, load_E]
    simp only [hp]
    have hn : 1024 * (min k.val (q.val / 2) + 1) = 1024 * k'.val := by rw [min_eq_left (by omega), hk']
    have hn' : 1024 * (min k'.val (q.val / 2) + 1) = 1024 * k'.val + 1024 := by rw [min_eq_left hq.le]; omega
    rw [hn] at H
    rw [hn']
    exact Holds.step H _ (iblk m c 2 (point b q k')) (fun h j t => scores_diag m c b q k' hq h j t) (fun h d j => values_tile m c b q k' hq.le h d j)
  · have e := outsAt0_B m c (point b q k') (by rw [ht]; omega) (by rw [hb, ht]; omega) (by rw [hb, ht]; omega) (by rw [ht]; omega)
    unfold HoldsAt
    rw [e]
    dsimp only
    rw [level_B, mass_B, load_B]
    simp only [hp]
    rw [min_eq_right hq.le]
    rwa [min_eq_right (by omega)] at H

/-- After every tile but the last of the grid. -/
theorem holds_upto : ∀ (n : ℕ) (hn : n < 7), HoldsAt m c b q (point b q ⟨n, by omega⟩) (1024 * (min n (q.val / 2) + 1))
  | 0, _ => by
    rw [Nat.zero_min]
    exact holds_first m c b q
  | n + 1, hn => holds_next m c b q ⟨n, by omega⟩ ⟨n + 1, by omega⟩ rfl hn (holds_upto n (by omega))

/-- A quotient of what the buffers hold is the layer's result, once all keys up to the query have been met. -/
theorem Holds.result {x l : Vec Ideal S8x512 .f32} {a : Vec Ideal S512x512 .f32}
    (H : Holds (fun h t => scoreAt m c b (query q t) h) (valueAt m c b) (1024 * (q.val / 2 + 1)) x l a) (t : Fin 512) (h : Fin 8) (d : Fin 64) :
    Head.result l a (ix3 0 t (lane h d))
      = attention (fun e p => argQ m c (ix2 e p)) (fun b r e => argK m c (ix3 b r e)) (fun e p => argV m c (ix2 e p))
          (fun b r e => argC m c (ix3 b r e)) (Ideal.ofBits .f32 0x0DA24260#32) b (query q t) h d := by
  rw [result_apply, H.load, H.mass,
    attention_eq _ b (query q t) h d (n := 1024 * (q.val / 2 + 1)) (by show 512 * q.val + t.val < _; omega) (by omega)]
  rfl

/-- What the last tile's point leaves in the output block. -/
theorem out_last (t : Fin 512) (h : Fin 8) (d : Fin 64) :
    (outsAt0 m c (point b q 7).val (point b q 7).isLt).1 (ix3 0 t (lane h d))
      = attention (fun e p => argQ m c (ix2 e p)) (fun b r e => argK m c (ix3 b r e)) (fun e p => argV m c (ix2 e p))
          (fun b r e => argC m c (ix3 b r e)) (Ideal.ofBits .f32 0x0DA24260#32) b (query q t) h d := by
  have hb := point_block b q 7
  have ht := point_tile b q 7
  have v7 : ((7 : Fin 8)).val = 7 := rfl
  have hp : ∀ hn, outsAt0 m c ((point b q 7).val - 1) hn = outsAt0 m c (point b q ⟨6, by omega⟩).val (point b q ⟨6, by omega⟩).isLt := fun hn =>
    outs_congr m c (by show 8 * (16 * b.val + q.val) + 7 - 1 = 8 * (16 * b.val + q.val) + 6; omega) _ _
  have H := holds_upto m c b q 6 (by omega)
  by_cases hq : q.val / 2 = 7
  · have e := outsAt0_G m c (point b q 7) (by rw [ht, v7]; omega) (by rw [hb, ht, v7]; omega) (by rw [hb, ht, v7]; omega) (by rw [ht, v7])
    rw [e]
    dsimp only
    rw [out_G]
    simp only [hp]
    have H' : Holds (fun h t => scoreAt m c b (query q t) h) (valueAt m c b) (1024 * (7 : Fin 8).val)
        (outsAt0 m c (point b q ⟨6, by omega⟩).val (point b q ⟨6, by omega⟩).isLt).2.1
        (outsAt0 m c (point b q ⟨6, by omega⟩).val (point b q ⟨6, by omega⟩).isLt).2.2.1
        (outsAt0 m c (point b q ⟨6, by omega⟩).val (point b q ⟨6, by omega⟩).isLt).2.2.2 := by
      have hn : 1024 * (min 6 (q.val / 2) + 1) = 1024 * (7 : Fin 8).val := by rw [v7]; omega
      rw [hn] at H
      exact H
    have K := Holds.step H' _ (iblk m c 2 (point b q 7)) (fun h j t => scores_diag m c b q 7 hq.symm h j t)
      (fun h d j => values_tile m c b q 7 hq.ge h d j)
    rw [show 1024 * (7 : Fin 8).val + 1024 = 1024 * (q.val / 2 + 1) by rw [v7]; omega] at K
    exact Holds.result m c b q K t h d
  · have e := outsAt0_C m c (point b q 7) (by rw [ht, v7]; omega) (by rw [hb, ht, v7]; omega) (by rw [hb, ht, v7]; omega) (by rw [ht, v7])
    rw [e]
    dsimp only
    rw [out_C]
    simp only [hp]
    rw [min_eq_right (by omega)] at H
    exact Holds.result m c b q H t h d

/-- The kernel's result array is the layer's result. -/
theorem result_apply (b : Fin 2) (r : Fin 8192) (h : Fin 8) (d : Fin 64) :
    result m c (ix3 b r (lane h d))
      = attention (fun e p => argQ m c (ix2 e p)) (fun b r e => argK m c (ix3 b r e)) (fun e p => argV m c (ix2 e p))
          (fun b r e => argC m c (ix3 b r e)) (Ideal.ofBits .f32 0x0DA24260#32) b r h d := by
  have e : query (blockOf r) (rowOf r) = r := Fin.ext (by show 512 * (r.val / 512) + r.val % 512 = r.val; omega)
  have := out_last m c b (blockOf r) (rowOf r) h d
  rw [e] at this
  exact this

end Cert.KernelIdeal.Array

end
-- ==== Proof.RefValue.lean ====
/- What the reference computes: the layer's result, position by position. -/
module

public import proofs.«01_k».proof.Proof.Gen.ReferenceIdeal.Read
public import proofs.«01_k».proof.Proof.Layer
public import Idealize.ShloMosaic.Lib.Pointwise
public import Idealize.ShloMosaic.Lib.WordCmp

@[expose] public section

noncomputable section

namespace Cert.ReferenceIdeal.Reading

open Idealize.ShloMosaic Cert.ReferenceIdeal Cert.ReferenceIdeal.Read Cert.Layer Cert.Softmax Idealize.SL.Sem

/-- The bits of minus infinity. -/
theorem bot_bits : Ideal.ofBits .f32 0xFF800000#32 = ⊥ := by
  simp [Ideal.ofBits, Ideal.ieee]
theorem zero_bits : Ideal.ofBits .f32 0x00000000#32 = 0 := by
  simp [Ideal.ofBits, Ideal.ieee]

variable (x0 : (⟨S512x16384, .bf16⟩ : BufTy).Contents (Elt Ideal)) (x1 : (⟨S2x8192x512, .bf16⟩ : BufTy).Contents (Elt Ideal))
  (x2 : (⟨S512x16384, .bf16⟩ : BufTy).Contents (Elt Ideal)) (x3 : (⟨S2x8192x128, .f32⟩ : BufTy).Contents (Elt Ideal))
  (b : Fin 2) (h : Fin 8) (r : Fin 8192)

/-- Head `h`'s queries, keys, values and gate sums. -/
theorem queries_apply (d : Fin 64) : val_main_v2 (F := Ideal) x0 (ix4 b r h d) = x0 (ix2 (lane h d) (col b r)) := by
  rw [val_main_v2_apply, val_main_v1_apply, val_main_v0_apply]
  refine congrArg x0 (funext fun a => ?_)
  fin_cases a
  · exact Fin.ext (by show (((b.val * 8192 + r.val) * 8 + h.val) * 64 + d.val) % 512 = 64 * h.val + d.val; omega)
  · exact Fin.ext (by show (((b.val * 8192 + r.val) * 8 + h.val) * 64 + d.val) / 512 = 8192 * b.val + r.val; omega)
theorem keys_apply (d : Fin 64) : val_main_v4 (F := Ideal) x1 (ix4 b r h d) = x1 (ix3 b r (lane h d)) := by
  rw [val_main_v4_apply, val_main_v3_apply]
  refine congrArg x1 (funext fun a => ?_)
  fin_cases a
  · exact Fin.ext (by show (((b.val * 8192 + r.val) * 8 + h.val) * 64 + d.val) / 4194304 = b.val; omega)
  · exact Fin.ext (by show (((b.val * 8192 + r.val) * 8 + h.val) * 64 + d.val) / 512 % 8192 = r.val; omega)
  · exact Fin.ext (by show (((b.val * 8192 + r.val) * 8 + h.val) * 64 + d.val) % 512 = 64 * h.val + d.val; omega)
theorem values_apply (d : Fin 64) : val_main_v7 (F := Ideal) x2 (ix4 b r h d) = x2 (ix2 (lane h d) (col b r)) := by
  rw [val_main_v7_apply, val_main_v6_apply, val_main_v5_apply]
  refine congrArg x2 (funext fun a => ?_)
  fin_cases a
  · exact Fin.ext (by show (((b.val * 8192 + r.val) * 8 + h.val) * 64 + d.val) % 512 = 64 * h.val + d.val; omega)
  · exact Fin.ext (by show (((b.val * 8192 + r.val) * 8 + h.val) * 64 + d.val) / 512 = 8192 * b.val + r.val; omega)
theorem gates_apply : val_main_v8 (F := Ideal) x3 (ix3 b r h) = x3 (ix3 b r (gate h)) := by
  rw [val_main_v8_apply]
  refine congrArg x3 (funext fun a => ?_)
  fin_cases a <;> rfl

/-- Query `r` meets key `j` when the key is not later. -/
theorem mask_apply (j : Fin 8192) : val_main_v23 (F := Ideal) (ix2 r j) = BitVec.ofBool (decide (j.val ≤ r.val)) := by
  rw [val_main_v23_apply, val_main_v21_apply, val_main_v19_apply, val_main_v9_apply, val_main_v22_apply, val_main_v20_apply, val_main_v9_apply]
  exact WordCmp.cmpi_sle_ofNat (by show j.val < 2 ^ 31; omega) (by show r.val < 2 ^ 31; omega)

/-- The scores over the arguments. -/
abbrev scoreOf : ℕ → EReal := score (fun e p => x0 (ix2 e p)) (fun b r e => x1 (ix3 b r e)) (fun b r e => x3 (ix3 b r e)) b h r

/-- Four coordinates of an index listed. -/
theorem ix4_ext {n0 n1 n2 n3 : ℕ} (i : (⟨4, ![n0, n1, n2, n3]⟩ : Shape).Idx) (a0 : Fin n0) (a1 : Fin n1) (a2 : Fin n2) (a3 : Fin n3)
    (h0 : (i 0).val = a0.val) (h1 : (i 1).val = a1.val) (h2 : (i 2).val = a2.val) (h3 : (i 3).val = a3.val) : i = ix4 a0 a1 a2 a3 := by
  funext a
  fin_cases a
  · exact Fin.ext h0
  · exact Fin.ext h1
  · exact Fin.ext h2
  · exact Fin.ext h3
/-- Three coordinates of an index listed. -/
theorem ix3_ext {n0 n1 n2 : ℕ} (i : (⟨3, ![n0, n1, n2]⟩ : Shape).Idx) (a0 : Fin n0) (a1 : Fin n1) (a2 : Fin n2)
    (h0 : (i 0).val = a0.val) (h1 : (i 1).val = a1.val) (h2 : (i 2).val = a2.val) : i = ix3 a0 a1 a2 := by
  funext a
  fin_cases a
  · exact Fin.ext h0
  · exact Fin.ext h1
  · exact Fin.ext h2
/-- Two coordinates of an index listed. -/
theorem ix2_ext {n0 n1 : ℕ} (i : (⟨2, ![n0, n1]⟩ : Shape).Idx) (a0 : Fin n0) (a1 : Fin n1)
    (h0 : (i 0).val = a0.val) (h1 : (i 1).val = a1.val) : i = ix2 a0 a1 := by
  funext a
  fin_cases a
  · exact Fin.ext h0
  · exact Fin.ext h1

/-- The masked scores. -/
theorem scores_apply (j : Fin 8192) : val_main_v24 (F := Ideal) x0 x1 x3 (ix4 b h r j) = scoreOf x0 x1 x3 b h r j.val := by
  have hm : val_main_call0_v1 (F := Ideal) (ix4 b h r j) = BitVec.ofBool (decide (j.val ≤ r.val)) := by
    rw [val_main_call0_v1_apply, ix2_ext (idx_main_call0_v1 (ix4 b h r j)) r j rfl rfl, mask_apply]
  have hq : val_main_v13 (F := Ideal) x3 (ix4 b h r j) = x3 (ix3 b r (gate h)) := by
    rw [val_main_v13_apply, val_main_v12_apply, val_main_v11_apply,
      ix3_ext (idx_main_v11 (idx_main_v12 (idx_main_v13 (ix4 b h r j)))) b r h rfl rfl rfl, gates_apply]
  have hk : val_main_v17 (F := Ideal) x3 (ix4 b h r j) = x3 (ix3 b j (gate h)) := by
    rw [val_main_v17_apply, val_main_v16_apply, val_main_v15_apply,
      ix3_ext (idx_main_v15 (idx_main_v16 (idx_main_v17 (ix4 b h r j)))) b j h rfl rfl rfl, gates_apply]
  have hd : val_main_v10 (F := Ideal) x0 x1 (ix4 b h r j) = ∑ d : Fin 64, x1 (ix3 b j (lane h d)) * x0 (ix2 (lane h d) (col b r)) := by
    rw [val_main_v10_apply]
    refine Finset.sum_congr rfl fun d _ => ?_
    rw [ix4_ext (lidx_main_v10 (ix4 b h r j) d) b r h d rfl rfl rfl rfl, ix4_ext (ridx_main_v10 (ix4 b h r j) d) b j h d rfl rfl rfl rfl,
      queries_apply, keys_apply]
    exact mul_comm (G := EReal) _ _
  rw [val_main_v24_apply, hm, val_main_v18_apply, val_main_v14_apply, hd, hq, hk, val_main_call0_v2_apply, val_main_call0_v0_apply,
    val_main_cst_apply]
  unfold scoreOf score
  rw [dif_pos j.isLt]
  by_cases hj : j.val ≤ r.val
  · rw [decide_eq_true hj, if_pos hj]; rfl
  · rw [decide_eq_false hj, if_neg hj]; exact bot_bits

/-- The largest score. -/
theorem top_apply : val_main_v25 (F := Ideal) x0 x1 x3 (ix3 b h r) = top (scoreOf x0 x1 x3 b h r) 8192 := by
  have hR : S2x8x8192x8192.Reduces [3] S2x8x8192 := by decide
  unfold val_main_v25
  generalize hy : val_main_v24 (F := Ideal) x0 x1 x3 = y
  refine (Host.reduce_eq_fold_single (FloatOps.maximumf (F := Ideal) (φ := .f32)) y _ _ hR _ _).trans ?_
  have hl : ∀ j : Fin 8192, y (hR.lift (ix3 b h r) j) = scoreOf x0 x1 x3 b h r (0 + j.val) := fun j => by
    have hj := scores_apply x0 x1 x3 b h r j
    rw [hy] at hj
    rw [Nat.zero_add, ← hj]
    exact congrArg y (ix4_ext _ b h r j rfl rfl rfl rfl)
  have hf : (y ∘ hR.lift (ix3 b h r)) = fun j : Fin 8192 => scoreOf x0 x1 x3 b h r (0 + j.val) := funext hl
  have hi : val_main_cst_0 (F := Ideal) (Shape.Idx.first Cert.ReferenceIdeal.Gen.h_S_) = (⊥ : EReal) := bot_bits
  have ht := top_add (scoreOf x0 x1 x3 b h r) 0 8192
  rw [top_zero, Nat.zero_add] at ht
  rw [ht, hf, hi]
  exact (max_eq_right bot_le).symm

/-- A key's weight, before it is divided by their sum. -/
theorem weight_apply (j : Fin 8192) : val_main_v33 (F := Ideal) x0 x1 x3 (ix4 b h r j)
    = Ideal.exp (scoreOf x0 x1 x3 b h r j.val - top (scoreOf x0 x1 x3 b h r) 8192) := by
  have ht : val_main_v27 (F := Ideal) x0 x1 x3 (ix4 b h r j) = top (scoreOf x0 x1 x3 b h r) 8192 := by
    rw [val_main_v27_apply, val_main_v26_apply, ix3_ext (idx_main_v26 (idx_main_v27 (ix4 b h r j))) b h r rfl rfl rfl, top_apply]
  have hm : val_main_v32 (F := Ideal) (ix4 b h r j) = if j.val ≤ r.val then (1 : EReal) else 0 := by
    rw [val_main_v32_apply, val_main_v31_apply, val_main_v30_apply,
      ix2_ext (idx_main_v31 (idx_main_v32 (ix4 b h r j))) r j rfl rfl, mask_apply]
    by_cases hj : j.val ≤ r.val
    · rw [decide_eq_true hj, if_pos hj]
      show (((1 : ℕ) : ℝ) : EReal) = 1
      simp
    · rw [decide_eq_false hj, if_neg hj]
      show (((0 : ℕ) : ℝ) : EReal) = 0
      simp
  rw [val_main_v33_apply, val_main_v29_apply, val_main_v28_apply, ht, hm, scores_apply]
  show Ideal.exp (scoreOf x0 x1 x3 b h r j.val - top (scoreOf x0 x1 x3 b h r) 8192) * (if j.val ≤ r.val then (1 : EReal) else 0) = _
  by_cases hj : j.val ≤ r.val
  · rw [if_pos hj, mul_one]
  · rw [if_neg hj, mul_zero]
    have hs : scoreOf x0 x1 x3 b h r j.val = ⊥ := score_of_lt b h r (by omega)
    rw [hs, EReal.bot_sub]
    simp

/-- The sum of the weights, held above the floor. -/
theorem mass_apply (j : Fin 8192) : val_main_v38 (F := Ideal) x0 x1 x3 (ix4 b h r j)
    = max (mass (scoreOf x0 x1 x3 b h r) 8192) (Ideal.ofBits .f32 0x0DA24260#32) := by
  rw [val_main_v38_apply, val_main_v37_apply, val_main_v35_apply, val_main_v36_apply, val_main_cst_2_apply,
    ix3_ext (idx_main_v35 (idx_main_v38 (ix4 b h r j))) b h r rfl rfl rfl, val_main_v34_apply]
  have hs : (∑ k : Fin 8192, val_main_v33 (F := Ideal) x0 x1 x3 (idx_main_v34 (ix3 b h r) k)) = mass (scoreOf x0 x1 x3 b h r) 8192 := by
    unfold mass
    rw [Finset.sum_range]
    exact Finset.sum_congr rfl fun k _ => by
      rw [ix4_ext (idx_main_v34 (ix3 b h r) k) b h r k rfl rfl rfl rfl, weight_apply]
  have hz : val_main_cst_1 (F := Ideal) (Shape.Idx.first Cert.ReferenceIdeal.Gen.h_S_) = (0 : EReal) := zero_bits
  rw [hs, hz, zero_add]
  rfl

/-- The floor is positive and finite. -/
theorem floor_real : ∃ x : ℝ, 0 < x ∧ Ideal.ofBits .f32 0x0DA24260#32 = (x : EReal) :=
  ⟨10633824 * (2 ^ 123)⁻¹, by positivity, by simp [Ideal.ofBits, Ideal.ieee]⟩
theorem floor_pos : (0 : EReal) < Ideal.ofBits .f32 0x0DA24260#32 := by
  obtain ⟨x, hx, e⟩ := floor_real
  rw [e]
  exact EReal.coe_pos.mpr hx
theorem floor_ne_top : Ideal.ofBits .f32 0x0DA24260#32 ≠ (⊤ : EReal) := by
  obtain ⟨x, hx, e⟩ := floor_real
  rw [e]
  exact EReal.coe_ne_top x

/-- The reference's result is the layer's. -/
theorem result_apply (d : Fin 64) : val_main_v42 (F := Ideal) x0 x1 x2 x3 (ix3 b r (lane h d))
    = attention (fun e p => x0 (ix2 e p)) (fun b r e => x1 (ix3 b r e)) (fun e p => x2 (ix2 e p)) (fun b r e => x3 (ix3 b r e))
        (Ideal.ofBits .f32 0x0DA24260#32) b r h d := by
  have hi : idx_main_v41 (idx_main_v42 (ix3 b r (lane h d))) = ix4 b h d r :=
    ix4_ext _ b h d r
      (by show ((b.val * 8192 + r.val) * 512 + (64 * h.val + d.val)) / 4194304 = b.val; omega)
      (by show ((b.val * 8192 + r.val) * 512 + (64 * h.val + d.val)) / 64 % 8 = h.val; omega)
      (by show ((b.val * 8192 + r.val) * 512 + (64 * h.val + d.val)) % 64 = d.val; omega)
      (by show ((b.val * 8192 + r.val) * 512 + (64 * h.val + d.val)) / 512 % 8192 = r.val; omega)
  rw [val_main_v42_apply, val_main_v41_apply, hi, val_main_v40_apply]
  unfold attention
  rw [load_div _ _ _ floor_pos floor_ne_top, Finset.sum_range]
  refine Finset.sum_congr rfl fun j _ => ?_
  rw [ix4_ext (lidx_main_v40 (ix4 b h d r) j) b j h d rfl rfl rfl rfl, ix4_ext (ridx_main_v40 (ix4 b h d r) j) b h r j rfl rfl rfl rfl,
    values_apply, val_main_v39_apply, weight_apply, mass_apply]
  have hv : value (fun e p => x2 (ix2 e p)) b h d j.val = x2 (ix2 (lane h d) (col b j)) := by
    unfold value
    rw [dif_pos j.isLt]
  rw [hv]
  exact mul_comm (G := EReal) _ _

end Cert.ReferenceIdeal.Reading

end
-- ==== Proof.FfnBody.lean ====
/- The feed-forward block's kernel: what one run of its body leaves. The first chunk of a row block normalises the rows and
   starts the sums from zero; the last adds its own share and the residual. -/
module

public import proofs.«01_k».proof.Proof.Gen.Kernel2Ideal.Frame
public import Idealize.ShloMosaic.Lib.Pipeline.Value
public import Idealize.ShloMosaic.Lib.Pipeline.ReadBack
public import Idealize.ShloMosaic.Lib.Pointwise

@[expose] public section

set_option maxRecDepth 16384

noncomputable section

namespace Cert.Kernel2Ideal.Body

open Idealize.ShloMosaic Cert.Kernel2Ideal Cert.Kernel2Ideal.Gen Idealize.ShloMosaic.TcCoe Idealize.SL.Sem

variable (c : Dev nD) (i : grid0.Coords)
  (arg2 : Memref sig .tc .vmem S1024x1024 .f32) (harg2 : arg2.IsWhole) (arg3 : Memref sig .tc .vmem S1x1024 .f32) (harg3 : arg3.IsWhole)
  (arg4 : Memref sig .tc .vmem S1024x1408 .bf16) (harg4 : arg4.IsWhole) (arg5 : Memref sig .tc .vmem S1024x1408 .bf16) (harg5 : arg5.IsWhole)
  (arg6 : Memref sig .tc .vmem S1408x1024 .bf16) (harg6 : arg6.IsWhole) (arg7 : Memref sig .tc .vmem S1024x1024 .f32) (harg7 : arg7.IsWhole)
  (arg8 : Memref sig .tc .vmem S1024x1024 .bf16) (harg8 : arg8.IsWhole) (arg9 : Memref sig .tc .vmem S1024x1024 .f32) (harg9 : arg9.IsWhole)
  (x0 : Vec Ideal S1024x1024 .f32) (x1 : Vec Ideal S1x1024 .f32) (x2 x3 : Vec Ideal S1024x1408 .bf16) (x4 : Vec Ideal S1408x1024 .bf16)
  (xs0 : Vec Ideal S1024x1024 .bf16) (xs1 : Vec Ideal S1024x1024 .f32)

/-- Every access starts at the buffer's origin. -/
theorem origin : (![0, 0] : Fin 2 → ℕ) = fun _ => 0 := by decide

/-- The first chunk leaves the normalised rows, -/
theorem rows_A (hc0 : cond0_0 i) (hc1 : ¬cond0_1 i) :
    sout0_A_0 c i arg2 harg2 arg3 harg3 arg4 harg4 arg5 harg5 arg6 harg6 arg7 harg7 arg8 harg8 arg9 harg9 hc0 hc1 x0 x1 x2 x3 x4
      = k0_pay1 x0 x1 := by
  unfold sout0_A_0
  rw [View.read_writes_junk_eq_canon]
  unfold kernelRun0_A
  dsimp only
  sl_unfold_words
  refine (View.canon_cons_unit_zero origin _ _ _).trans ?_
  simp only [View.readAt_eq_ld, harg2.read_unread, harg3.read_unread]
  rw [View.ld_unit_zero (S := S1024x1024) origin _ x0, View.ld_unit_zero (S := S1x1024) origin _ x1]

/-- and its share of the sums; -/
theorem sums_A (hc0 : cond0_0 i) (hc1 : ¬cond0_1 i) :
    sout0_A_1 c i arg2 harg2 arg3 harg3 arg4 harg4 arg5 harg5 arg6 harg6 arg7 harg7 arg8 harg8 arg9 harg9 hc0 hc1 x0 x1 x2 x3 x4
      = k0_pay3 (k0_pay1 x0 x1) x2 x3 (k0_pay2 (F := Ideal)) x4 := by
  unfold sout0_A_1
  rw [View.read_writes_junk_eq_canon]
  unfold kernelRun0_A
  dsimp only
  sl_unfold_words
  refine (View.canon_cons_unit_zero origin _ _ _).trans ?_
  simp (disch := decide) only [↓View.readCov_skip, ↓View.readCov_cons_toLoadRect, ↓View.readCov_fill, View.readAt_eq_ld,
    harg2.read_unread, harg3.read_unread, harg4.read_unread, harg5.read_unread, harg6.read_unread]
  rw [View.ld_unit_zero (S := S1024x1024) origin _ x0, View.ld_unit_zero (S := S1x1024) origin _ x1, View.ld_unit_zero (S := S1024x1408) origin _ x2, View.ld_unit_zero (S := S1024x1408) origin _ x3, View.ld_unit_zero (S := S1408x1024) origin _ x4]

/-- the last adds its own to them and to the residual. -/
theorem out_B (hc0 : ¬cond0_0 i) (hc1 : cond0_1 i) :
    out0_B_5 c i arg2 harg2 arg3 harg3 arg4 harg4 arg5 harg5 arg6 harg6 arg7 harg7 arg8 harg8 arg9 harg9 hc0 hc1 x0 x1 x2 x3 x4 xs0 xs1
      = k0_pay4 x0 (k0_pay3 xs0 x2 x3 xs1 x4) := by
  unfold out0_B_5
  rw [View.read_writes_junk_eq_canon]
  unfold kernelRun0_B
  dsimp only
  sl_unfold_words
  refine (View.canon_cons_unit_zero origin _ _ _).trans ?_
  simp (disch := decide) only [↓View.readCov_skip, ↓View.readCov_cons_toLoadRect, ↓View.readCov_fill, View.readAt_eq_ld,
    harg2.read_unread, harg4.read_unread, harg5.read_unread, harg6.read_unread, harg8.read_unread, harg9.read_unread]
  rw [View.ld_unit_zero (S := S1024x1024) origin _ x0, View.ld_unit_zero (S := S1024x1024) origin _ xs0, View.ld_unit_zero (S := S1024x1408) origin _ x2, View.ld_unit_zero (S := S1024x1408) origin _ x3, View.ld_unit_zero (S := S1024x1024) origin _ xs1, View.ld_unit_zero (S := S1408x1024) origin _ x4]

/-! ## The body's values, entry by entry -/

variable (r e : Fin 1024)

/-- A row's entries normalised. -/
theorem rows_apply : k0_pay1 (F := Ideal) x0 x1 (ix2 r e)
    = x0 (ix2 r e) * Ideal.rsqrt (Ideal.div (∑ k : Fin 1024, x0 (ix2 r k) * x0 (ix2 r k)) (Ideal.ofBits .f32 0x44800000#32)
        + Ideal.ofBits .f32 0x358637BD#32) * x1 (ix2 0 e) := by
  unfold k0_pay1
  pointwise

theorem start_apply : k0_pay2 (F := Ideal) (ix2 r e) = 0 := by
  unfold k0_pay2
  pointwise

/-- The gate and the value of a hidden unit, -/
def gateSum (xn : Vec Ideal S1024x1024 .bf16) (w : Vec Ideal S1024x1408 .bf16) (r : Fin 1024) (j : Fin 1408) : EReal :=
  ∑ k : Fin 1024, xn (ix2 r k) * w (ix2 k j)
/-- and the unit, from both. -/
def unit (a b : EReal) : EReal :=
  a * Ideal.div 1 (1 + Ideal.exp (0 - a)) * b

/-- A chunk's hidden units weighed and added to the sums. -/
theorem share_apply : k0_pay3 (F := Ideal) xs0 x2 x3 xs1 x4 (ix2 r e)
    = xs1 (ix2 r e) + ∑ j : Fin 1408, unit (gateSum xs0 x2 r j) (gateSum xs0 x3 r j) * x4 (ix2 j e) := by
  unfold k0_pay3
  pointwise
  rfl

theorem last_apply (y : Vec Ideal S1024x1024 .f32) : k0_pay4 (F := Ideal) x0 y (ix2 r e) = x0 (ix2 r e) + y (ix2 r e) := by
  unfold k0_pay4
  pointwise

end Cert.Kernel2Ideal.Body

end
-- ==== Proof.FfnArray.lean ====
/- The feed-forward block's kernel: its result array, entry by entry, over the kernel's arguments. Rows go by blocks of
   1024, hidden units by two chunks of 1408; grid point `2q + a` does chunk `a` of row block `q`. -/
module

public import proofs.«01_k».proof.Proof.FfnBody
public import proofs.«01_k».proof.Proof.Gen.Kernel2Ideal.Value

@[expose] public section

set_option maxRecDepth 16384

noncomputable section

namespace Cert.Kernel2Ideal.Chunks

open Idealize.ShloMosaic Cert.Kernel2Ideal Cert.Kernel2Ideal.Gen Cert.Kernel2Ideal.Body Idealize.ShloMosaic.TcCoe Idealize.SL.Sem

/-- Row `r` of row block `q`, -/
def row (q : Fin 16) (r : Fin 1024) : Fin 16384 := ⟨1024 * q.val + r.val, by omega⟩
/-- hidden unit `j` of chunk `a`, -/
def hid (a : Fin 2) (j : Fin 1408) : Fin 2816 := ⟨1408 * a.val + j.val, by omega⟩
/-- the columns of the first weight that give a hidden unit's gate and its value, -/
def gateCol (h : Fin 2816) : Fin 5632 := ⟨h.val, by omega⟩
def valueCol (h : Fin 2816) : Fin 5632 := ⟨2816 + h.val, by omega⟩
/-- and the grid point. -/
def point (q : Fin 16) (a : Fin 2) : Fin cfg0.N := ⟨2 * q.val + a.val, lt_of_lt_of_eq (by omega) N_0.symm⟩

/-! ## The layer, over its arguments -/

section Layer

variable (y : Vec Ideal S16384x1024 .f32) (g : Vec Ideal S1024 .f32) (u : Vec Ideal S1024x5632 .f32) (d : Vec Ideal S2816x1024 .f32)

/-- Row `r` normalised, -/
def normed (r : Fin 16384) (k : Fin 1024) : EReal :=
  y (ix2 r k) * Ideal.rsqrt (Ideal.div (∑ k : Fin 1024, y (ix2 r k) * y (ix2 r k)) (Ideal.ofBits .f32 0x44800000#32)
    + Ideal.ofBits .f32 0x358637BD#32) * g (ix1 k)
/-- its hidden units, -/
def hidden (r : Fin 16384) (h : Fin 2816) : EReal :=
  unit (∑ k : Fin 1024, normed y g r k * u (ix2 k (gateCol h))) (∑ k : Fin 1024, normed y g r k * u (ix2 k (valueCol h)))
/-- and the layer's result. -/
def layer (r : Fin 16384) (e : Fin 1024) : EReal := y (ix2 r e) + ∑ h : Fin 2816, hidden y g u r h * d (ix2 h e)

/-- The hidden units' sum, chunk by chunk. -/
theorem layer_chunks (r : Fin 16384) (e : Fin 1024) : layer y g u d r e = y (ix2 r e)
    + ((∑ j : Fin 1408, hidden y g u r (hid 0 j) * d (ix2 (hid 0 j) e)) + ∑ j : Fin 1408, hidden y g u r (hid 1 j) * d (ix2 (hid 1 j) e)) := by
  unfold layer
  refine congrArg (fun s : EReal => y (ix2 r e) + s) ?_
  rw [Fin.sum_univ_add (a := 1408) (b := 1408) (fun h : Fin 2816 => hidden y g u r h * d (ix2 h e))]
  have h0 : ∀ j : Fin 1408, (Fin.castAdd 1408 j : Fin 2816) = hid 0 j := fun j => Fin.ext (by show j.val = 1408 * 0 + j.val; omega)
  have h1 : ∀ j : Fin 1408, (Fin.natAdd 1408 j : Fin 2816) = hid 1 j := fun j => Fin.ext (by show 1408 + j.val = 1408 * 1 + j.val; omega)
  simp only [h0, h1]

end Layer

variable (m : (ℓ : Loc nD τ sig) → Buf (Elt Ideal) ℓ) (ρ : Dev nD → PrngReg) (c : Dev nD)

/-- The arguments: the residual stream, the normalisation's scale, the two weights. -/
def argY : Vec Ideal S16384x1024 .f32 := m ((c : Thread nD τ).loc main_arg0)
def argG : Vec Ideal S1024 .f32 := m ((c : Thread nD τ).loc main_arg1)
def argU : Vec Ideal S1024x5632 .f32 := m ((c : Thread nD τ).loc main_arg2)
def argD : Vec Ideal S2816x1024 .f32 := m ((c : Thread nD τ).loc main_arg3)

/-! ## What a point stages -/

theorem index0 : ∀ t : Fin cfg0.N, win0_0.index t (0 : Fin 2) = t.val / 2 ∧ win0_0.index t (1 : Fin 2) = 0 :=
  (by decide +kernel : ∀ t : Fin grid0.N, _)
theorem index1 : ∀ t : Fin cfg0.N, win0_1.index t (0 : Fin 2) = 0 ∧ win0_1.index t (1 : Fin 2) = 0 :=
  (by decide +kernel : ∀ t : Fin grid0.N, _)
theorem index2 : ∀ t : Fin cfg0.N, win0_2.index t (0 : Fin 2) = 0 ∧ win0_2.index t (1 : Fin 2) = t.val % 2 :=
  (by decide +kernel : ∀ t : Fin grid0.N, _)
theorem index3 : ∀ t : Fin cfg0.N, win0_3.index t (0 : Fin 2) = 0 ∧ win0_3.index t (1 : Fin 2) = 2 + t.val % 2 :=
  (by decide +kernel : ∀ t : Fin grid0.N, _)
theorem index4 : ∀ t : Fin cfg0.N, win0_4.index t (0 : Fin 2) = t.val % 2 ∧ win0_4.index t (1 : Fin 2) = 0 :=
  (by decide +kernel : ∀ t : Fin grid0.N, _)

/-- What the host passes on: the scale as a row, the weights in the narrow format. -/
theorem scale_eq (k : Fin 1024) : V m c main_v0 (ix2 0 k) = argG m c (ix1 k) := by
  have e : V m c main_v0 = (shapeCast S1x1024 (argG m c) shapeCasts_S1024_S1x1024 : Vec Ideal S1x1024 .f32) := by
    show StableHlo.after hostOps0 _ _ = _
    simp only [hostOps0]
    after_results
    rfl
  rw [e]
  pointwise
theorem first_eq (i : S1024x5632.Idx) : V m c main_v1 i = argU m c i := by
  have e : V m c main_v1 = truncf (F := Ideal) (s := S1024x5632) (φ := .f32) .bf16 (argU m c) bitsLt_bf16_f32 := by
    show StableHlo.after hostOps0 _ _ = _
    simp only [hostOps0]
    after_results
    rfl
  rw [e]
  rfl
theorem second_eq (i : S2816x1024.Idx) : V m c main_v2 i = argD m c i := by
  have e : V m c main_v2 = truncf (F := Ideal) (s := S2816x1024) (φ := .f32) .bf16 (argD m c) bitsLt_bf16_f32 := by
    show StableHlo.after hostOps0 _ _ = _
    simp only [hostOps0]
    after_results
    rfl
  rw [e]
  rfl

variable (q : Fin 16) (a : Fin 2)

/-- A point's number, taken apart. -/
theorem point_rows : (point q a).val / 2 = q.val := by show (2 * q.val + a.val) / 2 = q.val; omega
theorem point_chunk : (point q a).val % 2 = a.val := by show (2 * q.val + a.val) % 2 = a.val; omega

theorem block_y (r e : Fin 1024) : iblk m c 0 (point q a) (ix2 r e) = argY m c (ix2 (row q r) e) := by
  obtain ⟨i0, i1⟩ := index0 (point q a)
  rw [point_rows] at i0
  generalize point q a = t at *
  show V m c main_arg0 (((cfg0.win 0).blk t).view.emb (ix2 r e)) = _
  rw [V_main_arg0]
  refine congrArg (argY m c) (funext fun a => Fin.ext ?_)
  match a with
  | ⟨0, _⟩ => show win0_0.index t (0 : Fin 2) * 1024 + 1 * r.val = 1024 * q.val + r.val; rw [i0]; omega
  | ⟨1, _⟩ => show win0_0.index t (1 : Fin 2) * 1024 + 1 * e.val = e.val; rw [i1]; omega
theorem block_g (k : Fin 1024) : iblk m c 1 (point q a) (ix2 0 k) = argG m c (ix1 k) := by
  obtain ⟨i0, i1⟩ := index1 (point q a)
  rw [← scale_eq]
  generalize point q a = t at *
  show V m c main_v0 (((cfg0.win 1).blk t).view.emb (ix2 0 k)) = _
  refine congrArg (V m c main_v0) (funext fun a => Fin.ext ?_)
  match a with
  | ⟨0, _⟩ => show win0_1.index t (0 : Fin 2) * 1 + 1 * 0 = 0; rw [i0]
  | ⟨1, _⟩ => show win0_1.index t (1 : Fin 2) * 1024 + 1 * k.val = k.val; rw [i1]; omega
theorem block_gate (k : Fin 1024) (j : Fin 1408) : iblk m c 2 (point q a) (ix2 k j) = argU m c (ix2 k (gateCol (hid a j))) := by
  obtain ⟨i0, i1⟩ := index2 (point q a)
  rw [point_chunk] at i1
  rw [← first_eq]
  generalize point q a = t at *
  show V m c main_v1 (((cfg0.win 2).blk t).view.emb (ix2 k j)) = _
  refine congrArg (V m c main_v1) (funext fun b => Fin.ext ?_)
  match b with
  | ⟨0, _⟩ => show win0_2.index t (0 : Fin 2) * 1024 + 1 * k.val = k.val; rw [i0]; omega
  | ⟨1, _⟩ => show win0_2.index t (1 : Fin 2) * 1408 + 1 * j.val = 1408 * a.val + j.val; rw [i1]; omega
theorem block_value (k : Fin 1024) (j : Fin 1408) : iblk m c 3 (point q a) (ix2 k j) = argU m c (ix2 k (valueCol (hid a j))) := by
  obtain ⟨i0, i1⟩ := index3 (point q a)
  rw [point_chunk] at i1
  rw [← first_eq]
  generalize point q a = t at *
  show V m c main_v1 (((cfg0.win 3).blk t).view.emb (ix2 k j)) = _
  refine congrArg (V m c main_v1) (funext fun b => Fin.ext ?_)
  match b with
  | ⟨0, _⟩ => show win0_3.index t (0 : Fin 2) * 1024 + 1 * k.val = k.val; rw [i0]; omega
  | ⟨1, _⟩ => show win0_3.index t (1 : Fin 2) * 1408 + 1 * j.val = 2816 + (1408 * a.val + j.val); rw [i1]; omega
theorem block_d (j : Fin 1408) (e : Fin 1024) : iblk m c 4 (point q a) (ix2 j e) = argD m c (ix2 (hid a j) e) := by
  obtain ⟨i0, i1⟩ := index4 (point q a)
  rw [point_chunk] at i0
  rw [← second_eq]
  generalize point q a = t at *
  show V m c main_v2 (((cfg0.win 4).blk t).view.emb (ix2 j e)) = _
  refine congrArg (V m c main_v2) (funext fun b => Fin.ext ?_)
  match b with
  | ⟨0, _⟩ => show win0_4.index t (0 : Fin 2) * 1408 + 1 * j.val = 1408 * a.val + j.val; rw [i0]; omega
  | ⟨1, _⟩ => show win0_4.index t (1 : Fin 2) * 1024 + 1 * e.val = e.val; rw [i1]; omega

/-! ## What the two points of a row block leave -/

/-- The normalised rows, at a point of the block. -/
theorem rows_point (r k : Fin 1024) : k0_pay1 (F := Ideal) (iblk m c 0 (point q a)) (iblk m c 1 (point q a)) (ix2 r k)
    = normed (argY m c) (argG m c) (row q r) k := by
  rw [rows_apply]
  simp only [block_y, block_g]
  rfl

/-- A chunk's share of a row's sums, given the normalised rows. -/
theorem share_point (xn : Vec Ideal S1024x1024 .bf16) (acc : Vec Ideal S1024x1024 .f32) (r e : Fin 1024)
    (hx : ∀ k : Fin 1024, xn (ix2 r k) = normed (argY m c) (argG m c) (row q r) k) :
    k0_pay3 (F := Ideal) xn (iblk m c 2 (point q a)) (iblk m c 3 (point q a)) acc (iblk m c 4 (point q a)) (ix2 r e)
      = acc (ix2 r e) + ∑ j : Fin 1408, hidden (argY m c) (argG m c) (argU m c) (row q r) (hid a j) * argD m c (ix2 (hid a j) e) := by
  rw [share_apply]
  unfold gateSum
  simp only [hx, block_gate, block_value, block_d]
  rfl

/-- After the last chunk the output block holds the layer's result. -/
theorem last_point (r e : Fin 1024) : (outsAt0 m c (point q 1).val (point q 1).isLt).1 (ix2 r e)
    = layer (argY m c) (argG m c) (argU m c) (argD m c) (row q r) e := by
  have h0 : ¬(point q 1).val % 2 = 0 := by rw [point_chunk]; decide
  have h1 : (point q 1).val % 2 = 1 := by rw [point_chunk]; decide
  have k0 : (point q 0).val % 2 = 0 := by rw [point_chunk]; decide
  have k1 : ¬(point q 0).val % 2 = 1 := by rw [point_chunk]; decide
  have hp : ∀ (n : ℕ) (hn : n < cfg0.N), n = (point q 0).val → outsAt0 m c n hn = outsAt0 m c (point q 0).val (point q 0).isLt := by
    rintro n hn rfl; rfl
  rw [outsAt0_B m c (point q 1) h0 h1]
  dsimp only
  rw [out_B, hp ((point q 1).val - 1) _ rfl, outsAt0_A m c (point q 0) k0 k1]
  dsimp only
  rw [rows_A, sums_A, last_apply, block_y, share_point m c q 1 _ _ r e (rows_point m c q 0 r),
    share_point m c q 0 _ _ r e (rows_point m c q 0 r), start_apply, zero_add, layer_chunks]

/-- The kernel's result array is the layer's. -/
theorem result_apply (R : Fin 16384) (e : Fin 1024) :
    Value.G5 m c (ix2 R e) = layer (argY m c) (argG m c) (argU m c) (argD m c) R e := by
  have hR : R.val / 1024 < 16 := by omega
  have hp : Value.pt5Of (ix2 R e) = (point ⟨R.val / 1024, hR⟩ 1).val := by
    show 2 * (1 * (R.val / 1024 - 0) + 1 * (e.val / 1024 - 0)) + 1 = 2 * (R.val / 1024) + 1
    omega
  have hl : Value.loc5Of (ix2 R e) = ix2 (n0 := 1024) (n1 := 1024) ⟨R.val % 1024, Nat.mod_lt _ (by decide)⟩ e := by
    funext a; apply Fin.ext
    match a with
    | ⟨0, _⟩ => rfl
    | ⟨1, _⟩ => show e.val % 1024 = e.val; omega
  have hrow : row ⟨R.val / 1024, hR⟩ ⟨R.val % 1024, Nat.mod_lt _ (by decide)⟩ = R := Fin.ext (by
    show 1024 * (R.val / 1024) + R.val % 1024 = R.val; omega)
  have hlt : Value.pt5Of (ix2 R e) < cfg0.N := hp ▸ (point ⟨R.val / 1024, hR⟩ 1).isLt
  have hs : ∀ (n : ℕ) (hn : n < cfg0.N), n = (point ⟨R.val / 1024, hR⟩ 1).val →
      (outsAt0 m c n hn).1 (ix2 (n0 := 1024) (n1 := 1024) ⟨R.val % 1024, Nat.mod_lt _ (by decide)⟩ e)
        = layer (argY m c) (argG m c) (argU m c) (argD m c) R e := by
    rintro n hn rfl
    rw [last_point, hrow]
  unfold Value.G5
  rw [dif_pos hlt, hl, ← hs _ hlt hp, Value.outsAt0_sweep]

end Cert.Kernel2Ideal.Chunks

end
-- ==== Proof.FfnRef.lean ====
/- The feed-forward block in the reference, entry by entry. -/
module

public import proofs.«01_k».proof.Proof.FfnArray
public import proofs.«01_k».proof.Proof.RefValue
public import proofs.«01_k».proof.Proof.Gen.Reference2Ideal.Read

@[expose] public section

noncomputable section

namespace Cert.Reference2Ideal.Reading

open Idealize.ShloMosaic Cert.Reference2Ideal Cert.Reference2Ideal.Read Idealize.SL.Sem
open Cert.ReferenceIdeal.Reading (ix2_ext zero_bits)
open Cert.Kernel2Ideal.Chunks (gateCol valueCol normed hidden layer)
open Cert.Kernel2Ideal.Body (unit)

variable (x0 : (⟨S16384x1024, .f32⟩ : BufTy).Contents (Elt Ideal)) (x1 : (⟨S1024, .f32⟩ : BufTy).Contents (Elt Ideal))
  (x2 : (⟨S1024x5632, .f32⟩ : BufTy).Contents (Elt Ideal)) (x3 : (⟨S2816x1024, .f32⟩ : BufTy).Contents (Elt Ideal)) (r : Fin 16384)

/-- The bits of one. -/
theorem one_bits : Ideal.ofBits .f32 0x3F800000#32 = 1 := by
  simp [Ideal.ofBits, Ideal.ieee]
  rw [← EReal.coe_mul, ← EReal.coe_one]
  norm_num

/-- The row's squares summed, -/
theorem squares_apply : val_main_v1 (F := Ideal) x0 (ix1 r) = ∑ k : Fin 1024, x0 (ix2 r k) * x0 (ix2 r k) := by
  rw [val_main_v1_apply, val_main_cst_apply]
  refine (congrArg (fun z : EReal => z + _) zero_bits).trans ((zero_add _).trans (Finset.sum_congr rfl fun k _ => ?_))
  rw [ix2_ext (idx_main_v1 (ix1 r) k) r k rfl rfl, val_main_v0_apply]
  rfl

/-- and the row normalised. -/
theorem normed_apply (k : Fin 1024) : val_main_v12 (F := Ideal) x0 x1 (ix2 r k) = normed x0 x1 r k := by
  have h1 : idx_main_v2 (idx_main_v8 (ix2 r k)) = ix1 r := by funext a; fin_cases a; rfl
  have h2 : idx_main_v10 (idx_main_v11 (ix2 r k)) = ix1 k := by funext a; fin_cases a; rfl
  rw [val_main_v12_apply, val_main_v9_apply, val_main_v8_apply, val_main_v7_apply, val_main_v6_apply, val_main_v4_apply, val_main_v2_apply, h1,
    squares_apply, val_main_v3_apply, val_main_cst_0_apply, val_main_v5_apply, val_main_cst_1_apply, val_main_v11_apply, val_main_v10_apply, h2]
  rfl

/-- A column of the first product. -/
theorem first_apply (h : Fin 5632) : val_main_v13 (F := Ideal) x0 x1 x2 (ix2 r h) = ∑ k : Fin 1024, normed x0 x1 r k * x2 (ix2 k h) := by
  rw [val_main_v13_apply]
  refine Finset.sum_congr rfl fun k _ => ?_
  rw [ix2_ext (lidx_main_v13 (ix2 r h) k) r k rfl rfl, ix2_ext (ridx_main_v13 (ix2 r h) k) k h rfl rfl, normed_apply]

/-- A hidden unit. -/
theorem hidden_apply (h : Fin 2816) : val_main_v17 (F := Ideal) x0 x1 x2 (ix2 r h) = hidden x0 x1 x2 r h := by
  rw [val_main_v17_apply, val_main_v15_apply, val_main_v16_apply, val_main_call0_v5_apply, val_main_call0_v4_apply, val_main_call0_cst_0_apply,
    val_main_call0_v3_apply, val_main_call0_v2_apply, val_main_call0_cst_apply, val_main_call0_v1_apply, val_main_call0_v0_apply, val_main_v14_apply,
    ix2_ext (idx_main_v14 (ix2 r h)) r (gateCol h) rfl rfl, ix2_ext (idx_main_v16 (ix2 r h)) r (valueCol h) rfl rfl, first_apply, first_apply]
  unfold Cert.Kernel2Ideal.Chunks.hidden unit
  generalize (∑ k : Fin 1024, normed x0 x1 r k * x2 (ix2 k (gateCol h))) = a
  show a * Ideal.div (Ideal.ofBits .f32 0x3F800000#32) (Ideal.ofBits .f32 0x3F800000#32 + Ideal.exp (-a)) * _ = _
  rw [one_bits, zero_sub]

/-- The reference's result is the layer's. -/
theorem result_apply (e : Fin 1024) : val_main_v19 (F := Ideal) x0 x1 x2 x3 (ix2 r e) = layer x0 x1 x2 x3 r e := by
  rw [val_main_v19_apply, val_main_v18_apply]
  refine congrArg (fun s : EReal => x0 (ix2 r e) + s) (Finset.sum_congr rfl fun h _ => ?_)
  rw [ix2_ext (lidx_main_v18 (ix2 r e) h) r h rfl rfl, ix2_ext (ridx_main_v18 (ix2 r e) h) h e rfl rfl, hidden_apply]

end Cert.Reference2Ideal.Reading

end
-- ==== Proof.OutProj.lean ====
/- The odd layer's output projection: what the kernel writes, entry by entry. Grid point `t` does rows `1024t` to
   `1024t + 1023`. -/
module

public import proofs.«01_k».proof.Proof.Gen.Kernel3Ideal.Value
public import Idealize.ShloMosaic.Lib.Pointwise

@[expose] public section

set_option maxRecDepth 16384

noncomputable section

namespace Cert.Kernel3Ideal.Rows

open Idealize.ShloMosaic Cert.Kernel3Ideal Cert.Kernel3Ideal.Gen Idealize.ShloMosaic.TcCoe Idealize.SL.Sem

variable (m : (ℓ : Loc nD τ sig) → Buf (Elt Ideal) ℓ) (ρ : Dev nD → PrngReg) (c : Dev nD)

/-- The arguments: the residual stream, the two branches of the layer, the weight. -/
def argY : Vec Ideal S16384x1024 .f32 := m ((c : Thread nD τ).loc main_arg0)
def argF : Vec Ideal S16384x512 .f32 := m ((c : Thread nD τ).loc main_arg1)
def argC : Vec Ideal S16384x512 .f32 := m ((c : Thread nD τ).loc main_arg2)
def argW : Vec Ideal S1024x1024 .f32 := m ((c : Thread nD τ).loc main_arg3)

/-- Row `r` of point `t`'s block, -/
def row (t : Fin cfg0.N) (r : Fin 1024) : Fin 16384 :=
  ⟨1024 * t.val + r.val, by have := lt_of_lt_of_eq t.isLt N_0; omega⟩
/-- and the weight's upper and lower rows. -/
def upper (k : Fin 512) : Fin 1024 := ⟨k.val, by omega⟩
def lower (k : Fin 512) : Fin 1024 := ⟨512 + k.val, by omega⟩

/-- The result array: the residual plus the two branches' products with their half of the weight. -/
def result : Buf (Elt Ideal) ((c : Thread nD τ).loc main_v3) := fun i =>
  argY m c (ix2 (i 0) (i 1)) + ((∑ k : Fin 512, argF m c (ix2 (i 0) k) * argW m c (ix2 (upper k) (i 1)))
    + ∑ k : Fin 512, argC m c (ix2 (i 0) k) * argW m c (ix2 (lower k) (i 1)))

/-! ## What a point stages -/

theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 2) = t.val ∧ win0_1.index t (1 : Fin 2) = 0 :=
  (by decide +kernel : ∀ t : Fin grid0.N, _)
theorem index2 : ∀ t : Fin cfg0.N, win0_2.index t (0 : Fin 2) = t.val ∧ win0_2.index t (1 : Fin 2) = 0 :=
  (by decide +kernel : ∀ t : Fin grid0.N, _)
theorem index3 : ∀ t : Fin cfg0.N, win0_3.index t (0 : Fin 2) = 0 ∧ win0_3.index t (1 : Fin 2) = 0 :=
  (by decide +kernel : ∀ t : Fin grid0.N, _)
theorem index4 : ∀ t : Fin cfg0.N, win0_4.index t (0 : Fin 2) = 0 ∧ win0_4.index t (1 : Fin 2) = 0 :=
  (by decide +kernel : ∀ t : Fin grid0.N, _)
theorem index5 : ∀ t : Fin cfg0.N, win0_5.index t (0 : Fin 2) = t.val ∧ win0_5.index t (1 : Fin 2) = 0 :=
  (by decide +kernel : ∀ t : Fin grid0.N, _)

/-- The weight's two halves, as the host cuts them. -/
theorem upper_eq (k : Fin 512) (e : Fin 1024) : V m c main_v1 (ix2 k e) = argW m c (ix2 (upper k) e) := by
  have e : V m c main_v1 = (extractStridedSlice S512x1024 ![0, 0] (truncf (F := Ideal) (s := S1024x1024) (φ := .f32) .bf16 (argW m c) bitsLt_bf16_f32)
      slices_S1024x1024_S512x1024_0_0 : Vec Ideal S512x1024 .bf16) := by
    show StableHlo.after hostOps0 _ _ = _
    simp only [hostOps0]
    after_results
    rfl
  rw [e]
  pointwise
  rfl
theorem lower_eq (k : Fin 512) (e : Fin 1024) : V m c main_v2 (ix2 k e) = argW m c (ix2 (lower k) e) := by
  have e : V m c main_v2 = (extractStridedSlice S512x1024 ![512, 0] (truncf (F := Ideal) (s := S1024x1024) (φ := .f32) .bf16 (argW m c) bitsLt_bf16_f32)
      slices_S1024x1024_S512x1024_512_0 : Vec Ideal S512x1024 .bf16) := by
    show StableHlo.after hostOps0 _ _ = _
    simp only [hostOps0]
    after_results
    rfl
  rw [e]
  pointwise
  rfl

variable (t : Fin cfg0.N)

theorem block_y (r e : Fin 1024) : iblk m c 0 t (ix2 r e) = argY m c (ix2 (row t r) e) := by
  obtain ⟨i0, i1⟩ := index0 t
  show V m c main_arg0 (((cfg0.win 0).blk t).view.emb (ix2 r e)) = _
  rw [V_main_arg0]
  refine congrArg (argY m c) (funext fun a => Fin.ext ?_)
  match a with
  | ⟨0, _⟩ => show win0_0.index t (0 : Fin 2) * 1024 + 1 * r.val = 1024 * t.val + r.val; rw [i0]; omega
  | ⟨1, _⟩ => show win0_0.index t (1 : Fin 2) * 1024 + 1 * e.val = e.val; rw [i1]; omega
theorem block_f (r : Fin 1024) (k : Fin 512) : iblk m c 1 t (ix2 r k) = argF m c (ix2 (row t r) k) := by
  obtain ⟨i0, i1⟩ := index1 t
  show V m c main_arg1 (((cfg0.win 1).blk t).view.emb (ix2 r k)) = _
  rw [V_main_arg1]
  refine congrArg (argF m c) (funext fun a => Fin.ext ?_)
  match a with
  | ⟨0, _⟩ => show win0_1.index t (0 : Fin 2) * 1024 + 1 * r.val = 1024 * t.val + r.val; rw [i0]; omega
  | ⟨1, _⟩ => show win0_1.index t (1 : Fin 2) * 512 + 1 * k.val = k.val; rw [i1]; omega
theorem block_c (r : Fin 1024) (k : Fin 512) : iblk m c 2 t (ix2 r k) = argC m c (ix2 (row t r) k) := by
  obtain ⟨i0, i1⟩ := index2 t
  show V m c main_arg2 (((cfg0.win 2).blk t).view.emb (ix2 r k)) = _
  rw [V_main_arg2]
  refine congrArg (argC m c) (funext fun a => Fin.ext ?_)
  match a with
  | ⟨0, _⟩ => show win0_2.index t (0 : Fin 2) * 1024 + 1 * r.val = 1024 * t.val + r.val; rw [i0]; omega
  | ⟨1, _⟩ => show win0_2.index t (1 : Fin 2) * 512 + 1 * k.val = k.val; rw [i1]; omega
theorem block_upper (k : Fin 512) (e : Fin 1024) : iblk m c 3 t (ix2 k e) = argW m c (ix2 (upper k) e) := by
  obtain ⟨i0, i1⟩ := index3 t
  rw [← upper_eq m c k e]
  show V m c main_v1 (((cfg0.win 3).blk t).view.emb (ix2 k e)) = _
  refine congrArg (V m c main_v1) (funext fun a => Fin.ext ?_)
  match a with
  | ⟨0, _⟩ => show win0_3.index t (0 : Fin 2) * 512 + 1 * k.val = k.val; rw [i0]; omega
  | ⟨1, _⟩ => show win0_3.index t (1 : Fin 2) * 1024 + 1 * e.val = e.val; rw [i1]; omega
theorem block_lower (k : Fin 512) (e : Fin 1024) : iblk m c 4 t (ix2 k e) = argW m c (ix2 (lower k) e) := by
  obtain ⟨i0, i1⟩ := index4 t
  rw [← lower_eq m c k e]
  show V m c main_v2 (((cfg0.win 4).blk t).view.emb (ix2 k e)) = _
  refine congrArg (V m c main_v2) (funext fun a => Fin.ext ?_)
  match a with
  | ⟨0, _⟩ => show win0_4.index t (0 : Fin 2) * 512 + 1 * k.val = k.val; rw [i0]; omega
  | ⟨1, _⟩ => show win0_4.index t (1 : Fin 2) * 1024 + 1 * e.val = e.val; rw [i1]; omega

/-! ## What a point writes -/

/-- The body's result block. -/
theorem body_apply (x0 : Vec Ideal S1024x1024 .f32) (x1 x2 : Vec Ideal S1024x512 .f32) (x3 x4 : Vec Ideal S512x1024 .bf16) (r e : Fin 1024) :
    out0_5 x0 x1 x2 x3 x4 (ix2 r e)
      = x0 (ix2 r e) + ((∑ k : Fin 512, x1 (ix2 r k) * x3 (ix2 k e)) + ∑ k : Fin 512, x2 (ix2 r k) * x4 (ix2 k e)) := by
  have hz : ∀ a : Fin 2, (![0, 0] : Fin 2 → ℕ) a = 0 := by decide
  have eo : out0_5 x0 x1 x2 x3 x4 = k0_pay1 x1 x3 x2 x4 x0 := by
    unfold out0_5
    refine (View.canon_cons_unit_zero (funext hz) _ _ _).trans ?_
    rw [View.ld_unit_zero (funext hz) _ x1, View.ld_unit_zero (funext hz) _ x3, View.ld_unit_zero (funext hz) _ x2, View.ld_unit_zero (funext hz) _ x4, View.ld_unit_zero (funext hz) _ x0]
  rw [eo]
  unfold k0_pay1
  pointwise

/-- Point `t` writes its block of `result`. -/
theorem flushed (t : Fin cfg0.N) : (dats m 0 c).flushed 5 t = ((cfg0.win 5).blk t).view.read (Elt Ideal) (result m c) := by
  rw [Value.flushed5]
  obtain ⟨i0, i1⟩ := index5 t
  funext y
  have hy0 : (y 0).val < 1024 := (y 0).isLt
  have hy1 : (y 1).val < 1024 := (y 1).isLt
  have hy : (cfg0.win 5).xinj (grid0.coords t) y = (ix2 (n0 := 1024) (n1 := 1024) ⟨(y 0).val, hy0⟩ ⟨(y 1).val, hy1⟩) := by
    funext a; apply Fin.ext
    match a with
    | ⟨0, _⟩ => rfl
    | ⟨1, _⟩ => rfl
  have he : ((cfg0.win 5).blk t).view.emb y = (ix2 (n0 := 16384) (n1 := 1024) (row t ⟨(y 0).val, hy0⟩) ⟨(y 1).val, hy1⟩) := by
    funext a; apply Fin.ext
    match a with
    | ⟨0, _⟩ => show win0_5.index t (0 : Fin 2) * 1024 + 1 * (y 0).val = 1024 * t.val + (y 0).val; rw [i0]; omega
    | ⟨1, _⟩ => show win0_5.index t (1 : Fin 2) * 1024 + 1 * (y 1).val = (y 1).val; rw [i1]; omega
  show out0_5 (iblk m c 0 t) (iblk m c 1 t) (iblk m c 2 t) (iblk m c 3 t) (iblk m c 4 t) ((cfg0.win 5).xinj (grid0.coords t) y)
    = result m c (((cfg0.win 5).blk t).view.emb y)
  rw [hy, he, body_apply]
  simp only [block_y, block_f, block_c, block_upper, block_lower]
  rfl

/-- Every entry lies in some point's block. -/
theorem covered (i : S16384x1024.Idx) : ∃ t : Fin cfg0.N, (cfg0.win 5).flush t = true ∧ i ∈ ((cfg0.win 5).blk t).view.set := by
  have h0 : (i 0).val < 16384 := (i 0).isLt
  have h1 : (i 1).val < 1024 := (i 1).isLt
  have hf : ∀ t : Fin cfg0.N, (cfg0.win 5).flush t = true := (by decide +kernel : ∀ t : Fin grid0.N, _)
  refine ⟨⟨(i 0).val / 1024, lt_of_lt_of_eq (by omega) N_0.symm⟩, hf _, ?_⟩
  obtain ⟨e0, e1⟩ := index5 ⟨(i 0).val / 1024, lt_of_lt_of_eq (by omega) N_0.symm⟩
  dsimp only at e0
  generalize (⟨(i 0).val / 1024, _⟩ : Fin cfg0.N) = t at *
  show i ∈ ((View.whole main_v3).slice (win0_5.rect t)).set
  rw [View.set_slice_whole, Rect.mem_set_unit]
  intro a
  match a with
  | ⟨0, _⟩ => show win0_5.index t (0 : Fin 2) * 1024 ≤ (i 0).val ∧ (i 0).val < win0_5.index t (0 : Fin 2) * 1024 + 1024; rw [e0]; omega
  | ⟨1, _⟩ => show win0_5.index t (1 : Fin 2) * 1024 ≤ (i 1).val ∧ (i 1).val < win0_5.index t (1 : Fin 2) * 1024 + 1024; rw [e1]; omega

/-- The kernel's run ends with `result` in its result array and its arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  θ_run_mono (Value.run_blocks m ρ) fun _ h c =>
    ⟨(h c).1.trans ((dats m 0 c).arrAt_eq_of_cover 5 _ (fun t _ => flushed m c t) covered), (h c).2⟩

end Cert.Kernel3Ideal.Rows

end
-- ==== Proof.OutProjRef.lean ====
/- The odd layer's output projection in the reference: one product of the joined branches with the whole weight, which is
   the sum of the two halves' products. -/
module

public import proofs.«01_k».proof.Proof.OutProj
public import proofs.«01_k».proof.Proof.RefValue
public import proofs.«01_k».proof.Proof.Gen.Reference3Ideal.Read

@[expose] public section

noncomputable section

namespace Cert.Reference3Ideal.Reading

open Idealize.ShloMosaic Cert.Reference3Ideal Cert.Reference3Ideal.Read Cert.ReferenceIdeal.Reading Idealize.SL.Sem
open Cert.Kernel3Ideal.Rows (upper lower)

variable (x0 : (⟨S16384x1024, .f32⟩ : BufTy).Contents (Elt Ideal)) (x1 x2 : (⟨S16384x512, .f32⟩ : BufTy).Contents (Elt Ideal))
  (x3 : (⟨S1024x1024, .f32⟩ : BufTy).Contents (Elt Ideal)) (r : Fin 16384)

/-- The joined branches. -/
theorem joined_upper (k : Fin 512) : val_main_v0 (F := Ideal) x1 x2 (ix2 r (upper k)) = x1 (ix2 r k) :=
  concatenate_pair_apply_left (t := S16384x1024) (s₁ := S16384x512) (s₂ := S16384x512) 1 x1 x2 _ (ix2 r (upper k)) rfl (ix2 r k) fun b => by
    fin_cases b <;> rfl
theorem joined_lower (k : Fin 512) : val_main_v0 (F := Ideal) x1 x2 (ix2 r (lower k)) = x2 (ix2 r k) :=
  concatenate_pair_apply_right (t := S16384x1024) (s₁ := S16384x512) (s₂ := S16384x512) 1 x1 x2 _ (ix2 r (lower k)) rfl rfl (ix2 r k)
    (fun b hb => by
      fin_cases b
      · rfl
      · exact absurd rfl hb)
    (by show k.val + 512 = 512 + k.val; omega)

/-- The reference's result. -/
theorem result_apply (e : Fin 1024) : val_main_v2 (F := Ideal) x0 x1 x2 x3 (ix2 r e)
    = x0 (ix2 r e) + ((∑ k : Fin 512, x1 (ix2 r k) * x3 (ix2 (upper k) e)) + ∑ k : Fin 512, x2 (ix2 r k) * x3 (ix2 (lower k) e)) := by
  rw [val_main_v2_apply, val_main_v1_apply]
  refine congrArg (fun s : EReal => x0 (ix2 r e) + s) ?_
  rw [Fin.sum_univ_add (a := 512) (b := 512) (fun k : Fin 1024 => val_main_v0 (F := Ideal) x1 x2 (lidx_main_v1 (ix2 r e) k) * x3 (ridx_main_v1 (ix2 r e) k))]
  refine congrArg₂ (fun a b : EReal => a + b) (Finset.sum_congr rfl fun k _ => ?_) (Finset.sum_congr rfl fun k _ => ?_)
  · rw [ix2_ext (lidx_main_v1 (ix2 r e) (Fin.castAdd 512 k)) r (upper k) rfl rfl, ix2_ext (ridx_main_v1 (ix2 r e) (Fin.castAdd 512 k)) (upper k) e rfl rfl,
      joined_upper]
  · rw [ix2_ext (lidx_main_v1 (ix2 r e) (Fin.natAdd 512 k)) r (lower k) rfl rfl, ix2_ext (ridx_main_v1 (ix2 r e) (Fin.natAdd 512 k)) (lower k) e rfl rfl,
      joined_lower]

end Cert.Reference3Ideal.Reading

end
-- ==== Proof.MemBody.lean ====
/- The memory's keys and values: what the kernel's body computes, entry by entry. -/
module

public import proofs.«01_k».proof.Proof.Gen.Kernel4Ideal.Value
public import Idealize.ShloMosaic.Lib.Pointwise

@[expose] public section

set_option maxRecDepth 16384

noncomputable section

namespace Cert.Kernel4Ideal.Body

open Idealize.ShloMosaic Cert.Kernel4Ideal Cert.Kernel4Ideal.Gen

/-- A row scaled by its root mean square and the gain. -/
def scaled (x g : Fin 1024 → EReal) (k : Fin 1024) : EReal :=
  x k * Ideal.rsqrt (Ideal.div (∑ j : Fin 1024, x j * x j) (Ideal.ofBits .f32 0x44800000#32) + Ideal.ofBits .f32 0x358637BD#32) * g k

/-- A feature of a row's keys and values, before the keys' norm. -/
def feature (x g : Fin 1024 → EReal) (w : Fin 1024 → Fin 512 → EReal) (e : Fin 512) : EReal :=
  ∑ k : Fin 1024, scaled x g k * w k e

/-- A key's feature as the kernel scales it: `v` are the row's key features, `a` the table, `n` the gains. -/
def tableNormed (v : Fin 256 → EReal) (a : Fin 256 → Fin 256 → EReal) (n : Fin 256 → EReal) (e : Fin 256) : EReal :=
  v e * Ideal.rsqrt (((∑ k : Fin 256, v k * v k * a k e) + ∑ k : Fin 256, (v k * v k - v k * v k) * a k e) * Ideal.ofBits .f32 0x3C800000#32
    + Ideal.ofBits .f32 0x358637BD#32) * n e

/-- The key and value features among all. -/
def keyCol (e : Fin 256) : Fin 512 := ⟨e.val, by omega⟩
def valCol (e : Fin 256) : Fin 512 := ⟨256 + e.val, by omega⟩

variable (x0 : Vec Ideal S1x256x1024 .f32) (x1 : Vec Ideal S1x1024 .f32) (x2 : Vec Ideal S1024x512 .bf16) (x3 : Vec Ideal S1x256 .f32)
  (x4 : Vec Ideal S256x256 .bf16)

theorem feature_apply (r : Fin 256) (e : Fin 512) : k0_pay3 (F := Ideal) x0 x1 x2 (ix2 r e)
    = feature (fun j => x0 (ix3 0 r j)) (fun j => x1 (ix2 0 j)) (fun k e => x2 (ix2 k e)) e := by
  unfold k0_pay3 feature scaled
  pointwise

theorem keys_apply (r e : Fin 256) : k0_pay4 (F := Ideal) x0 x1 x2 x4 x3 (ix2 r e)
    = tableNormed (fun e => k0_pay3 (F := Ideal) x0 x1 x2 (ix2 r (keyCol e))) (fun k e => x4 (ix2 k e)) (fun e => x3 (ix2 0 e)) e := by
  unfold k0_pay4 tableNormed
  generalize k0_pay3 (F := Ideal) x0 x1 x2 = y
  pointwise
  rfl

theorem keysOut_apply (y : Vec Ideal S256x256 .f32) (e r : Fin 256) : k0_pay1 (F := Ideal) y (ix3 0 e r) = y (ix2 r e) := by
  unfold k0_pay1
  pointwise

theorem valsOut_apply (y : Vec Ideal S256x512 .f32) (e r : Fin 256) : k0_pay2 (F := Ideal) y (ix3 0 e r) = y (ix2 r (valCol e)) := by
  unfold k0_pay2
  pointwise
  rfl

/-- The features of a block's row. -/
def blockFeature (r : Fin 256) (e : Fin 512) : EReal :=
  feature (fun j => x0 (ix3 0 r j)) (fun j => x1 (ix2 0 j)) (fun k e => x2 (ix2 k e)) e

/-- A key's place is not among the values'. -/
theorem key_not_mem (e r : Fin 256) : (ix3 0 (keyCol e) r : S1x512x256.Idx) ∉ r0_6.set := fun h => by
  rw [Rect.mem_set_unit] at h
  have h2 : (256 : ℕ) ≤ e.val := (h (1 : Fin 3)).1
  exact absurd e.isLt (Nat.not_lt.mpr h2)

/-- Two stores, the second to the lower half of the features: what each half holds. -/
theorem low_half (p q : Vec Ideal S1x256x256 .f32) (e r : Fin 256) :
    (View.canon [⟨r0_6, p⟩, ⟨r0_5, q⟩] : Vec Ideal S1x512x256 .f32) (ix3 0 (keyCol e) r) = q (ix3 0 e r) := by
  have he : (ix3 0 (keyCol e) r : S1x512x256.Idx) = r0_5.emb (ix3 0 e r : S1x256x256.Idx) := by
    funext a; apply Fin.ext
    match a with
    | ⟨0, _⟩ => rfl
    | ⟨1, _⟩ => show e.val = 0 + 1 * e.val; omega
    | ⟨2, _⟩ => show r.val = 0 + 1 * r.val; omega
  refine (View.canon_cons_of_not_mem (⟨r0_6, p⟩ : View.Piece (Elt Ideal) S1x512x256 .f32) [⟨r0_5, q⟩] (y := ix3 0 (keyCol e) r) (key_not_mem e r)).trans ?_
  rw [he]
  exact View.canon_cons_emb r0_5 q [] _
theorem high_half (p q : Vec Ideal S1x256x256 .f32) (e r : Fin 256) :
    (View.canon [⟨r0_6, p⟩, ⟨r0_5, q⟩] : Vec Ideal S1x512x256 .f32) (ix3 0 (valCol e) r) = p (ix3 0 e r) := by
  have he : (ix3 0 (valCol e) r : S1x512x256.Idx) = r0_6.emb (ix3 0 e r : S1x256x256.Idx) := by
    funext a; apply Fin.ext
    match a with
    | ⟨0, _⟩ => rfl
    | ⟨1, _⟩ => show 256 + e.val = 256 + 1 * e.val; omega
    | ⟨2, _⟩ => show r.val = 0 + 1 * r.val; omega
  rw [he]
  exact View.canon_cons_emb r0_6 p _ _

/-- The block the body leaves, -/
theorem out_eq : out0_5 x0 x1 x2 x3 x4
    = View.canon [⟨r0_6, k0_pay2 (F := Ideal) (k0_pay3 (F := Ideal) x0 x1 x2)⟩, ⟨r0_5, k0_pay1 (F := Ideal) (k0_pay4 (F := Ideal) x0 x1 x2 x4 x3)⟩] := by
  have hz2 : ∀ a : Fin 2, (![0, 0] : Fin 2 → ℕ) a = 0 := by decide
  have hz3 : ∀ a : Fin 3, (![0, 0, 0] : Fin 3 → ℕ) a = 0 := by decide
  unfold out0_5
  rw [View.ld_unit_zero (funext hz3) _ x0, View.ld_unit_zero (funext hz2) _ x1, View.ld_unit_zero (funext hz2) _ x2, View.ld_unit_zero (funext hz2) _ x3,
    View.ld_unit_zero (funext hz2) _ x4]

/-- its keys, -/
theorem out_keys (e r : Fin 256) : out0_5 x0 x1 x2 x3 x4 (ix3 0 (keyCol e) r)
    = tableNormed (fun e => blockFeature x0 x1 x2 r (keyCol e)) (fun k e => x4 (ix2 k e)) (fun e => x3 (ix2 0 e)) e := by
  have hf : (fun e => k0_pay3 (F := Ideal) x0 x1 x2 (ix2 r (keyCol e))) = fun e => blockFeature x0 x1 x2 r (keyCol e) :=
    funext fun e => feature_apply x0 x1 x2 r (keyCol e)
  rw [out_eq, low_half, keysOut_apply, keys_apply, hf]

/-- and below them its values. -/
theorem out_vals (e r : Fin 256) : out0_5 x0 x1 x2 x3 x4 (ix3 0 (valCol e) r) = blockFeature x0 x1 x2 r (valCol e) := by
  rw [out_eq, high_half, valsOut_apply, feature_apply]
  rfl

end Cert.Kernel4Ideal.Body

end
-- ==== Proof.MemTable.lean ====
/- The table the memory's call is given: one where two features belong to the same head, else nothing. A row of 256
   features is two runs of 128 words, and there are three kinds of run: its first half ones, its second half ones, none. -/
module

public import proofs.«01_k».proof.Kernel4Ideal
public import Mathlib.Tactic.IntervalCases

@[expose] public section

set_option maxRecDepth 65536
set_option maxHeartbeats 4000000

namespace Cert.Kernel4Ideal.Table

/-- A run's words: the place in the run decides. -/
theorem first_half (i : ℕ) : lit0t0_0 i = if i % 128 < 64 then 0x3F80#16 else 0x0000#16 := by
  have h : ∀ j : Fin 128, lit0t0_0 j.val = if j.val < 64 then 0x3F80#16 else 0x0000#16 := by decide +kernel
  have e : lit0t0_0 i = lit0t0_0 (i % 128) := by delta lit0t0_0; rw [Nat.mod_mod]
  rw [e]
  exact h ⟨i % 128, Nat.mod_lt _ (by decide)⟩
theorem second_half (i : ℕ) : lit0t0_128 i = if i % 128 < 64 then 0x0000#16 else 0x3F80#16 := by
  have h : ∀ j : Fin 128, lit0t0_128 j.val = if j.val < 64 then 0x0000#16 else 0x3F80#16 := by decide +kernel
  have e : lit0t0_128 i = lit0t0_128 (i % 128) := by delta lit0t0_128; rw [Nat.mod_mod]
  rw [e]
  exact h ⟨i % 128, Nat.mod_lt _ (by decide)⟩
theorem nothing (i : ℕ) : lit0t0_1 i = 0x0000#16 := by
  have h : ∀ j : Fin 128, lit0t0_1 j.val = 0x0000#16 := by decide +kernel
  have e : lit0t0_1 i = lit0t0_1 (i % 128) := by delta lit0t0_1; rw [Nat.mod_mod]
  rw [e]
  exact h ⟨i % 128, Nat.mod_lt _ (by decide)⟩

/-- The runs of each head's rows. -/
theorem head0 (i : ℕ) : lit0t1_0 i = if i / 128 % 128 % 2 = 0 then lit0t0_0 i else lit0t0_1 i := by
  have hq : i / 128 % 128 < 128 := Nat.mod_lt _ (by decide)
  delta lit0t1_0
  generalize i / 128 % 128 = q at *
  interval_cases q <;> rfl
theorem head1 (i : ℕ) : lit0t1_1 i = if i / 128 % 128 % 2 = 0 then lit0t0_128 i else lit0t0_1 i := by
  have hq : i / 128 % 128 < 128 := Nat.mod_lt _ (by decide)
  delta lit0t1_1
  generalize i / 128 % 128 = q at *
  interval_cases q <;> rfl
theorem head2 (i : ℕ) : lit0t1_2 i = if i / 128 % 128 % 2 = 0 then lit0t0_1 i else lit0t0_0 i := by
  have hq : i / 128 % 128 < 128 := Nat.mod_lt _ (by decide)
  delta lit0t1_2
  generalize i / 128 % 128 = q at *
  interval_cases q <;> rfl
theorem head3 (i : ℕ) : lit0t1_3 i = if i / 128 % 128 % 2 = 0 then lit0t0_1 i else lit0t0_128 i := by
  have hq : i / 128 % 128 < 128 := Nat.mod_lt _ (by decide)
  delta lit0t1_3
  generalize i / 128 % 128 = q at *
  interval_cases q <;> rfl

/-- The table's words, row by row. -/
theorem words (k e : Fin 256) :
    lit0 ⟨256 * k.val + e.val, by omega⟩ = if k.val / 64 = e.val / 64 then 0x3F80#16 else 0x0000#16 := by
  show lit0t (256 * k.val + e.val) = _
  have hk := k.isLt
  have he := e.isLt
  generalize k.val = k at *
  generalize e.val = e at *
  delta lit0t
  have hq : (256 * k + e) / 16384 = k / 64 := by omega
  have h2 : (256 * k + e) / 128 % 128 % 2 = e / 128 := by omega
  have h3 : (256 * k + e) % 128 = e % 128 := by omega
  rw [hq]
  have hk4 : k / 64 < 4 := by omega
  generalize k / 64 = h at *
  interval_cases h
  · show lit0t1_0 _ = _
    rw [head0, first_half, nothing, h2, h3]; split_ifs <;> first | rfl | omega
  · show lit0t1_1 _ = _
    rw [head1, second_half, nothing, h2, h3]; split_ifs <;> first | rfl | omega
  · show lit0t1_2 _ = _
    rw [head2, first_half, nothing, h2, h3]; split_ifs <;> first | rfl | omega
  · show lit0t1_3 _ = _
    rw [head3, second_half, nothing, h2, h3]; split_ifs <;> first | rfl | omega

end Cert.Kernel4Ideal.Table
-- ==== Proof.GroupNorm.lean ====
/- The norm of a head's features as the kernel takes it, over the extended reals: the squares of all the row's features,
   split in two parts, are multiplied by a table that is one inside a head and zero elsewhere. On real features the first
   part is the square, the second is zero, and the product is the head's sum. -/
module

public import Idealize.ShloMosaic.Lib.Pointwise
public import Mathlib.Algebra.BigOperators.Fin
public import Mathlib.Data.EReal.Operations

@[expose] public section

noncomputable section

namespace Cert.GroupNorm

open Idealize.ShloMosaic

/-- An extended real that is neither infinity. -/
def Real' (x : EReal) : Prop := x ≠ ⊤ ∧ x ≠ ⊥

theorem Real'.exists_coe {x : EReal} (h : Real' x) : ∃ r : ℝ, x = (r : EReal) := ⟨x.toReal, (EReal.coe_toReal h.1 h.2).symm⟩

theorem real_coe (r : ℝ) : Real' (r : EReal) := ⟨EReal.coe_ne_top r, EReal.coe_ne_bot r⟩

theorem Real'.mul {x y : EReal} (hx : Real' x) (hy : Real' y) : Real' (x * y) := by
  obtain ⟨a, rfl⟩ := hx.exists_coe
  obtain ⟨b, rfl⟩ := hy.exists_coe
  rw [← EReal.coe_mul]
  exact real_coe _

theorem Real'.add {x y : EReal} (hx : Real' x) (hy : Real' y) : Real' (x + y) := by
  obtain ⟨a, rfl⟩ := hx.exists_coe
  obtain ⟨b, rfl⟩ := hy.exists_coe
  rw [← EReal.coe_add]
  exact real_coe _

theorem real_sum {ι : Type} (s : Finset ι) (f : ι → EReal) (h : ∀ i ∈ s, Real' (f i)) : Real' (∑ i ∈ s, f i) := by
  classical
  induction s using Finset.induction_on with
  | empty => rw [Finset.sum_empty]; exact real_coe 0
  | insert a s ha ih =>
    rw [Finset.sum_insert ha]
    exact (h a (Finset.mem_insert_self a s)).add (ih fun i hi => h i (Finset.mem_insert_of_mem hi))

theorem real_of_abs {x : EReal} (h : max x (-x) < ⊤) : Real' x := by
  refine ⟨fun e => ?_, fun e => ?_⟩ <;> subst e <;> simp at h

/-- A square is not negative. -/
theorem square_nonneg (x : EReal) : 0 ≤ x * x := by
  induction x using EReal.rec with
  | bot => simp
  | top => simp
  | coe r => rw [← EReal.coe_mul]; exact EReal.coe_nonneg.mpr (mul_self_nonneg r)

/-- A quotient by a real is a product with its inverse. -/
theorem div_real (s : EReal) (N : ℝ) (hN : N ≠ 0) : Ideal.div s (N : EReal) = s * ((N⁻¹ : ℝ) : EReal) := by
  rw [Ideal.div, if_neg (by exact_mod_cast hN), EReal.coe_inv]

/-- A row scaled by its root mean square is real, whatever the row: an infinite entry makes the scale zero. -/
theorem scaled_real {n : ℕ} (x : Fin n → EReal) (N eps : ℝ) (hN : 0 < N) (heps : 0 < eps) (k : Fin n) :
    Real' (x k * Ideal.rsqrt (Ideal.div (∑ j, x j * x j) (N : EReal) + (eps : EReal))) := by
  have h0 : 0 ≤ ∑ j, x j * x j := Finset.sum_nonneg fun j _ => square_nonneg (x j)
  have hle : x k * x k ≤ ∑ j, x j * x j := Finset.single_le_sum (f := fun j => x j * x j) (fun j _ => square_nonneg (x j)) (Finset.mem_univ k)
  have hdiv : ∀ s : EReal, Ideal.div s (N : EReal) = s * ((N⁻¹ : ℝ) : EReal) := fun s => by
    exact div_real s N hN.ne'
  generalize ∑ j, x j * x j = s at *
  rw [hdiv]
  induction s using EReal.rec with
  | bot => exact absurd h0 (by simp)
  | top =>
    rw [EReal.top_mul_coe_of_pos (inv_pos.mpr hN), EReal.top_add_coe, Ideal.rsqrt_top, mul_zero]
    exact real_coe 0
  | coe s =>
    have hs : 0 ≤ s := EReal.coe_nonneg.mp h0
    have hx : Real' (x k) := by
      refine ⟨fun e => ?_, fun e => ?_⟩ <;> rw [e] at hle <;> simp at hle
    have hpos : 0 < s * N⁻¹ + eps := add_pos_of_nonneg_of_pos (mul_nonneg hs (inv_pos.mpr hN).le) heps
    rw [← EReal.coe_mul, ← EReal.coe_add, Ideal.rsqrt_coe, if_neg hpos.not_gt, if_neg hpos.ne']
    exact hx.mul (real_coe _)

/-- A sum against the table is the head's own sum. -/
theorem table_sum {H : ℕ} (f : Fin (H * 64) → EReal) (h : Fin H) :
    (∑ j : Fin (H * 64), f j * (if j.val / 64 = h.val then 1 else 0)) = ∑ d : Fin 64, f ⟨64 * h.val + d.val, by have := h.isLt; omega⟩ := by
  rw [← Equiv.sum_comp (finProdFinEquiv (m := H) (n := 64)) (fun j => f j * (if j.val / 64 = h.val then 1 else 0)), Fintype.sum_prod_type]
  rw [Finset.sum_eq_single h]
  · refine Finset.sum_congr rfl fun d _ => ?_
    have hv : (finProdFinEquiv (h, d) : Fin (H * 64)).val = 64 * h.val + d.val := by
      simp [finProdFinEquiv, add_comm]
    have hd : (64 * h.val + d.val) / 64 = h.val := by omega
    rw [hv, hd, if_pos rfl, mul_one]
    exact congrArg f (Fin.ext hv)
  · intro g _ hg
    refine Finset.sum_eq_zero fun d _ => ?_
    have hv : (finProdFinEquiv (g, d) : Fin (H * 64)).val = 64 * g.val + d.val := by
      simp [finProdFinEquiv, add_comm]
    have hd : (64 * g.val + d.val) / 64 = g.val := by omega
    rw [hv, hd, if_neg (fun e => hg (Fin.ext e)), mul_zero]
  · intro hh
    exact absurd (Finset.mem_univ h) hh

/-- The two parts of the squares against the table: the head's sum of squares. -/
theorem squares_sum {H : ℕ} (v : Fin (H * 64) → EReal) (hv : ∀ j, Real' (v j)) (h : Fin H) :
    (∑ j : Fin (H * 64), v j * v j * (if j.val / 64 = h.val then 1 else 0))
        + (∑ j : Fin (H * 64), (v j * v j - v j * v j) * (if j.val / 64 = h.val then 1 else 0))
      = ∑ d : Fin 64, v ⟨64 * h.val + d.val, by have := h.isLt; omega⟩ * v ⟨64 * h.val + d.val, by have := h.isLt; omega⟩ := by
  have hz : ∀ j, v j * v j - v j * v j = 0 := fun j => by
    obtain ⟨r, hr⟩ := (hv j).exists_coe
    rw [hr, ← EReal.coe_mul, ← EReal.coe_sub, sub_self]
    rfl
  rw [Finset.sum_eq_zero (fun j _ => by rw [hz j, zero_mul]) (s := Finset.univ) (f := fun j : Fin (H * 64) => (v j * v j - v j * v j) * (if j.val / 64 = h.val then (1 : EReal) else 0)), add_zero,
    table_sum (fun j => v j * v j) h]

/-- A 64th is a quotient by 64. -/
theorem mul_64th (s : EReal) : s * Ideal.ofBits .f32 0x3C800000#32 = Ideal.div s (Ideal.ofBits .f32 0x42800000#32) := by
  have h1 : Ideal.ofBits .f32 0x3C800000#32 = (((64 : ℝ)⁻¹ : ℝ) : EReal) := by
    simp [Ideal.ofBits, Ideal.ieee]
    rw [← EReal.coe_mul]
    norm_num
  have h2 : Ideal.ofBits .f32 0x42800000#32 = ((64 : ℝ) : EReal) := by
    simp [Ideal.ofBits, Ideal.ieee]
    rw [← EReal.coe_mul]
    norm_num
  rw [h1, h2, div_real _ _ (by norm_num)]

/-- The length of a row and the norm's small constant are positive reals. -/
theorem length_bits : Ideal.ofBits .f32 0x44800000#32 = ((1024 : ℝ) : EReal) := by
  simp [Ideal.ofBits, Ideal.ieee]
  rw [← EReal.coe_mul]
  norm_num
theorem eps_bits : ∃ e : ℝ, 0 < e ∧ Ideal.ofBits .f32 0x358637BD#32 = (e : EReal) :=
  ⟨8796093 * (2 ^ 43)⁻¹, by positivity, by simp [Ideal.ofBits, Ideal.ieee]⟩

/-- The table's words. -/
theorem one_word : Ideal.ofBits .bf16 0x3F80#16 = 1 := by
  simp [Ideal.ofBits, Ideal.ieee]
  rw [← EReal.coe_mul, ← EReal.coe_one]
  norm_num
theorem zero_word : Ideal.ofBits .bf16 0x0000#16 = 0 := by
  simp [Ideal.ofBits, Ideal.ieee]

end Cert.GroupNorm

end
-- ==== Proof.MemKv.lean ====
/- The memory's keys and values: the array the kernel writes, entry by entry. Grid point `t` does memory `t`: its keys'
   features are rows 0 to 255 of the result, its values' the rows below, its positions the columns. -/
module

public import proofs.«01_k».proof.Proof.MemBody
public import proofs.«01_k».proof.Proof.MemTable
public import proofs.«01_k».proof.Proof.GroupNorm

@[expose] public section

set_option maxRecDepth 16384

noncomputable section

namespace Cert.Kernel4Ideal.Memory

open Idealize.ShloMosaic Cert.Kernel4Ideal Cert.Kernel4Ideal.Gen Cert.Kernel4Ideal.Body Idealize.ShloMosaic.TcCoe Idealize.SL.Sem

variable (m : (ℓ : Loc nD τ sig) → Buf (Elt Ideal) ℓ) (ρ : Dev nD → PrngReg) (c : Dev nD)

/-- The arguments: the memories, the gain of their norm, the weight, the gain of a head's key features. -/
def argX : Vec Ideal S2x256x1024 .f32 := m ((c : Thread nD τ).loc main_arg0)
def argG : Vec Ideal S1024 .f32 := m ((c : Thread nD τ).loc main_arg1)
def argW : Vec Ideal S1024x512 .f32 := m ((c : Thread nD τ).loc main_arg2)
def argN : Vec Ideal S64 .f32 := m ((c : Thread nD τ).loc main_arg3)

/-- A feature's place in its head. -/
def place (e : Fin 256) : Fin 64 := ⟨e.val % 64, Nat.mod_lt _ (by decide)⟩

/-- The table: one inside a head. -/
def same (k e : Fin 256) : EReal := if k.val / 64 = e.val / 64 then 1 else 0

/-- Feature `e` of position `r` of memory `b`. -/
def memFeature (x : Vec Ideal S2x256x1024 .f32) (g : Vec Ideal S1024 .f32) (w : Vec Ideal S1024x512 .f32) (b : Fin 2) (r : Fin 256) (e : Fin 512) : EReal :=
  feature (fun j => x (ix3 b r j)) (fun j => g (ix1 j)) (fun k e => w (ix2 k e)) e

/-- The result, at a key's feature and at a value's. -/
def keyAt (b : Fin 2) (e r : Fin 256) : EReal :=
  tableNormed (fun e => memFeature (argX m c) (argG m c) (argW m c) b r (keyCol e)) same (fun e => argN m c (ix1 (place e))) e
def valAt (b : Fin 2) (e r : Fin 256) : EReal := memFeature (argX m c) (argG m c) (argW m c) b r (valCol e)
def entry (b : Fin 2) (f : Fin 512) (r : Fin 256) : EReal :=
  if h : f.val < 256 then keyAt m c b ⟨f.val, h⟩ r else valAt m c b ⟨f.val - 256, by omega⟩ r

/-- The result array. -/
def result : Buf (Elt Ideal) ((c : Thread nD τ).loc main_v6) := fun i => entry m c (i 0) (i 1) (i 2)

theorem entry_key (b : Fin 2) (e r : Fin 256) : entry m c b (keyCol e) r = keyAt m c b e r := by
  unfold entry
  rw [dif_pos (show (keyCol e).val < 256 from e.isLt)]
  rfl
theorem entry_val (b : Fin 2) (e r : Fin 256) : entry m c b (valCol e) r = valAt m c b e r := by
  unfold entry
  rw [dif_neg (show ¬(valCol e).val < 256 by show ¬(256 + e.val < 256); omega)]
  exact congrArg (fun e => valAt m c b e r) (Fin.ext (by show 256 + e.val - 256 = e.val; omega))

/-- A feature is a key's or a value's. -/
theorem split (f : Fin 512) : (∃ e : Fin 256, f = keyCol e) ∨ ∃ e : Fin 256, f = valCol e := by
  by_cases h : f.val < 256
  · exact Or.inl ⟨⟨f.val, h⟩, rfl⟩
  · exact Or.inr ⟨⟨f.val - 256, by omega⟩, Fin.ext (by show f.val = 256 + (f.val - 256); omega)⟩

/-! ## What a point stages -/

theorem index0 : ∀ t : Fin cfg0.N, win0_0.index t (0 : Fin 3) = t.val ∧ win0_0.index t (1 : Fin 3) = 0 ∧ win0_0.index t (2 : Fin 3) = 0 :=
  (by decide +kernel : ∀ t : Fin grid0.N, _)
theorem index1 : ∀ t : Fin cfg0.N, win0_1.index t (0 : Fin 2) = 0 ∧ win0_1.index t (1 : Fin 2) = 0 :=
  (by decide +kernel : ∀ t : Fin grid0.N, _)
theorem index2 : ∀ t : Fin cfg0.N, win0_2.index t (0 : Fin 2) = 0 ∧ win0_2.index t (1 : Fin 2) = 0 :=
  (by decide +kernel : ∀ t : Fin grid0.N, _)
theorem index3 : ∀ t : Fin cfg0.N, win0_3.index t (0 : Fin 2) = 0 ∧ win0_3.index t (1 : Fin 2) = 0 :=
  (by decide +kernel : ∀ t : Fin grid0.N, _)
theorem index4 : ∀ t : Fin cfg0.N, win0_4.index t (0 : Fin 2) = 0 ∧ win0_4.index t (1 : Fin 2) = 0 :=
  (by decide +kernel : ∀ t : Fin grid0.N, _)
theorem index5 : ∀ t : Fin cfg0.N, win0_5.index t (0 : Fin 3) = t.val ∧ win0_5.index t (1 : Fin 3) = 0 ∧ win0_5.index t (2 : Fin 3) = 0 :=
  (by decide +kernel : ∀ t : Fin grid0.N, _)

/-- The gain as a row, -/
theorem gain_eq (j : Fin 1024) : V m c main_v0 (ix2 0 j) = argG m c (ix1 j) := by
  have e : V m c main_v0 = (shapeCast S1x1024 (argG m c) shapeCasts_S1024_S1x1024 : Vec Ideal S1x1024 .f32) := by
    show StableHlo.after hostOps0 _ _ = _
    simp only [hostOps0]
    after_results
    rfl
  rw [e]
  pointwise
/-- the weight, -/
theorem weight_eq (k : Fin 1024) (e : Fin 512) : V m c main_v1 (ix2 k e) = argW m c (ix2 k e) := by
  have e : V m c main_v1 = (truncf (F := Ideal) (s := S1024x512) (φ := .f32) .bf16 (argW m c) bitsLt_bf16_f32 : Vec Ideal S1024x512 .bf16) := by
    show StableHlo.after hostOps0 _ _ = _
    simp only [hostOps0]
    after_results
    rfl
  rw [e]
  rfl
/-- a head's gains once for each head, -/
theorem gains_eq (e : Fin 256) : V m c main_v5 (ix2 0 e) = argN m c (ix1 (place e)) := by
  have h : V m c main_v5 = (shapeCast S1x256 (shapeCast S256 (broadcastInDim S4x64 ![0, 1] bcast_S1x64_S4x64_0_1
      (shapeCast S1x64 (argN m c) shapeCasts_S64_S1x64 : Vec Ideal S1x64 .f32) : Vec Ideal S4x64 .f32) shapeCasts_S4x64_S256 : Vec Ideal S256 .f32)
      shapeCasts_S256_S1x256 : Vec Ideal S1x256 .f32) := by
    show StableHlo.after hostOps0 _ _ = _
    simp only [hostOps0]
    after_results
    rfl
  rw [h]
  pointwise
  rfl
/-- and the table. -/
theorem table_eq (k e : Fin 256) : V m c main_cst (ix2 k e) = same k e := by
  have h : V m c main_cst = (fun i => Ideal.ofBits .bf16 (lit0 (S256x256.rowMajor i)) : Vec Ideal S256x256 .bf16) := by
    show StableHlo.after hostOps0 _ _ = _
    simp only [hostOps0]
    after_results
    rfl
  have hi : S256x256.rowMajor (ix2 k e) = ⟨256 * k.val + e.val, by show 256 * k.val + e.val < 65536; omega⟩ := by
    apply Fin.ext
    refine (Shape.rowMajor_val_two (d := ![256, 256]) _).trans ?_
    show k.val * 256 + e.val = 256 * k.val + e.val
    omega
  rw [h]
  show Ideal.ofBits .bf16 (lit0 (S256x256.rowMajor (ix2 k e))) = _
  rw [hi, Table.words k e]
  unfold same
  split
  · exact Cert.GroupNorm.one_word
  · exact Cert.GroupNorm.zero_word

variable (t : Fin cfg0.N)

/-- Point `t`'s memory. -/
def mem (t : Fin cfg0.N) : Fin 2 := ⟨t.val, lt_of_lt_of_eq t.isLt N_0⟩

theorem block_x (r : Fin 256) (j : Fin 1024) : iblk m c 0 t (ix3 0 r j) = argX m c (ix3 (mem t) r j) := by
  obtain ⟨i0, i1, i2⟩ := index0 t
  show V m c main_arg0 (((cfg0.win 0).blk t).view.emb (ix3 0 r j)) = _
  rw [V_main_arg0]
  refine congrArg (argX m c) (funext fun a => Fin.ext ?_)
  match a with
  | ⟨0, _⟩ => show win0_0.index t (0 : Fin 3) * 1 + 1 * 0 = t.val; rw [i0]; omega
  | ⟨1, _⟩ => show win0_0.index t (1 : Fin 3) * 256 + 1 * r.val = r.val; rw [i1]; omega
  | ⟨2, _⟩ => show win0_0.index t (2 : Fin 3) * 1024 + 1 * j.val = j.val; rw [i2]; omega
theorem block_g (j : Fin 1024) : iblk m c 1 t (ix2 0 j) = argG m c (ix1 j) := by
  obtain ⟨i0, i1⟩ := index1 t
  rw [← gain_eq m c j]
  show V m c main_v0 (((cfg0.win 1).blk t).view.emb (ix2 0 j)) = _
  refine congrArg (V m c main_v0) (funext fun a => Fin.ext ?_)
  match a with
  | ⟨0, _⟩ => show win0_1.index t (0 : Fin 2) * 1 + 1 * 0 = 0; rw [i0]
  | ⟨1, _⟩ => show win0_1.index t (1 : Fin 2) * 1024 + 1 * j.val = j.val; rw [i1]; omega
theorem block_w (k : Fin 1024) (e : Fin 512) : iblk m c 2 t (ix2 k e) = argW m c (ix2 k e) := by
  obtain ⟨i0, i1⟩ := index2 t
  rw [← weight_eq m c k e]
  show V m c main_v1 (((cfg0.win 2).blk t).view.emb (ix2 k e)) = _
  refine congrArg (V m c main_v1) (funext fun a => Fin.ext ?_)
  match a with
  | ⟨0, _⟩ => show win0_2.index t (0 : Fin 2) * 1024 + 1 * k.val = k.val; rw [i0]; omega
  | ⟨1, _⟩ => show win0_2.index t (1 : Fin 2) * 512 + 1 * e.val = e.val; rw [i1]; omega
theorem block_n (e : Fin 256) : iblk m c 3 t (ix2 0 e) = argN m c (ix1 (place e)) := by
  obtain ⟨i0, i1⟩ := index3 t
  rw [← gains_eq m c e]
  show V m c main_v5 (((cfg0.win 3).blk t).view.emb (ix2 0 e)) = _
  refine congrArg (V m c main_v5) (funext fun a => Fin.ext ?_)
  match a with
  | ⟨0, _⟩ => show win0_3.index t (0 : Fin 2) * 1 + 1 * 0 = 0; rw [i0]
  | ⟨1, _⟩ => show win0_3.index t (1 : Fin 2) * 256 + 1 * e.val = e.val; rw [i1]; omega
theorem block_a (k e : Fin 256) : iblk m c 4 t (ix2 k e) = same k e := by
  obtain ⟨i0, i1⟩ := index4 t
  rw [← table_eq m c k e]
  show V m c main_cst (((cfg0.win 4).blk t).view.emb (ix2 k e)) = _
  refine congrArg (V m c main_cst) (funext fun a => Fin.ext ?_)
  match a with
  | ⟨0, _⟩ => show win0_4.index t (0 : Fin 2) * 256 + 1 * k.val = k.val; rw [i0]; omega
  | ⟨1, _⟩ => show win0_4.index t (1 : Fin 2) * 256 + 1 * e.val = e.val; rw [i1]; omega

/-! ## What a point writes -/

/-- A feature of the staged block is the memory's. -/
theorem feature_eq (r : Fin 256) (f : Fin 512) : blockFeature (iblk m c 0 t) (iblk m c 1 t) (iblk m c 2 t) r f
    = memFeature (argX m c) (argG m c) (argW m c) (mem t) r f := by
  unfold blockFeature memFeature
  simp only [block_x, block_g, block_w]

/-- The body's block at any entry. -/
theorem body_apply (f : Fin 512) (r : Fin 256) :
    out0_5 (iblk m c 0 t) (iblk m c 1 t) (iblk m c 2 t) (iblk m c 3 t) (iblk m c 4 t) (ix3 0 f r) = entry m c (mem t) f r := by
  rcases split f with ⟨e, rfl⟩ | ⟨e, rfl⟩
  · rw [entry_key, out_keys]
    unfold keyAt
    simp only [feature_eq, block_n, block_a]
  · rw [entry_val, out_vals, feature_eq]
    rfl

/-- Point `t` writes its block of `result`. -/
theorem flushed (t : Fin cfg0.N) : (dats m 0 c).flushed 5 t = ((cfg0.win 5).blk t).view.read (Elt Ideal) (result m c) := by
  rw [Value.flushed5]
  obtain ⟨i0, i1, i2⟩ := index5 t
  funext y
  have hy0 : (y 0).val < 1 := (y 0).isLt
  have hy1 : (y 1).val < 512 := (y 1).isLt
  have hy2 : (y 2).val < 256 := (y 2).isLt
  have hy : (cfg0.win 5).xinj (grid0.coords t) y = (ix3 (n0 := 1) (n1 := 512) (n2 := 256) 0 ⟨(y 1).val, hy1⟩ ⟨(y 2).val, hy2⟩) := by
    funext a; apply Fin.ext
    match a with
    | ⟨0, _⟩ => show (y 0).val = 0; omega
    | ⟨1, _⟩ => rfl
    | ⟨2, _⟩ => rfl
  have he : ((cfg0.win 5).blk t).view.emb y = (ix3 (n0 := 2) (n1 := 512) (n2 := 256) (mem t) ⟨(y 1).val, hy1⟩ ⟨(y 2).val, hy2⟩) := by
    funext a; apply Fin.ext
    match a with
    | ⟨0, _⟩ => show win0_5.index t (0 : Fin 3) * 1 + 1 * (y 0).val = t.val; rw [i0]; omega
    | ⟨1, _⟩ => show win0_5.index t (1 : Fin 3) * 512 + 1 * (y 1).val = (y 1).val; rw [i1]; omega
    | ⟨2, _⟩ => show win0_5.index t (2 : Fin 3) * 256 + 1 * (y 2).val = (y 2).val; rw [i2]; omega
  show out0_5 (iblk m c 0 t) (iblk m c 1 t) (iblk m c 2 t) (iblk m c 3 t) (iblk m c 4 t) ((cfg0.win 5).xinj (grid0.coords t) y)
    = result m c (((cfg0.win 5).blk t).view.emb y)
  rw [hy, he, body_apply]
  rfl

/-- Every entry lies in some point's block. -/
theorem covered (i : S2x512x256.Idx) : ∃ t : Fin cfg0.N, (cfg0.win 5).flush t = true ∧ i ∈ ((cfg0.win 5).blk t).view.set := by
  have h0 : (i 0).val < 2 := (i 0).isLt
  have h1 : (i 1).val < 512 := (i 1).isLt
  have h2 : (i 2).val < 256 := (i 2).isLt
  have hf : ∀ t : Fin cfg0.N, (cfg0.win 5).flush t = true := (by decide +kernel : ∀ t : Fin grid0.N, _)
  refine ⟨⟨(i 0).val, lt_of_lt_of_eq h0 N_0.symm⟩, hf _, ?_⟩
  obtain ⟨e0, e1, e2⟩ := index5 ⟨(i 0).val, lt_of_lt_of_eq h0 N_0.symm⟩
  dsimp only at e0
  generalize (⟨(i 0).val, _⟩ : Fin cfg0.N) = t at *
  show i ∈ ((View.whole main_v6).slice (win0_5.rect t)).set
  rw [View.set_slice_whole, Rect.mem_set_unit]
  intro a
  match a with
  | ⟨0, _⟩ => show win0_5.index t (0 : Fin 3) * 1 ≤ (i 0).val ∧ (i 0).val < win0_5.index t (0 : Fin 3) * 1 + 1; rw [e0]; omega
  | ⟨1, _⟩ => show win0_5.index t (1 : Fin 3) * 512 ≤ (i 1).val ∧ (i 1).val < win0_5.index t (1 : Fin 3) * 512 + 512; rw [e1]; omega
  | ⟨2, _⟩ => show win0_5.index t (2 : Fin 3) * 256 ≤ (i 2).val ∧ (i 2).val < win0_5.index t (2 : Fin 3) * 256 + 256; rw [e2]; omega

/-- The kernel's run ends with `result` in its result array and its arguments unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  θ_run_mono (Value.run_blocks m ρ) fun _ h c =>
    ⟨(h c).1.trans ((dats m 0 c).arrAt_eq_of_cover 5 _ (fun t _ => flushed m c t) covered), (h c).2⟩

end Cert.Kernel4Ideal.Memory

end
-- ==== Proof.MemKvRef.lean ====
/- The memory's keys and values in the reference: the features regrouped by head, each head's keys normed over its own
   features. Where the gain and the keys' weights are finite the kernel's table gives the same norm. -/
module

public import proofs.«01_k».proof.Proof.MemKv
public import proofs.«01_k».proof.Proof.RefValue
public import proofs.«01_k».proof.Proof.Gen.Reference4Ideal.Read
public import proofs.«01_k».proof.Proof.Gen.Pre_key_weights_finite

@[expose] public section

noncomputable section

namespace Cert.Reference4Ideal.Reading

open Idealize.ShloMosaic Cert.Reference4Ideal Cert.Reference4Ideal.Read Cert.ReferenceIdeal.Reading Idealize.SL.Sem
open Cert.Kernel4Ideal.Body (scaled feature tableNormed keyCol valCol)
open Cert.Kernel4Ideal.Memory (memFeature place same)
open Cert.GroupNorm (Real')

/-- An index by its coordinates. -/
theorem ix5_ext {n0 n1 n2 n3 n4 : ℕ} (i : (⟨5, ![n0, n1, n2, n3, n4]⟩ : Shape).Idx) (a0 : Fin n0) (a1 : Fin n1) (a2 : Fin n2) (a3 : Fin n3) (a4 : Fin n4)
    (h0 : (i 0).val = a0.val) (h1 : (i 1).val = a1.val) (h2 : (i 2).val = a2.val) (h3 : (i 3).val = a3.val) (h4 : (i 4).val = a4.val) :
    i = ix5 a0 a1 a2 a3 a4 := by
  funext a
  fin_cases a
  · exact Fin.ext h0
  · exact Fin.ext h1
  · exact Fin.ext h2
  · exact Fin.ext h3
  · exact Fin.ext h4

variable (x0 : (⟨S2x256x1024, .f32⟩ : BufTy).Contents (Elt Ideal)) (x1 : (⟨S1024, .f32⟩ : BufTy).Contents (Elt Ideal))
  (x2 : (⟨S1024x512, .f32⟩ : BufTy).Contents (Elt Ideal)) (x3 : (⟨S64, .f32⟩ : BufTy).Contents (Elt Ideal)) (b : Fin 2) (r : Fin 256)

/-- The row's squares summed, -/
theorem squares_apply : val_main_v1 (F := Ideal) x0 (ix2 b r) = ∑ k : Fin 1024, x0 (ix3 b r k) * x0 (ix3 b r k) := by
  rw [val_main_v1_apply, val_main_cst_apply]
  refine (congrArg (fun z : EReal => z + _) zero_bits).trans ((zero_add _).trans (Finset.sum_congr rfl fun k _ => ?_))
  rw [ix3_ext (idx_main_v1 (ix2 b r) k) b r k rfl rfl rfl, val_main_v0_apply]
  rfl

/-- the row normalised, -/
theorem normed_apply (k : Fin 1024) : val_main_v12 (F := Ideal) x0 x1 (ix3 b r k) = scaled (fun j => x0 (ix3 b r j)) (fun j => x1 (ix1 j)) k := by
  have h1 : idx_main_v2 (idx_main_v8 (ix3 b r k)) = ix2 b r := ix2_ext _ b r rfl rfl
  have h2 : idx_main_v10 (idx_main_v11 (ix3 b r k)) = ix1 k := by funext a; fin_cases a; rfl
  rw [val_main_v12_apply, val_main_v9_apply, val_main_v8_apply, val_main_v7_apply, val_main_v6_apply, val_main_v4_apply, val_main_v2_apply, h1,
    squares_apply, val_main_v3_apply, val_main_cst_0_apply, val_main_v5_apply, val_main_cst_1_apply, val_main_v11_apply, val_main_v10_apply, h2]
  rfl

/-- and its features. -/
theorem feature_apply (e : Fin 512) : val_main_v13 (F := Ideal) x0 x1 x2 (ix3 b r e) = memFeature x0 x1 x2 b r e := by
  rw [val_main_v13_apply]
  unfold memFeature feature
  refine Finset.sum_congr rfl fun k _ => ?_
  rw [ix3_ext (lidx_main_v13 (ix3 b r e) k) b r k rfl rfl rfl, ix2_ext (ridx_main_v13 (ix3 b r e) k) k e rfl rfl, normed_apply]

/-- The features of a head. -/
def inHead (h : Fin 4) (d : Fin 64) : Fin 256 := ⟨64 * h.val + d.val, by omega⟩

theorem grouped_key (z : Fin 2) (hz : z.val = 0) (h : Fin 4) (d : Fin 64) :
    val_main_v14 (F := Ideal) x0 x1 x2 (ix5 b r z h d) = memFeature x0 x1 x2 b r (keyCol (inHead h d)) := by
  rw [val_main_v14_apply, ix3_ext (idx_main_v14 (ix5 b r z h d)) b r (keyCol (inHead h d))
    (by show ((((b.val * 256 + r.val) * 2 + z.val) * 4 + h.val) * 64 + d.val) / 131072 = b.val; omega)
    (by show ((((b.val * 256 + r.val) * 2 + z.val) * 4 + h.val) * 64 + d.val) / 512 % 256 = r.val; omega)
    (by show ((((b.val * 256 + r.val) * 2 + z.val) * 4 + h.val) * 64 + d.val) % 512 = 64 * h.val + d.val; omega), feature_apply]
theorem grouped_val (z : Fin 2) (hz : z.val = 1) (h : Fin 4) (d : Fin 64) :
    val_main_v14 (F := Ideal) x0 x1 x2 (ix5 b r z h d) = memFeature x0 x1 x2 b r (valCol (inHead h d)) := by
  rw [val_main_v14_apply, ix3_ext (idx_main_v14 (ix5 b r z h d)) b r (valCol (inHead h d))
    (by show ((((b.val * 256 + r.val) * 2 + z.val) * 4 + h.val) * 64 + d.val) / 131072 = b.val; omega)
    (by show ((((b.val * 256 + r.val) * 2 + z.val) * 4 + h.val) * 64 + d.val) / 512 % 256 = r.val; omega)
    (by show ((((b.val * 256 + r.val) * 2 + z.val) * 4 + h.val) * 64 + d.val) % 512 = 256 + (64 * h.val + d.val); omega), feature_apply]

theorem head_key (h : Fin 4) (d : Fin 64) : val_main_v16 (F := Ideal) x0 x1 x2 (ix4 b r h d) = memFeature x0 x1 x2 b r (keyCol (inHead h d)) := by
  rw [val_main_v16_apply, val_main_v15_apply, ix5_ext (idx_main_v15 (idx_main_v16 (ix4 b r h d))) b r 0 h d
    (by show (((b.val * 256 + r.val) * 4 + h.val) * 64 + d.val) / 65536 = b.val; omega)
    (by show (((b.val * 256 + r.val) * 4 + h.val) * 64 + d.val) / 256 % 256 = r.val; omega) rfl
    (by show (((b.val * 256 + r.val) * 4 + h.val) * 64 + d.val) / 64 % 4 = h.val; omega)
    (by show (((b.val * 256 + r.val) * 4 + h.val) * 64 + d.val) % 64 = d.val; omega)]
  exact grouped_key x0 x1 x2 b r 0 rfl h d
theorem head_val (h : Fin 4) (d : Fin 64) : val_main_v31 (F := Ideal) x0 x1 x2 (ix4 b r h d) = memFeature x0 x1 x2 b r (valCol (inHead h d)) := by
  rw [val_main_v31_apply, val_main_v30_apply, ix5_ext (idx_main_v30 (idx_main_v31 (ix4 b r h d))) b r 1 h d
    (by show (((b.val * 256 + r.val) * 4 + h.val) * 64 + d.val) / 65536 = b.val; omega)
    (by show (((b.val * 256 + r.val) * 4 + h.val) * 64 + d.val) / 256 % 256 = r.val; omega) rfl
    (by show (((b.val * 256 + r.val) * 4 + h.val) * 64 + d.val) / 64 % 4 = h.val; omega)
    (by show (((b.val * 256 + r.val) * 4 + h.val) * 64 + d.val) % 64 = d.val; omega)]
  exact grouped_val x0 x1 x2 b r 1 rfl h d

/-- A head's key feature normed over the head. -/
def headNormed (v : Fin 256 → EReal) (n : Fin 64 → EReal) (h : Fin 4) (d : Fin 64) : EReal :=
  v (inHead h d) * Ideal.rsqrt (Ideal.div (∑ k : Fin 64, v (inHead h k) * v (inHead h k)) (Ideal.ofBits .f32 0x42800000#32)
    + Ideal.ofBits .f32 0x358637BD#32) * n d

theorem head_squares (h : Fin 4) : val_main_v18 (F := Ideal) x0 x1 x2 (ix3 b r h)
    = ∑ k : Fin 64, memFeature x0 x1 x2 b r (keyCol (inHead h k)) * memFeature x0 x1 x2 b r (keyCol (inHead h k)) := by
  rw [val_main_v18_apply, val_main_cst_2_apply]
  refine (congrArg (fun z : EReal => z + _) zero_bits).trans ((zero_add _).trans (Finset.sum_congr rfl fun k _ => ?_))
  rw [ix4_ext (idx_main_v18 (ix3 b r h) k) b r h k rfl rfl rfl rfl, val_main_v17_apply, head_key]
  rfl

theorem head_normed (h : Fin 4) (d : Fin 64) : val_main_v29 (F := Ideal) x0 x1 x2 x3 (ix4 b r h d)
    = headNormed (fun e => memFeature x0 x1 x2 b r (keyCol e)) (fun d => x3 (ix1 d)) h d := by
  have h1 : idx_main_v19 (idx_main_v25 (ix4 b r h d)) = ix3 b r h := ix3_ext _ b r h rfl rfl rfl
  have h2 : idx_main_v27 (idx_main_v28 (ix4 b r h d)) = ix1 d := by funext a; fin_cases a; rfl
  rw [val_main_v29_apply, val_main_v26_apply, head_key, val_main_v25_apply, val_main_v24_apply, val_main_v23_apply, val_main_v21_apply,
    val_main_v19_apply, h1, head_squares, val_main_v20_apply, val_main_cst_3_apply, val_main_v22_apply, val_main_cst_4_apply, val_main_v28_apply,
    val_main_v27_apply, h2]
  rfl

/-- Keys and values side by side. -/
theorem pair_key (z : Fin 2) (hz : z.val = 0) (h : Fin 4) (d : Fin 64) : val_main_v34 (F := Ideal) x0 x1 x2 x3 (ix5 b r z h d)
    = val_main_v29 (F := Ideal) x0 x1 x2 x3 (ix4 b r h d) := by
  have e : val_main_v34 (F := Ideal) x0 x1 x2 x3 (ix5 b r z h d) = val_main_v32 (F := Ideal) x0 x1 x2 x3 (ix5 b r 0 h d) :=
    concatenate_pair_apply_left (t := S2x256x2x4x64) (s₁ := S2x256x1x4x64) (s₂ := S2x256x1x4x64) 2 _ _ _ (ix5 b r z h d) rfl (ix5 b r 0 h d) fun a => by
      fin_cases a
      · rfl
      · rfl
      · exact hz.symm
      · rfl
      · rfl
  rw [e, val_main_v32_apply, ix4_ext (idx_main_v32 (ix5 b r 0 h d)) b r h d rfl rfl rfl rfl]
theorem pair_val (z : Fin 2) (hz : z.val = 1) (h : Fin 4) (d : Fin 64) : val_main_v34 (F := Ideal) x0 x1 x2 x3 (ix5 b r z h d)
    = val_main_v31 (F := Ideal) x0 x1 x2 (ix4 b r h d) := by
  have e : val_main_v34 (F := Ideal) x0 x1 x2 x3 (ix5 b r z h d) = val_main_v33 (F := Ideal) x0 x1 x2 (ix5 b r 0 h d) :=
    concatenate_pair_apply_right (t := S2x256x2x4x64) (s₁ := S2x256x1x4x64) (s₂ := S2x256x1x4x64) 2 _ _ _ (ix5 b r z h d) rfl rfl (ix5 b r 0 h d)
      (fun a ha => by
        fin_cases a
        · rfl
        · rfl
        · exact absurd rfl ha
        · rfl
        · rfl)
      (by show 0 + 1 = z.val; omega)
  rw [e, val_main_v33_apply, ix4_ext (idx_main_v33 (ix5 b r 0 h d)) b r h d rfl rfl rfl rfl]

/-- A feature's head. -/
def head (e : Fin 256) : Fin 4 := ⟨e.val / 64, by omega⟩
theorem head_place (e : Fin 256) : inHead (head e) (place e) = e := Fin.ext (by show 64 * (e.val / 64) + e.val % 64 = e.val; omega)

/-- The reference's result at a key's feature, -/
theorem result_key (e : Fin 256) : val_main_v36 (F := Ideal) x0 x1 x2 x3 (ix3 b (keyCol e) r)
    = headNormed (fun e => memFeature x0 x1 x2 b r (keyCol e)) (fun d => x3 (ix1 d)) (head e) (place e) := by
  rw [val_main_v36_apply, val_main_v35_apply, ix5_ext (idx_main_v35 (idx_main_v36 (ix3 b (keyCol e) r))) b r 0 (head e) (place e)
    (by show ((b.val * 512 + e.val) * 256 + r.val) / 131072 = b.val; omega)
    (by show ((b.val * 512 + e.val) * 256 + r.val) % 256 = r.val; omega)
    (by show ((b.val * 512 + e.val) * 256 + r.val) / 65536 % 2 = 0; omega)
    (by show ((b.val * 512 + e.val) * 256 + r.val) / 16384 % 4 = e.val / 64; omega)
    (by show ((b.val * 512 + e.val) * 256 + r.val) / 256 % 64 = e.val % 64; omega), pair_key x0 x1 x2 x3 b r 0 rfl, head_normed]
/-- and at a value's. -/
theorem result_val (e : Fin 256) : val_main_v36 (F := Ideal) x0 x1 x2 x3 (ix3 b (valCol e) r) = memFeature x0 x1 x2 b r (valCol e) := by
  rw [val_main_v36_apply, val_main_v35_apply, ix5_ext (idx_main_v35 (idx_main_v36 (ix3 b (valCol e) r))) b r 1 (head e) (place e)
    (by show ((b.val * 512 + (256 + e.val)) * 256 + r.val) / 131072 = b.val; omega)
    (by show ((b.val * 512 + (256 + e.val)) * 256 + r.val) % 256 = r.val; omega)
    (by show ((b.val * 512 + (256 + e.val)) * 256 + r.val) / 65536 % 2 = 1; omega)
    (by show ((b.val * 512 + (256 + e.val)) * 256 + r.val) / 16384 % 4 = e.val / 64; omega)
    (by show ((b.val * 512 + (256 + e.val)) * 256 + r.val) / 256 % 64 = e.val % 64; omega), pair_val x0 x1 x2 x3 b r 1 rfl, head_val, head_place]

/-! ## The two norms -/

/-- On real features the table gives the head's norm. -/
theorem tableNormed_eq (v : Fin 256 → EReal) (hv : ∀ e, Real' (v e)) (n : Fin 64 → EReal) (e : Fin 256) :
    tableNormed v same (fun e => n (place e)) e = headNormed v n (head e) (place e) := by
  have hs : (∑ k : Fin 256, v k * v k * same k e) + (∑ k : Fin 256, (v k * v k - v k * v k) * same k e)
      = ∑ k : Fin 64, v (inHead (head e) k) * v (inHead (head e) k) := Cert.GroupNorm.squares_sum (H := 4) v hv (head e)
  unfold tableNormed headNormed
  rw [hs, Cert.GroupNorm.mul_64th, head_place]

/-- The gain finite and the keys' weights finite: the row's key features are real. -/
theorem feature_real (hg : ∀ k : Fin 1024, Real' (x1 (ix1 k))) (hw : ∀ (k : Fin 1024) (e : Fin 256), Real' (x2 (ix2 k (keyCol e)))) (e : Fin 256) :
    Real' (memFeature x0 x1 x2 b r (keyCol e)) := by
  unfold memFeature feature scaled
  refine Cert.GroupNorm.real_sum _ _ fun k _ => Real'.mul (Real'.mul ?_ (hg k)) (hw k e)
  obtain ⟨p, hp, ep⟩ := Cert.GroupNorm.eps_bits
  rw [Cert.GroupNorm.length_bits, ep]
  exact Cert.GroupNorm.scaled_real (fun j => x0 (ix3 b r j)) 1024 p (by norm_num) hp k

/-! ## The precondition -/

theorem top_bits : Ideal.ofBits .f32 0x7F800000#32 = (⊤ : EReal) := by
  simp [Ideal.ofBits, Ideal.ieee]

/-- A number whose absolute value is below infinity is real. -/
theorem real_of_word (x : EReal) (h : Ideal.cmp .olt (max x (-x)) (Ideal.ofBits .f32 0x7F800000#32) = 1#1) : Real' x := by
  rw [top_bits] at h
  refine Cert.GroupNorm.real_of_abs ?_
  by_contra hn
  simp [Ideal.cmp, hn] at h

theorem gain_real (h : (Cert.Pre_key_weights_finite.fn (F := Ideal) x0 x1 x2 x3).1 = fun _ => 1#1) (k : Fin 1024) : Real' (x1 (ix1 k)) :=
  real_of_word _ (congrFun h (ix1 k))

theorem weights_real (h : (Cert.Pre_key_weights_finite.fn (F := Ideal) x0 x1 x2 x3).2 = fun _ => 1#1) (k : Fin 1024) (e : Fin 256) :
    Real' (x2 (ix2 k (keyCol e))) := by
  have hs : extractStridedSlice Cert.Pre_key_weights_finite.S1024x256 ![0, 0] x2 Cert.Pre_key_weights_finite.Gen.slices_S1024x512_S1024x256_0_0 (ix2 k e) = x2 (ix2 k (keyCol e)) := by
    pointwise
    rfl
  rw [← hs]
  exact real_of_word _ (congrFun h (ix2 k e))

end Cert.Reference4Ideal.Reading

end
-- ==== Proof.XaBody.lean ====
/- The attention to the memory: what the kernel's body computes, entry by entry. A head is a block of 64 features; its
   scores, weights and weighted values are stated once, and the body's four heads are instances. -/
module

public import proofs.«01_k».proof.Proof.Gen.Kernel5Ideal.Value
public import proofs.«01_k».proof.Proof.MemKvRef
public import Idealize.ShloMosaic.Lib.Pointwise

@[expose] public section

set_option maxRecDepth 16384

noncomputable section

namespace Cert.Kernel5Ideal.Body

open Idealize.ShloMosaic Cert.Kernel5Ideal Cert.Kernel5Ideal.Gen
open Cert.Kernel4Ideal.Body (scaled tableNormed keyCol valCol)
open Cert.Kernel4Ideal.Memory (place)
open Cert.Reference4Ideal.Reading (inHead head head_place)

/-! ## Rows of numbers -/

/-- A query's feature before its head's norm. -/
def query (x g : Fin 1024 → EReal) (w : Fin 1024 → Fin 256 → EReal) (e : Fin 256) : EReal :=
  ∑ k : Fin 1024, scaled x g k * w k e

/-- The largest of 256 scores. -/
def top (s : Fin 256 → EReal) : EReal := (Finset.univ : Finset (Fin 256)).fold max ⊥ s

/-- A position's share of the weights. -/
def share (s : Fin 256 → EReal) (j : Fin 256) : EReal :=
  Ideal.div (Ideal.exp (s j - top s)) (∑ k : Fin 256, Ideal.exp (s k - top s))

/-- A value's feature averaged by the shares. -/
def attended (s v : Fin 256 → EReal) : EReal := ∑ j : Fin 256, share s j * v j

/-- The kernel's scores of head `h`: its query features, an eighth of each, times the keys'. -/
def scoreK (q : Fin 256 → EReal) (kv : Fin 512 → Fin 256 → EReal) (h : Fin 4) (j : Fin 256) : EReal :=
  ∑ d : Fin 64, q (inHead h d) * Ideal.ofBits .f32 0x3E000000#32 * kv (keyCol (inHead h d)) j

/-- The heads' averages through the last weight, added to the row, from the heads' scores. -/
def rowOut (x : Fin 1024 → EReal) (s : Fin 4 → Fin 256 → EReal) (kv : Fin 512 → Fin 256 → EReal) (w : Fin 256 → Fin 1024 → EReal) (c : Fin 1024) : EReal :=
  x c + ∑ e : Fin 256, attended (s (head e)) (kv (valCol (inHead (head e) (place e)))) * w e c

/-! ## One head of a block -/

def scores (q : FVec Ideal S1024x64 .bf16) (k : FVec Ideal S64x256 .bf16) : FVec Ideal S1024x256 .f32 :=
  matmul (φ₁ := .bf16) (φ₂ := .bf16) dot_S1024x64_S64x256_S1024x256_1_0_0_1_n_n none q k (constant S1024x256 .f32 0x00000000#32)

def weights (s : FVec Ideal S1024x256 .f32) : FVec Ideal S1024x256 .f32 :=
  exp (subf s (broadcastTo S1024x256 (shapeCast S1024x1
    (multiReduction .maximumf [1] S1024 s 0xFF800000#32 reduces_S1024x256_S1024 (.inl rfl) rfl) shapeCasts_S1024_S1024x1) broadcasts_S1024x1_S1024x256))

def averages (e : FVec Ideal S1024x256 .f32) (v : FVec Ideal S64x256 .bf16) : FVec Ideal S1024x64 .f32 :=
  matmul (φ₁ := .bf16) (φ₂ := .bf16) dot_S1024x256_S64x256_S1024x64_1_1_0_0_n_n none
    (truncf .bf16 (divf e (broadcastTo S1024x256 (shapeCast S1024x1
      (multiReduction .add [1] S1024 e 0x00000000#32 reduces_S1024x256_S1024 (.inl rfl) rfl) shapeCasts_S1024_S1024x1) broadcasts_S1024x1_S1024x256)) bitsLt_bf16_f32)
    v (constant S1024x64 .f32 0x00000000#32)

def joined (a b c d : FVec Ideal S1024x64 .f32) : FVec Ideal S1024x256 .f32 :=
  concatenate S1024x256 1 [⟨S1024x64, a⟩, ⟨S1024x64, b⟩, ⟨S1024x64, c⟩, ⟨S1024x64, d⟩] concatenates_S1024x64_S1024x64_S1024x64_S1024x64_S1024x256_d1

theorem scores_apply (q : FVec Ideal S1024x64 .bf16) (k : FVec Ideal S64x256 .bf16) (r : Fin 1024) (j : Fin 256) :
    scores q k (ix2 r j) = ∑ d : Fin 64, q (ix2 r d) * k (ix2 d j) := by
  unfold scores
  pointwise

theorem weights_apply (s : FVec Ideal S1024x256 .f32) (r : Fin 1024) (j : Fin 256) :
    weights s (ix2 r j) = Ideal.exp (s (ix2 r j) - top fun j => s (ix2 r j)) := by
  unfold weights top
  pointwise
  rw [Cert.ReferenceIdeal.Reading.bot_bits]

theorem averages_apply (e : FVec Ideal S1024x256 .f32) (v : FVec Ideal S64x256 .bf16) (r : Fin 1024) (d : Fin 64) :
    averages e v (ix2 r d) = ∑ j : Fin 256, Ideal.div (e (ix2 r j)) (∑ k : Fin 256, e (ix2 r k)) * v (ix2 d j) := by
  unfold averages
  pointwise

/-- A head's averages from its scores. -/
theorem head_apply (s : FVec Ideal S1024x256 .f32) (v : FVec Ideal S64x256 .bf16) (r : Fin 1024) (d : Fin 64) :
    averages (weights s) v (ix2 r d) = attended (fun j => s (ix2 r j)) (fun j => v (ix2 d j)) := by
  rw [averages_apply]
  unfold attended share
  simp only [weights_apply]

theorem joined_apply (a b c d : FVec Ideal S1024x64 .f32) (r : Fin 1024) (h : Fin 4) (i : Fin 64) :
    joined a b c d (ix2 r (inHead h i)) = (![a, b, c, d] : Fin 4 → FVec Ideal S1024x64 .f32) h (ix2 r i) := by
  have hi := i.isLt
  fin_cases h
  · show joined a b c d (ix2 r (inHead 0 i)) = a (ix2 r i)
    have hv : (inHead 0 i).val = i.val := by show 64 * 0 + i.val = i.val; omega
    generalize inHead 0 i = e at hv
    unfold joined
    pointwise
    rw [dif_pos (by omega : e.val < 64)]
    exact congrArg (fun z => a (ix2 r z)) (Fin.ext (by show e.val = i.val; omega))
  · show joined a b c d (ix2 r (inHead 1 i)) = b (ix2 r i)
    have hv : (inHead 1 i).val = 64 + i.val := rfl
    generalize inHead 1 i = e at hv
    unfold joined
    pointwise
    rw [dif_neg (by omega : ¬(e.val < 64)), dif_pos (by omega : e.val - 64 < 64)]
    exact congrArg (fun z => b (ix2 r z)) (Fin.ext (by show e.val - 64 = i.val; omega))
  · show joined a b c d (ix2 r (inHead 2 i)) = c (ix2 r i)
    have hv : (inHead 2 i).val = 128 + i.val := rfl
    generalize inHead 2 i = e at hv
    unfold joined
    pointwise
    rw [dif_neg (by omega : ¬(e.val < 64)), dif_neg (by omega : ¬(e.val - 64 < 64)), dif_pos (by omega : e.val - 64 - 64 < 64)]
    exact congrArg (fun z => c (ix2 r z)) (Fin.ext (by show e.val - 64 - 64 = i.val; omega))
  · show joined a b c d (ix2 r (inHead 3 i)) = d (ix2 r i)
    have hv : (inHead 3 i).val = 192 + i.val := rfl
    generalize inHead 3 i = e at hv
    unfold joined
    pointwise
    rw [dif_neg (by omega : ¬(e.val < 64)), dif_neg (by omega : ¬(e.val - 64 < 64)), dif_neg (by omega : ¬(e.val - 64 - 64 < 64))]
    exact congrArg (fun z => d (ix2 r z)) (Fin.ext (by show e.val - 64 - 64 - 64 = i.val; omega))

/-! ## The block's queries -/

variable (x0 : Vec Ideal S1x1024x1024 .f32) (x1 : Vec Ideal S1x1x512x256 .f32) (x2 : Vec Ideal S1x1024 .f32) (x3 : Vec Ideal S1024x256 .bf16)
  (x4 : Vec Ideal S256x1024 .bf16) (x5 : Vec Ideal S1x256 .f32) (x6 : Vec Ideal S256x256 .bf16)

theorem row_apply (r c : Fin 1024) : k0_pay2 (F := Ideal) x0 (ix2 r c) = x0 (ix3 0 r c) := by
  unfold k0_pay2
  pointwise

/-- The queries before the heads' norms, -/
def raw : FVec Ideal S1024x256 .f32 :=
  matmul (φ₁ := .bf16) (φ₂ := .bf16) dot_S1024x1024_S1024x256_S1024x256_1_0_0_1_n_n none
    (truncf .bf16 (mulf (mulf (k0_pay2 (F := Ideal) x0) (broadcastTo S1024x1024 (rsqrt (addf (divf (shapeCast S1024x1
      (multiReduction .add [1] S1024 (mulf (k0_pay2 (F := Ideal) x0) (k0_pay2 (F := Ideal) x0)) 0x00000000#32 reduces_S1024x1024_S1024 (.inl rfl) rfl)
      shapeCasts_S1024_S1024x1) (broadcast S1024x1 (Scalar.ofBits .f32 0x44800000#32))) (broadcast S1024x1 (Scalar.ofBits .f32 0x358637BD#32))))
      broadcasts_S1024x1_S1024x1024)) (broadcastTo S1024x1024 (shapeCast S1x1024 x2 shapeCasts_S1x1024_S1x1024) broadcasts_S1x1024_S1024x1024)) bitsLt_bf16_f32)
    (shapeCast S1024x256 x3 shapeCasts_S1024x256_S1024x256) (constant S1024x256 .f32 0x00000000#32)

/-- and after them. -/
def normed (y : FVec Ideal S1024x256 .f32) : FVec Ideal S1024x256 .f32 :=
  mulf (mulf y (rsqrt (addf (mulf (addf
      (matmul (φ₁ := .bf16) (φ₂ := .bf16) dot_S1024x256_S256x256_S1024x256_1_0_0_1_n_n none (truncf .bf16 (mulf y y) bitsLt_bf16_f32) x6
        (constant S1024x256 .f32 0x00000000#32))
      (matmul (φ₁ := .bf16) (φ₂ := .bf16) dot_S1024x256_S256x256_S1024x256_1_0_0_1_n_n none
        (truncf .bf16 (subf (mulf y y) (extf .f32 (truncf .bf16 (mulf y y) bitsLt_bf16_f32) bitsLt_bf16_f32)) bitsLt_bf16_f32) x6
        (constant S1024x256 .f32 0x00000000#32)))
      (broadcast S1024x256 (Scalar.ofBits .f32 0x3C800000#32))) (broadcast S1024x256 (Scalar.ofBits .f32 0x358637BD#32)))))
    (broadcastTo S1024x256 (shapeCast S1x256 x5 shapeCasts_S1x256_S1x256) broadcasts_S1x256_S1024x256)

theorem queries_eq : k0_pay3 (F := Ideal) x0 x2 x3 x6 x5 = normed x5 x6 (raw x0 x2 x3) := rfl

theorem raw_apply (r : Fin 1024) (e : Fin 256) : raw x0 x2 x3 (ix2 r e)
    = query (fun j => x0 (ix3 0 r j)) (fun j => x2 (ix2 0 j)) (fun k e => x3 (ix2 k e)) e := by
  unfold raw query scaled
  pointwise [row_apply]

theorem normed_apply (y : FVec Ideal S1024x256 .f32) (r : Fin 1024) (e : Fin 256) : normed x5 x6 y (ix2 r e)
    = tableNormed (fun e => y (ix2 r e)) (fun k e => x6 (ix2 k e)) (fun e => x5 (ix2 0 e)) e := by
  unfold normed tableNormed
  pointwise

/-- A block row's normed queries. -/
def blockQuery (r : Fin 1024) (e : Fin 256) : EReal :=
  tableNormed (query (fun j => x0 (ix3 0 r j)) (fun j => x2 (ix2 0 j)) (fun k e => x3 (ix2 k e))) (fun k e => x6 (ix2 k e)) (fun e => x5 (ix2 0 e)) e

theorem queries_apply (r : Fin 1024) (e : Fin 256) : k0_pay3 (F := Ideal) x0 x2 x3 x6 x5 (ix2 r e) = blockQuery x0 x2 x3 x5 x6 r e := by
  have hf : (fun e => raw x0 x2 x3 (ix2 r e)) = query (fun j => x0 (ix3 0 r j)) (fun j => x2 (ix2 0 j)) (fun k e => x3 (ix2 k e)) :=
    funext fun e => raw_apply x0 x2 x3 r e
  rw [queries_eq, normed_apply, hf]
  rfl

/-! ## The four heads -/

/-- Head `h`'s features of the queries, an eighth of each, and what it reads of the memory. -/
def part (y : FVec Ideal S1024x256 .f32) : Fin 4 → FVec Ideal S1024x64 .bf16 :=
  ![extractStridedSlice S1024x64 ![0, 0] (k0_pay4 (F := Ideal) y) slices_S1024x256_o0_0_S1024x64,
    extractStridedSlice S1024x64 ![0, 64] (k0_pay4 (F := Ideal) y) slices_S1024x256_o0_64_S1024x64,
    extractStridedSlice S1024x64 ![0, 128] (k0_pay4 (F := Ideal) y) slices_S1024x256_o0_128_S1024x64,
    extractStridedSlice S1024x64 ![0, 192] (k0_pay4 (F := Ideal) y) slices_S1024x256_o0_192_S1024x64]
def keys : Fin 4 → FVec Ideal S64x256 .bf16 :=
  ![k0_pay6 (F := Ideal) (View.ld x1 r0_5), k0_pay6 (F := Ideal) (View.ld x1 r0_7), k0_pay6 (F := Ideal) (View.ld x1 r0_9), k0_pay6 (F := Ideal) (View.ld x1 r0_11)]
def vals : Fin 4 → FVec Ideal S64x256 .bf16 :=
  ![k0_pay6 (F := Ideal) (View.ld x1 r0_6), k0_pay6 (F := Ideal) (View.ld x1 r0_8), k0_pay6 (F := Ideal) (View.ld x1 r0_10), k0_pay6 (F := Ideal) (View.ld x1 r0_12)]

theorem eighth_apply (y : FVec Ideal S1024x256 .f32) (r : Fin 1024) (e : Fin 256) :
    k0_pay4 (F := Ideal) y (ix2 r e) = y (ix2 r e) * Ideal.ofBits .f32 0x3E000000#32 := by
  unfold k0_pay4
  pointwise

theorem part_apply (y : FVec Ideal S1024x256 .f32) (h : Fin 4) (r : Fin 1024) (d : Fin 64) :
    part y h (ix2 r d) = y (ix2 r (inHead h d)) * Ideal.ofBits .f32 0x3E000000#32 := by
  rw [← eighth_apply]
  unfold part
  generalize k0_pay4 (F := Ideal) y = z
  fin_cases h
  · show extractStridedSlice S1024x64 ![0, 0] z slices_S1024x256_o0_0_S1024x64 (ix2 r d) = _
    pointwise
    exact congrArg (fun e => z (ix2 r e)) (Fin.ext (by simp [inHead]))
  · show extractStridedSlice S1024x64 ![0, 64] z slices_S1024x256_o0_64_S1024x64 (ix2 r d) = _
    pointwise
    rfl
  · show extractStridedSlice S1024x64 ![0, 128] z slices_S1024x256_o0_128_S1024x64 (ix2 r d) = _
    pointwise
    rfl
  · show extractStridedSlice S1024x64 ![0, 192] z slices_S1024x256_o0_192_S1024x64 (ix2 r d) = _
    pointwise
    rfl

theorem slab_apply (z : Vec Ideal S1x1x64x256 .f32) (d : Fin 64) (j : Fin 256) : k0_pay6 (F := Ideal) z (ix2 d j) = z (ix4 0 0 d j) := by
  unfold k0_pay6
  pointwise

/-- A slab of 64 features of the memory, read from feature `o` on. -/
theorem ld_slab (o : ℕ) (hb : ∀ a : Fin 4, (![0, 0, o, 0] : Fin 4 → ℕ) a + S1x1x64x256.size a ≤ S1x1x512x256.size a) (d : Fin 64) (j : Fin 256)
    (f : Fin 512) (hf : f.val = o + d.val) :
    View.ld x1 (Rect.unit (s := S1x1x512x256) ![0, 0, o, 0] S1x1x64x256.size hb) (ix4 0 0 d j) = x1 (ix4 0 0 f j) := by
  refine congrArg x1 (funext fun a => Fin.ext ?_)
  match a with
  | ⟨0, _⟩ => rfl
  | ⟨1, _⟩ => rfl
  | ⟨2, _⟩ => show o + 1 * d.val = f.val; omega
  | ⟨3, _⟩ => show 0 + 1 * j.val = j.val; omega

theorem keys_apply (h : Fin 4) (d : Fin 64) (j : Fin 256) : keys x1 h (ix2 d j) = x1 (ix4 0 0 (keyCol (inHead h d)) j) := by
  unfold keys
  fin_cases h
  · exact (slab_apply _ d j).trans (ld_slab x1 0 _ d j _ rfl)
  · exact (slab_apply _ d j).trans (ld_slab x1 64 _ d j _ rfl)
  · exact (slab_apply _ d j).trans (ld_slab x1 128 _ d j _ rfl)
  · exact (slab_apply _ d j).trans (ld_slab x1 192 _ d j _ rfl)
theorem vals_apply (h : Fin 4) (d : Fin 64) (j : Fin 256) : vals x1 h (ix2 d j) = x1 (ix4 0 0 (valCol (inHead h d)) j) := by
  unfold vals
  fin_cases h
  · exact (slab_apply _ d j).trans (ld_slab x1 256 _ d j _ (by show 256 + (64 * 0 + d.val) = 256 + d.val; omega))
  · exact (slab_apply _ d j).trans (ld_slab x1 320 _ d j _ (by show 256 + (64 * 1 + d.val) = 320 + d.val; omega))
  · exact (slab_apply _ d j).trans (ld_slab x1 384 _ d j _ (by show 256 + (64 * 2 + d.val) = 384 + d.val; omega))
  · exact (slab_apply _ d j).trans (ld_slab x1 448 _ d j _ (by show 256 + (64 * 3 + d.val) = 448 + d.val; omega))

/-- Head `h` of the block. -/
def headOut (y : FVec Ideal S1024x256 .f32) (h : Fin 4) : FVec Ideal S1024x64 .f32 := averages (weights (scores (part y h) (keys x1 h))) (vals x1 h)

theorem headOut_apply (y : FVec Ideal S1024x256 .f32) (h : Fin 4) (r : Fin 1024) (d : Fin 64) : headOut x1 y h (ix2 r d)
    = attended (scoreK (fun e => y (ix2 r e)) (fun f j => x1 (ix4 0 0 f j)) h) (fun j => x1 (ix4 0 0 (valCol (inHead h d)) j)) := by
  have hs : (fun j => scores (part y h) (keys x1 h) (ix2 r j)) = scoreK (fun e => y (ix2 r e)) (fun f j => x1 (ix4 0 0 f j)) h := by
    funext j
    rw [scores_apply]
    unfold scoreK
    simp only [part_apply, keys_apply]
  have hv : (fun j => vals x1 h (ix2 d j)) = fun j => x1 (ix4 0 0 (valCol (inHead h d)) j) := funext fun j => vals_apply x1 h d j
  unfold headOut
  rw [head_apply, hs, hv]

/-! ## The block -/

/-- The rows plus the heads' averages through the last weight. -/
def block (v : FVec Ideal S1024x1024 .f32) (o : FVec Ideal S1024x256 .f32) : FVec Ideal S1x1024x1024 .f32 :=
  shapeCast S1x1024x1024 (addf v (matmul (φ₁ := .bf16) (φ₂ := .bf16) dot_S1024x256_S256x1024_S1024x1024_1_0_0_1_n_n none
    (truncf .bf16 o bitsLt_bf16_f32) (shapeCast S256x1024 x4 shapeCasts_S256x1024_S256x1024) (constant S1024x1024 .f32 0x00000000#32)))
    shapeCasts_S1024x1024_S1x1024x1024

theorem block_apply (v : FVec Ideal S1024x1024 .f32) (o : FVec Ideal S1024x256 .f32) (r c : Fin 1024) :
    block x4 v o (ix3 0 r c) = v (ix2 r c) + ∑ e : Fin 256, o (ix2 r e) * x4 (ix2 e c) := by
  unfold block
  pointwise

/-- The block the body leaves, -/
theorem out_eq : out0_7 x0 x1 x2 x3 x4 x5 x6
    = block x4 (k0_pay2 (F := Ideal) x0) (joined (headOut x1 (k0_pay3 (F := Ideal) x0 x2 x3 x6 x5) 0) (headOut x1 (k0_pay3 (F := Ideal) x0 x2 x3 x6 x5) 1)
        (headOut x1 (k0_pay3 (F := Ideal) x0 x2 x3 x6 x5) 2) (headOut x1 (k0_pay3 (F := Ideal) x0 x2 x3 x6 x5) 3)) := by
  have hz2 : ∀ a : Fin 2, (![0, 0] : Fin 2 → ℕ) a = 0 := by decide
  have hz3 : ∀ a : Fin 3, (![0, 0, 0] : Fin 3 → ℕ) a = 0 := by decide
  unfold out0_7
  rw [View.canon_cons_unit_zero (funext hz3)]
  unfold k0_pay14 k0_pay13
  rw [View.ld_unit_zero (funext hz3) _ x0, View.ld_unit_zero (funext hz2) _ x2, View.ld_unit_zero (funext hz2) _ x3, View.ld_unit_zero (funext hz2) _ x4,
    View.ld_unit_zero (funext hz2) _ x5, View.ld_unit_zero (funext hz2) _ x6]
  generalize k0_pay3 (F := Ideal) x0 x2 x3 x6 x5 = y
  rfl

/-- and its entries. -/
theorem out_apply (r c : Fin 1024) : out0_7 x0 x1 x2 x3 x4 x5 x6 (ix3 0 r c)
    = rowOut (fun j => x0 (ix3 0 r j)) (scoreK (blockQuery x0 x2 x3 x5 x6 r) fun f j => x1 (ix4 0 0 f j)) (fun f j => x1 (ix4 0 0 f j))
        (fun e c => x4 (ix2 e c)) c := by
  have hq : (fun e => k0_pay3 (F := Ideal) x0 x2 x3 x6 x5 (ix2 r e)) = blockQuery x0 x2 x3 x5 x6 r := funext fun e => queries_apply x0 x2 x3 x5 x6 r e
  have hj : ∀ e : Fin 256, joined (headOut x1 (k0_pay3 (F := Ideal) x0 x2 x3 x6 x5) 0) (headOut x1 (k0_pay3 (F := Ideal) x0 x2 x3 x6 x5) 1)
        (headOut x1 (k0_pay3 (F := Ideal) x0 x2 x3 x6 x5) 2) (headOut x1 (k0_pay3 (F := Ideal) x0 x2 x3 x6 x5) 3) (ix2 r e)
      = attended (scoreK (blockQuery x0 x2 x3 x5 x6 r) (fun f j => x1 (ix4 0 0 f j)) (head e))
          (fun j => x1 (ix4 0 0 (valCol (inHead (head e) (place e))) j)) := fun e => by
    have h4 : ∀ h : Fin 4, (![headOut x1 (k0_pay3 (F := Ideal) x0 x2 x3 x6 x5) 0, headOut x1 (k0_pay3 (F := Ideal) x0 x2 x3 x6 x5) 1,
        headOut x1 (k0_pay3 (F := Ideal) x0 x2 x3 x6 x5) 2, headOut x1 (k0_pay3 (F := Ideal) x0 x2 x3 x6 x5) 3] : Fin 4 → FVec Ideal S1024x64 .f32) h
        = headOut x1 (k0_pay3 (F := Ideal) x0 x2 x3 x6 x5) h := fun h => by fin_cases h <;> rfl
    have he := joined_apply (headOut x1 (k0_pay3 (F := Ideal) x0 x2 x3 x6 x5) 0) (headOut x1 (k0_pay3 (F := Ideal) x0 x2 x3 x6 x5) 1)
        (headOut x1 (k0_pay3 (F := Ideal) x0 x2 x3 x6 x5) 2) (headOut x1 (k0_pay3 (F := Ideal) x0 x2 x3 x6 x5) 3) r (head e) (place e)
    rw [h4, headOut_apply, hq] at he
    rw [← he, head_place]
  rw [out_eq, block_apply, row_apply]
  unfold rowOut
  simp only [hj]

end Cert.Kernel5Ideal.Body

end
-- ==== Proof.XaTable.lean ====
/- The table the call on the memory is given, which is the one the memory's own call is given: one where two features belong
   to the same head, else nothing. A row of 256 features is two runs of 128 words, of three kinds. -/
module

public import proofs.«01_k».proof.Kernel5Ideal
public import Mathlib.Tactic.IntervalCases

@[expose] public section

set_option maxRecDepth 65536
set_option maxHeartbeats 4000000

namespace Cert.Kernel5Ideal.Table

/-- A run's words: the place in the run decides. -/
theorem first_half (i : ℕ) : lit0t0_0 i = if i % 128 < 64 then 0x3F80#16 else 0x0000#16 := by
  have h : ∀ j : Fin 128, lit0t0_0 j.val = if j.val < 64 then 0x3F80#16 else 0x0000#16 := by decide +kernel
  have e : lit0t0_0 i = lit0t0_0 (i % 128) := by delta lit0t0_0; rw [Nat.mod_mod]
  rw [e]
  exact h ⟨i % 128, Nat.mod_lt _ (by decide)⟩
theorem second_half (i : ℕ) : lit0t0_128 i = if i % 128 < 64 then 0x0000#16 else 0x3F80#16 := by
  have h : ∀ j : Fin 128, lit0t0_128 j.val = if j.val < 64 then 0x0000#16 else 0x3F80#16 := by decide +kernel
  have e : lit0t0_128 i = lit0t0_128 (i % 128) := by delta lit0t0_128; rw [Nat.mod_mod]
  rw [e]
  exact h ⟨i % 128, Nat.mod_lt _ (by decide)⟩
theorem nothing (i : ℕ) : lit0t0_1 i = 0x0000#16 := by
  have h : ∀ j : Fin 128, lit0t0_1 j.val = 0x0000#16 := by decide +kernel
  have e : lit0t0_1 i = lit0t0_1 (i % 128) := by delta lit0t0_1; rw [Nat.mod_mod]
  rw [e]
  exact h ⟨i % 128, Nat.mod_lt _ (by decide)⟩

/-- The runs of each head's rows. -/
theorem head0 (i : ℕ) : lit0t1_0 i = if i / 128 % 128 % 2 = 0 then lit0t0_0 i else lit0t0_1 i := by
  have hq : i / 128 % 128 < 128 := Nat.mod_lt _ (by decide)
  delta lit0t1_0
  generalize i / 128 % 128 = q at *
  interval_cases q <;> rfl
theorem head1 (i : ℕ) : lit0t1_1 i = if i / 128 % 128 % 2 = 0 then lit0t0_128 i else lit0t0_1 i := by
  have hq : i / 128 % 128 < 128 := Nat.mod_lt _ (by decide)
  delta lit0t1_1
  generalize i / 128 % 128 = q at *
  interval_cases q <;> rfl
theorem head2 (i : ℕ) : lit0t1_2 i = if i / 128 % 128 % 2 = 0 then lit0t0_1 i else lit0t0_0 i := by
  have hq : i / 128 % 128 < 128 := Nat.mod_lt _ (by decide)
  delta lit0t1_2
  generalize i / 128 % 128 = q at *
  interval_cases q <;> rfl
theorem head3 (i : ℕ) : lit0t1_3 i = if i / 128 % 128 % 2 = 0 then lit0t0_1 i else lit0t0_128 i := by
  have hq : i / 128 % 128 < 128 := Nat.mod_lt _ (by decide)
  delta lit0t1_3
  generalize i / 128 % 128 = q at *
  interval_cases q <;> rfl

/-- The table's words, row by row. -/
theorem words (k e : Fin 256) :
    lit0 ⟨256 * k.val + e.val, by omega⟩ = if k.val / 64 = e.val / 64 then 0x3F80#16 else 0x0000#16 := by
  show lit0t (256 * k.val + e.val) = _
  have hk := k.isLt
  have he := e.isLt
  generalize k.val = k at *
  generalize e.val = e at *
  delta lit0t
  have hq : (256 * k + e) / 16384 = k / 64 := by omega
  have h2 : (256 * k + e) / 128 % 128 % 2 = e / 128 := by omega
  have h3 : (256 * k + e) % 128 = e % 128 := by omega
  rw [hq]
  have hk4 : k / 64 < 4 := by omega
  generalize k / 64 = h at *
  interval_cases h
  · show lit0t1_0 _ = _
    rw [head0, first_half, nothing, h2, h3]; split_ifs <;> first | rfl | omega
  · show lit0t1_1 _ = _
    rw [head1, second_half, nothing, h2, h3]; split_ifs <;> first | rfl | omega
  · show lit0t1_2 _ = _
    rw [head2, first_half, nothing, h2, h3]; split_ifs <;> first | rfl | omega
  · show lit0t1_3 _ = _
    rw [head3, second_half, nothing, h2, h3]; split_ifs <;> first | rfl | omega

end Cert.Kernel5Ideal.Table
-- ==== Proof.Xattn.lean ====
/- The attention to the memory: the array the kernel writes, entry by entry. Grid point `t` does rows `1024 (t mod 8)` on of
   sequence `t / 8`, against that sequence's memory. -/
module

public import proofs.«01_k».proof.Proof.XaBody
public import proofs.«01_k».proof.Proof.XaTable

@[expose] public section

set_option maxRecDepth 16384

noncomputable section

namespace Cert.Kernel5Ideal.Attend

open Idealize.ShloMosaic Cert.Kernel5Ideal Cert.Kernel5Ideal.Gen Cert.Kernel5Ideal.Body Idealize.ShloMosaic.TcCoe Idealize.SL.Sem
open Cert.Kernel4Ideal.Body (scaled tableNormed keyCol valCol)
open Cert.Kernel4Ideal.Memory (place same)

variable (m : (ℓ : Loc nD τ sig) → Buf (Elt Ideal) ℓ) (ρ : Dev nD → PrngReg) (c : Dev nD)

/-- The arguments: the residual stream, the memory's keys and values, the gain of the norm, the queries' weight, the last
    weight, the gain of a head's query features. -/
def argX : Vec Ideal S2x8192x1024 .f32 := m ((c : Thread nD τ).loc main_arg0)
def argM : Vec Ideal S2x512x256 .f32 := m ((c : Thread nD τ).loc main_arg1)
def argG : Vec Ideal S1024 .f32 := m ((c : Thread nD τ).loc main_arg2)
def argQ : Vec Ideal S1024x256 .f32 := m ((c : Thread nD τ).loc main_arg3)
def argO : Vec Ideal S256x1024 .f32 := m ((c : Thread nD τ).loc main_arg4)
def argN : Vec Ideal S64 .f32 := m ((c : Thread nD τ).loc main_arg5)

/-- Row `r` of sequence `b`: its query features before the heads' norms, -/
def rowQuery (x : Vec Ideal S2x8192x1024 .f32) (g : Vec Ideal S1024 .f32) (w : Vec Ideal S1024x256 .f32) (b : Fin 2) (r : Fin 8192) (e : Fin 256) : EReal :=
  query (fun j => x (ix3 b r j)) (fun j => g (ix1 j)) (fun k e => w (ix2 k e)) e
/-- after them, -/
def rowNormed (b : Fin 2) (r : Fin 8192) (e : Fin 256) : EReal :=
  tableNormed (rowQuery (argX m c) (argG m c) (argQ m c) b r) same (fun e => argN m c (ix1 (place e))) e
/-- and the row the kernel writes. -/
def entry (b : Fin 2) (r : Fin 8192) (k : Fin 1024) : EReal :=
  rowOut (fun j => argX m c (ix3 b r j)) (scoreK (rowNormed m c b r) fun f j => argM m c (ix3 b f j)) (fun f j => argM m c (ix3 b f j))
    (fun e k => argO m c (ix2 e k)) k

/-- The result array. -/
def result : Buf (Elt Ideal) ((c : Thread nD τ).loc main_v8) := fun i => entry m c (i 0) (i 1) (i 2)

/-! ## What a point stages -/

theorem index0 : ∀ t : Fin cfg0.N, win0_0.index t (0 : Fin 3) = t.val / 8 ∧ win0_0.index t (1 : Fin 3) = t.val % 8 ∧ win0_0.index t (2 : Fin 3) = 0 :=
  (by decide +kernel : ∀ t : Fin grid0.N, _)
theorem index1 : ∀ t : Fin cfg0.N, win0_1.index t (0 : Fin 4) = 0 ∧ win0_1.index t (1 : Fin 4) = t.val / 8 ∧ win0_1.index t (2 : Fin 4) = 0 ∧ win0_1.index t (3 : Fin 4) = 0 :=
  (by decide +kernel : ∀ t : Fin grid0.N, _)
theorem index2 : ∀ t : Fin cfg0.N, win0_2.index t (0 : Fin 2) = 0 ∧ win0_2.index t (1 : Fin 2) = 0 :=
  (by decide +kernel : ∀ t : Fin grid0.N, _)
theorem index3 : ∀ t : Fin cfg0.N, win0_3.index t (0 : Fin 2) = 0 ∧ win0_3.index t (1 : Fin 2) = 0 :=
  (by decide +kernel : ∀ t : Fin grid0.N, _)
theorem index4 : ∀ t : Fin cfg0.N, win0_4.index t (0 : Fin 2) = 0 ∧ win0_4.index t (1 : Fin 2) = 0 :=
  (by decide +kernel : ∀ t : Fin grid0.N, _)
theorem index5 : ∀ t : Fin cfg0.N, win0_5.index t (0 : Fin 2) = 0 ∧ win0_5.index t (1 : Fin 2) = 0 :=
  (by decide +kernel : ∀ t : Fin grid0.N, _)
theorem index6 : ∀ t : Fin cfg0.N, win0_6.index t (0 : Fin 2) = 0 ∧ win0_6.index t (1 : Fin 2) = 0 :=
  (by decide +kernel : ∀ t : Fin grid0.N, _)
theorem index7 : ∀ t : Fin cfg0.N, win0_7.index t (0 : Fin 3) = t.val / 8 ∧ win0_7.index t (1 : Fin 3) = t.val % 8 ∧ win0_7.index t (2 : Fin 3) = 0 :=
  (by decide +kernel : ∀ t : Fin grid0.N, _)

/-- The memory with a leading axis of one, -/
theorem memory_eq (b : Fin 2) (f : Fin 512) (j : Fin 256) : V m c main_v0 (ix4 0 b f j) = argM m c (ix3 b f j) := by
  have e : V m c main_v0 = (broadcastInDim S1x2x512x256 ![1, 2, 3] bcast_S2x512x256_S1x2x512x256_1_2_3 (argM m c) : Vec Ideal S1x2x512x256 .f32) := by
    show StableHlo.after hostOps0 _ _ = _
    simp only [hostOps0]
    after_results
    rfl
  rw [e]
  pointwise
/-- the gain as a row, -/
theorem gain_eq (j : Fin 1024) : V m c main_v1 (ix2 0 j) = argG m c (ix1 j) := by
  have e : V m c main_v1 = (shapeCast S1x1024 (argG m c) shapeCasts_S1024_S1x1024 : Vec Ideal S1x1024 .f32) := by
    show StableHlo.after hostOps0 _ _ = _
    simp only [hostOps0]
    after_results
    rfl
  rw [e]
  pointwise
/-- the weights, -/
theorem weight_eq (k : Fin 1024) (e : Fin 256) : V m c main_v2 (ix2 k e) = argQ m c (ix2 k e) := by
  have e : V m c main_v2 = (truncf (F := Ideal) (s := S1024x256) (φ := .f32) .bf16 (argQ m c) bitsLt_bf16_f32 : Vec Ideal S1024x256 .bf16) := by
    show StableHlo.after hostOps0 _ _ = _
    simp only [hostOps0]
    after_results
    rfl
  rw [e]
  rfl
theorem last_eq (e : Fin 256) (k : Fin 1024) : V m c main_v3 (ix2 e k) = argO m c (ix2 e k) := by
  have e : V m c main_v3 = (truncf (F := Ideal) (s := S256x1024) (φ := .f32) .bf16 (argO m c) bitsLt_bf16_f32 : Vec Ideal S256x1024 .bf16) := by
    show StableHlo.after hostOps0 _ _ = _
    simp only [hostOps0]
    after_results
    rfl
  rw [e]
  rfl
/-- a head's gains once for each head, -/
theorem gains_eq (e : Fin 256) : V m c main_v7 (ix2 0 e) = argN m c (ix1 (place e)) := by
  have h : V m c main_v7 = (shapeCast S1x256 (shapeCast S256 (broadcastInDim S4x64 ![0, 1] bcast_S1x64_S4x64_0_1
      (shapeCast S1x64 (argN m c) shapeCasts_S64_S1x64 : Vec Ideal S1x64 .f32) : Vec Ideal S4x64 .f32) shapeCasts_S4x64_S256 : Vec Ideal S256 .f32)
      shapeCasts_S256_S1x256 : Vec Ideal S1x256 .f32) := by
    show StableHlo.after hostOps0 _ _ = _
    simp only [hostOps0]
    after_results
    rfl
  rw [h]
  pointwise
  rfl
/-- and the table. -/
theorem table_eq (k e : Fin 256) : V m c main_cst (ix2 k e) = same k e := by
  have h : V m c main_cst = (fun i => Ideal.ofBits .bf16 (lit0 (S256x256.rowMajor i)) : Vec Ideal S256x256 .bf16) := by
    show StableHlo.after hostOps0 _ _ = _
    simp only [hostOps0]
    after_results
    rfl
  have hi : S256x256.rowMajor (ix2 k e) = ⟨256 * k.val + e.val, by show 256 * k.val + e.val < 65536; omega⟩ := by
    apply Fin.ext
    refine (Shape.rowMajor_val_two (d := ![256, 256]) _).trans ?_
    show k.val * 256 + e.val = 256 * k.val + e.val
    omega
  rw [h]
  show Ideal.ofBits .bf16 (lit0 (S256x256.rowMajor (ix2 k e))) = _
  rw [hi, Table.words k e]
  unfold same
  split
  · exact Cert.GroupNorm.one_word
  · exact Cert.GroupNorm.zero_word

variable (t : Fin cfg0.N)

/-- Point `t`'s sequence, and row `r` of its rows. -/
def seq (t : Fin cfg0.N) : Fin 2 := ⟨t.val / 8, by have h : t.val < 16 := lt_of_lt_of_eq t.isLt N_0; omega⟩
def row (t : Fin cfg0.N) (r : Fin 1024) : Fin 8192 := ⟨1024 * (t.val % 8) + r.val, by omega⟩

theorem block_x (r j : Fin 1024) : iblk m c 0 t (ix3 0 r j) = argX m c (ix3 (seq t) (row t r) j) := by
  obtain ⟨i0, i1, i2⟩ := index0 t
  show V m c main_arg0 (((cfg0.win 0).blk t).view.emb (ix3 0 r j)) = _
  rw [V_main_arg0]
  refine congrArg (argX m c) (funext fun a => Fin.ext ?_)
  match a with
  | ⟨0, _⟩ => show win0_0.index t (0 : Fin 3) * 1 + 1 * 0 = t.val / 8; rw [i0]; omega
  | ⟨1, _⟩ => show win0_0.index t (1 : Fin 3) * 1024 + 1 * r.val = 1024 * (t.val % 8) + r.val; rw [i1]; omega
  | ⟨2, _⟩ => show win0_0.index t (2 : Fin 3) * 1024 + 1 * j.val = j.val; rw [i2]; omega
theorem block_m (f : Fin 512) (j : Fin 256) : iblk m c 1 t (ix4 0 0 f j) = argM m c (ix3 (seq t) f j) := by
  obtain ⟨i0, i1, i2, i3⟩ := index1 t
  rw [← memory_eq m c (seq t) f j]
  show V m c main_v0 (((cfg0.win 1).blk t).view.emb (ix4 0 0 f j)) = _
  refine congrArg (V m c main_v0) (funext fun a => Fin.ext ?_)
  match a with
  | ⟨0, _⟩ => show win0_1.index t (0 : Fin 4) * 1 + 1 * 0 = 0; rw [i0]
  | ⟨1, _⟩ => show win0_1.index t (1 : Fin 4) * 1 + 1 * 0 = t.val / 8; rw [i1]; omega
  | ⟨2, _⟩ => show win0_1.index t (2 : Fin 4) * 512 + 1 * f.val = f.val; rw [i2]; omega
  | ⟨3, _⟩ => show win0_1.index t (3 : Fin 4) * 256 + 1 * j.val = j.val; rw [i3]; omega
theorem block_g (j : Fin 1024) : iblk m c 2 t (ix2 0 j) = argG m c (ix1 j) := by
  obtain ⟨i0, i1⟩ := index2 t
  rw [← gain_eq m c j]
  show V m c main_v1 (((cfg0.win 2).blk t).view.emb (ix2 0 j)) = _
  refine congrArg (V m c main_v1) (funext fun a => Fin.ext ?_)
  match a with
  | ⟨0, _⟩ => show win0_2.index t (0 : Fin 2) * 1 + 1 * 0 = 0; rw [i0]
  | ⟨1, _⟩ => show win0_2.index t (1 : Fin 2) * 1024 + 1 * j.val = j.val; rw [i1]; omega
theorem block_q (k : Fin 1024) (e : Fin 256) : iblk m c 3 t (ix2 k e) = argQ m c (ix2 k e) := by
  obtain ⟨i0, i1⟩ := index3 t
  rw [← weight_eq m c k e]
  show V m c main_v2 (((cfg0.win 3).blk t).view.emb (ix2 k e)) = _
  refine congrArg (V m c main_v2) (funext fun a => Fin.ext ?_)
  match a with
  | ⟨0, _⟩ => show win0_3.index t (0 : Fin 2) * 1024 + 1 * k.val = k.val; rw [i0]; omega
  | ⟨1, _⟩ => show win0_3.index t (1 : Fin 2) * 256 + 1 * e.val = e.val; rw [i1]; omega
theorem block_o (e : Fin 256) (k : Fin 1024) : iblk m c 4 t (ix2 e k) = argO m c (ix2 e k) := by
  obtain ⟨i0, i1⟩ := index4 t
  rw [← last_eq m c e k]
  show V m c main_v3 (((cfg0.win 4).blk t).view.emb (ix2 e k)) = _
  refine congrArg (V m c main_v3) (funext fun a => Fin.ext ?_)
  match a with
  | ⟨0, _⟩ => show win0_4.index t (0 : Fin 2) * 256 + 1 * e.val = e.val; rw [i0]; omega
  | ⟨1, _⟩ => show win0_4.index t (1 : Fin 2) * 1024 + 1 * k.val = k.val; rw [i1]; omega
theorem block_n (e : Fin 256) : iblk m c 5 t (ix2 0 e) = argN m c (ix1 (place e)) := by
  obtain ⟨i0, i1⟩ := index5 t
  rw [← gains_eq m c e]
  show V m c main_v7 (((cfg0.win 5).blk t).view.emb (ix2 0 e)) = _
  refine congrArg (V m c main_v7) (funext fun a => Fin.ext ?_)
  match a with
  | ⟨0, _⟩ => show win0_5.index t (0 : Fin 2) * 1 + 1 * 0 = 0; rw [i0]
  | ⟨1, _⟩ => show win0_5.index t (1 : Fin 2) * 256 + 1 * e.val = e.val; rw [i1]; omega
theorem block_a (k e : Fin 256) : iblk m c 6 t (ix2 k e) = same k e := by
  obtain ⟨i0, i1⟩ := index6 t
  rw [← table_eq m c k e]
  show V m c main_cst (((cfg0.win 6).blk t).view.emb (ix2 k e)) = _
  refine congrArg (V m c main_cst) (funext fun a => Fin.ext ?_)
  match a with
  | ⟨0, _⟩ => show win0_6.index t (0 : Fin 2) * 256 + 1 * k.val = k.val; rw [i0]; omega
  | ⟨1, _⟩ => show win0_6.index t (1 : Fin 2) * 256 + 1 * e.val = e.val; rw [i1]; omega

/-! ## What a point writes -/

/-- A staged row's queries are the sequence's. -/
theorem queries_eq (r : Fin 1024) : blockQuery (iblk m c 0 t) (iblk m c 2 t) (iblk m c 3 t) (iblk m c 5 t) (iblk m c 6 t) r
    = rowNormed m c (seq t) (row t r) := by
  have hq : query (fun j => iblk m c 0 t (ix3 0 r j)) (fun j => iblk m c 2 t (ix2 0 j)) (fun k e => iblk m c 3 t (ix2 k e))
      = rowQuery (argX m c) (argG m c) (argQ m c) (seq t) (row t r) := by
    funext e
    unfold rowQuery
    simp only [block_x, block_g, block_q]
  funext e
  unfold blockQuery rowNormed
  rw [hq]
  simp only [block_n, block_a]

/-- The body's block at any entry. -/
theorem body_apply (r k : Fin 1024) :
    out0_7 (iblk m c 0 t) (iblk m c 1 t) (iblk m c 2 t) (iblk m c 3 t) (iblk m c 4 t) (iblk m c 5 t) (iblk m c 6 t) (ix3 0 r k)
      = entry m c (seq t) (row t r) k := by
  rw [out_apply, queries_eq]
  unfold entry
  simp only [block_x, block_m, block_o]

/-- Point `t` writes its block of `result`. -/
theorem flushed (t : Fin cfg0.N) : (dats m 0 c).flushed 7 t = ((cfg0.win 7).blk t).view.read (Elt Ideal) (result m c) := by
  rw [Value.flushed7]
  obtain ⟨i0, i1, i2⟩ := index7 t
  funext y
  have hy0 : (y 0).val < 1 := (y 0).isLt
  have hy1 : (y 1).val < 1024 := (y 1).isLt
  have hy2 : (y 2).val < 1024 := (y 2).isLt
  have hy : (cfg0.win 7).xinj (grid0.coords t) y = (ix3 (n0 := 1) (n1 := 1024) (n2 := 1024) 0 ⟨(y 1).val, hy1⟩ ⟨(y 2).val, hy2⟩) := by
    funext a; apply Fin.ext
    match a with
    | ⟨0, _⟩ => show (y 0).val = 0; omega
    | ⟨1, _⟩ => rfl
    | ⟨2, _⟩ => rfl
  have he : ((cfg0.win 7).blk t).view.emb y = (ix3 (n0 := 2) (n1 := 8192) (n2 := 1024) (seq t) (row t ⟨(y 1).val, hy1⟩) ⟨(y 2).val, hy2⟩) := by
    funext a; apply Fin.ext
    match a with
    | ⟨0, _⟩ => show win0_7.index t (0 : Fin 3) * 1 + 1 * (y 0).val = t.val / 8; rw [i0]; omega
    | ⟨1, _⟩ => show win0_7.index t (1 : Fin 3) * 1024 + 1 * (y 1).val = 1024 * (t.val % 8) + (y 1).val; rw [i1]; omega
    | ⟨2, _⟩ => show win0_7.index t (2 : Fin 3) * 1024 + 1 * (y 2).val = (y 2).val; rw [i2]; omega
  show out0_7 (iblk m c 0 t) (iblk m c 1 t) (iblk m c 2 t) (iblk m c 3 t) (iblk m c 4 t) (iblk m c 5 t) (iblk m c 6 t) ((cfg0.win 7).xinj (grid0.coords t) y)
    = result m c (((cfg0.win 7).blk t).view.emb y)
  rw [hy, he, body_apply]
  rfl

/-- Every entry lies in some point's block. -/
theorem covered (i : S2x8192x1024.Idx) : ∃ t : Fin cfg0.N, (cfg0.win 7).flush t = true ∧ i ∈ ((cfg0.win 7).blk t).view.set := by
  have h0 : (i 0).val < 2 := (i 0).isLt
  have h1 : (i 1).val < 8192 := (i 1).isLt
  have h2 : (i 2).val < 1024 := (i 2).isLt
  have hf : ∀ t : Fin cfg0.N, (cfg0.win 7).flush t = true := (by decide +kernel : ∀ t : Fin grid0.N, _)
  have ht : 8 * (i 0).val + (i 1).val / 1024 < 16 := by omega
  refine ⟨⟨8 * (i 0).val + (i 1).val / 1024, lt_of_lt_of_eq ht N_0.symm⟩, hf _, ?_⟩
  obtain ⟨e0, e1, e2⟩ := index7 ⟨8 * (i 0).val + (i 1).val / 1024, lt_of_lt_of_eq ht N_0.symm⟩
  dsimp only at e0 e1
  generalize (⟨8 * (i 0).val + (i 1).val / 1024, _⟩ : Fin cfg0.N) = t at *
  show i ∈ ((View.whole main_v8).slice (win0_7.rect t)).set
  rw [View.set_slice_whole, Rect.mem_set_unit]
  intro a
  match a with
  | ⟨0, _⟩ => show win0_7.index t (0 : Fin 3) * 1 ≤ (i 0).val ∧ (i 0).val < win0_7.index t (0 : Fin 3) * 1 + 1; rw [e0]; omega
  | ⟨1, _⟩ => show win0_7.index t (1 : Fin 3) * 1024 ≤ (i 1).val ∧ (i 1).val < win0_7.index t (1 : Fin 3) * 1024 + 1024; rw [e1]; omega
  | ⟨2, _⟩ => show win0_7.index t (2 : Fin 3) * 1024 ≤ (i 2).val ∧ (i 2).val < win0_7.index t (2 : Fin 3) * 1024 + 1024; rw [e2]; omega

/-- The kernel's run ends with `result` in its result array and its arguments unchanged. -/
theorem run : θ_run defs (onTc (τ := τ) (main (F := Ideal))) ⟨m, fun _ => 0, ρ⟩ fun r => ∀ c : Dev nD,
      r.2.mem ((c : Thread nD τ).loc main_v8) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  θ_run_mono (Value.run_blocks m ρ) fun _ h c =>
    ⟨(h c).1.trans ((dats m 0 c).arrAt_eq_of_cover 7 _ (fun t _ => flushed m c t) covered), (h c).2⟩

end Cert.Kernel5Ideal.Attend

end
-- ==== Proof.XattnRef.lean ====
/- The attention to the memory in the reference: the queries regrouped by head and normed over their head, the scores divided
   by eight after the sum. Multiplying by an eighth distributes over a sum of extended reals, so the kernel's scores are these. -/
module

public import proofs.«01_k».proof.Proof.Xattn
public import proofs.«01_k».proof.Proof.Gen.Reference5Ideal.Read
public import proofs.«01_k».proof.Proof.Gen.Pre_query_weights_finite

@[expose] public section

noncomputable section

namespace Cert.Reference5Ideal.Reading

open Idealize.ShloMosaic Cert.Reference5Ideal Cert.Reference5Ideal.Read Cert.ReferenceIdeal.Reading Idealize.SL.Sem
open Cert.Kernel4Ideal.Body (scaled tableNormed keyCol valCol)
open Cert.Kernel4Ideal.Memory (place same)
open Cert.Kernel5Ideal.Body (query top share attended scoreK rowOut)
open Cert.Kernel5Ideal.Attend (rowQuery)
open Cert.Reference4Ideal.Reading (ix5_ext inHead head head_place headNormed)
open Cert.GroupNorm (Real')

variable (x0 : (⟨S2x8192x1024, .f32⟩ : BufTy).Contents (Elt Ideal)) (x1 : (⟨S2x512x256, .f32⟩ : BufTy).Contents (Elt Ideal))
  (x2 : (⟨S1024, .f32⟩ : BufTy).Contents (Elt Ideal)) (x3 : (⟨S1024x256, .f32⟩ : BufTy).Contents (Elt Ideal))
  (x4 : (⟨S256x1024, .f32⟩ : BufTy).Contents (Elt Ideal)) (x5 : (⟨S64, .f32⟩ : BufTy).Contents (Elt Ideal)) (b : Fin 2) (r : Fin 8192)

/-! ## The queries -/

/-- The row's squares summed, -/
theorem squares_apply : val_main_v3 (F := Ideal) x0 (ix2 b r) = ∑ k : Fin 1024, x0 (ix3 b r k) * x0 (ix3 b r k) := by
  rw [val_main_v3_apply, val_main_cst_apply]
  refine (congrArg (fun z : EReal => z + _) zero_bits).trans ((zero_add _).trans (Finset.sum_congr rfl fun k _ => ?_))
  rw [ix3_ext (idx_main_v3 (ix2 b r) k) b r k rfl rfl rfl, val_main_v2_apply]
  rfl

/-- the row normalised, -/
theorem normed_apply (k : Fin 1024) : val_main_v14 (F := Ideal) x0 x2 (ix3 b r k) = scaled (fun j => x0 (ix3 b r j)) (fun j => x2 (ix1 j)) k := by
  have h1 : idx_main_v4 (idx_main_v10 (ix3 b r k)) = ix2 b r := ix2_ext _ b r rfl rfl
  have h2 : idx_main_v12 (idx_main_v13 (ix3 b r k)) = ix1 k := by funext a; fin_cases a; rfl
  rw [val_main_v14_apply, val_main_v11_apply, val_main_v10_apply, val_main_v9_apply, val_main_v8_apply, val_main_v6_apply, val_main_v4_apply, h1,
    squares_apply, val_main_v5_apply, val_main_cst_0_apply, val_main_v7_apply, val_main_cst_1_apply, val_main_v13_apply, val_main_v12_apply, h2]
  rfl

/-- and its query features, -/
theorem feature_apply (e : Fin 256) : val_main_v15 (F := Ideal) x0 x2 x3 (ix3 b r e) = rowQuery x0 x2 x3 b r e := by
  rw [val_main_v15_apply]
  unfold rowQuery query
  refine Finset.sum_congr rfl fun k _ => ?_
  rw [ix3_ext (lidx_main_v15 (ix3 b r e) k) b r k rfl rfl rfl, ix2_ext (ridx_main_v15 (ix3 b r e) k) k e rfl rfl, normed_apply]

/-- by head, -/
theorem grouped_apply (h : Fin 4) (d : Fin 64) : val_main_v16 (F := Ideal) x0 x2 x3 (ix4 b r h d) = rowQuery x0 x2 x3 b r (inHead h d) := by
  rw [val_main_v16_apply, ix3_ext (idx_main_v16 (ix4 b r h d)) b r (inHead h d)
    (by show (((b.val * 8192 + r.val) * 4 + h.val) * 64 + d.val) / 2097152 = b.val; omega)
    (by show (((b.val * 8192 + r.val) * 4 + h.val) * 64 + d.val) / 256 % 8192 = r.val; omega)
    (by show (((b.val * 8192 + r.val) * 4 + h.val) * 64 + d.val) % 256 = 64 * h.val + d.val; omega), feature_apply]

theorem head_squares (h : Fin 4) : val_main_v18 (F := Ideal) x0 x2 x3 (ix3 b r h)
    = ∑ k : Fin 64, rowQuery x0 x2 x3 b r (inHead h k) * rowQuery x0 x2 x3 b r (inHead h k) := by
  rw [val_main_v18_apply, val_main_cst_2_apply]
  refine (congrArg (fun z : EReal => z + _) zero_bits).trans ((zero_add _).trans (Finset.sum_congr rfl fun k _ => ?_))
  rw [ix4_ext (idx_main_v18 (ix3 b r h) k) b r h k rfl rfl rfl rfl, val_main_v17_apply, grouped_apply]
  rfl

/-- and normed over their head. -/
theorem head_normed (h : Fin 4) (d : Fin 64) : val_main_v29 (F := Ideal) x0 x2 x3 x5 (ix4 b r h d)
    = headNormed (rowQuery x0 x2 x3 b r) (fun d => x5 (ix1 d)) h d := by
  have h1 : idx_main_v19 (idx_main_v25 (ix4 b r h d)) = ix3 b r h := ix3_ext _ b r h rfl rfl rfl
  have h2 : idx_main_v27 (idx_main_v28 (ix4 b r h d)) = ix1 d := by funext a; fin_cases a; rfl
  rw [val_main_v29_apply, val_main_v26_apply, grouped_apply, val_main_v25_apply, val_main_v24_apply, val_main_v23_apply, val_main_v21_apply,
    val_main_v19_apply, h1, head_squares, val_main_v20_apply, val_main_cst_3_apply, val_main_v22_apply, val_main_cst_4_apply, val_main_v28_apply,
    val_main_v27_apply, h2]
  rfl

/-! ## The memory -/

theorem memory_apply (z : Fin 2) (h : Fin 4) (d : Fin 64) (j : Fin 256) (f : Fin 512) (hf : f.val = 256 * z.val + (64 * h.val + d.val)) :
    val_main_v1 (F := Ideal) x1 (ix5 b j z h d) = x1 (ix3 b f j) := by
  rw [val_main_v1_apply, val_main_v0_apply, ix3_ext (idx_main_v0 (idx_main_v1 (ix5 b j z h d))) b f j
    (by show ((((b.val * 2 + z.val) * 4 + h.val) * 64 + d.val) * 256 + j.val) / 131072 = b.val; omega)
    (by show ((((b.val * 2 + z.val) * 4 + h.val) * 64 + d.val) * 256 + j.val) / 256 % 512 = f.val; omega)
    (by show ((((b.val * 2 + z.val) * 4 + h.val) * 64 + d.val) * 256 + j.val) % 256 = j.val; omega)]

/-- Position `j`'s key in head `h`, -/
theorem key_apply (j : Fin 256) (h : Fin 4) (d : Fin 64) : val_main_v31 (F := Ideal) x1 (ix4 b j h d) = x1 (ix3 b (keyCol (inHead h d)) j) := by
  rw [val_main_v31_apply, val_main_v30_apply, ix5_ext (idx_main_v30 (idx_main_v31 (ix4 b j h d))) b j 0 h d
    (by show (((b.val * 256 + j.val) * 4 + h.val) * 64 + d.val) / 65536 = b.val; omega)
    (by show (((b.val * 256 + j.val) * 4 + h.val) * 64 + d.val) / 256 % 256 = j.val; omega) rfl
    (by show (((b.val * 256 + j.val) * 4 + h.val) * 64 + d.val) / 64 % 4 = h.val; omega)
    (by show (((b.val * 256 + j.val) * 4 + h.val) * 64 + d.val) % 64 = d.val; omega)]
  exact memory_apply x1 b 0 h d j _ (by show 64 * h.val + d.val = 256 * 0 + (64 * h.val + d.val); omega)
/-- and its value. -/
theorem value_apply (j : Fin 256) (h : Fin 4) (d : Fin 64) : val_main_v47 (F := Ideal) x1 (ix4 b j h d) = x1 (ix3 b (valCol (inHead h d)) j) := by
  rw [val_main_v47_apply, val_main_v46_apply, ix5_ext (idx_main_v46 (idx_main_v47 (ix4 b j h d))) b j 1 h d
    (by show (((b.val * 256 + j.val) * 4 + h.val) * 64 + d.val) / 65536 = b.val; omega)
    (by show (((b.val * 256 + j.val) * 4 + h.val) * 64 + d.val) / 256 % 256 = j.val; omega) rfl
    (by show (((b.val * 256 + j.val) * 4 + h.val) * 64 + d.val) / 64 % 4 = h.val; omega)
    (by show (((b.val * 256 + j.val) * 4 + h.val) * 64 + d.val) % 64 = d.val; omega)]
  exact memory_apply x1 b 1 h d j _ (by show 256 + (64 * h.val + d.val) = 256 * 1 + (64 * h.val + d.val); omega)

/-! ## The attention -/

/-- The reference's scores of head `h`: the queries times the keys, an eighth of the sum. -/
def scoreR (q : Fin 256 → EReal) (n : Fin 64 → EReal) (kv : Fin 512 → Fin 256 → EReal) (h : Fin 4) (j : Fin 256) : EReal :=
  (∑ d : Fin 64, headNormed q n h d * kv (keyCol (inHead h d)) j) * Ideal.ofBits .f32 0x3E000000#32

/-- The scores over the arguments. -/
abbrev scoreOf (h : Fin 4) (j : Fin 256) : EReal := scoreR (rowQuery x0 x2 x3 b r) (fun d => x5 (ix1 d)) (fun f j => x1 (ix3 b f j)) h j

theorem score_apply (h : Fin 4) (j : Fin 256) : val_main_v34 (F := Ideal) x0 x1 x2 x3 x5 (ix4 b h r j) = scoreOf x0 x1 x2 x3 x5 b r h j := by
  have hd : val_main_v32 (F := Ideal) x0 x1 x2 x3 x5 (ix4 b h r j)
      = ∑ d : Fin 64, headNormed (rowQuery x0 x2 x3 b r) (fun d => x5 (ix1 d)) h d * x1 (ix3 b (keyCol (inHead h d)) j) := by
    rw [val_main_v32_apply]
    refine Finset.sum_congr rfl fun d _ => ?_
    rw [ix4_ext (lidx_main_v32 (ix4 b h r j) d) b r h d rfl rfl rfl rfl, ix4_ext (ridx_main_v32 (ix4 b h r j) d) b j h d rfl rfl rfl rfl,
      head_normed, key_apply]
  rw [val_main_v34_apply, hd, val_main_v33_apply, val_main_cst_5_apply]
  rfl

/-- The largest of them, -/
theorem top_apply (h : Fin 4) : val_main_v37 (F := Ideal) x0 x1 x2 x3 x5 (ix3 b h r) = top (scoreOf x0 x1 x2 x3 x5 b r h) := by
  have hR : S2x4x8192x256.Reduces [3] S2x4x8192 := by decide
  have hm : val_main_v35 (F := Ideal) x0 x1 x2 x3 x5 (ix3 b h r) = top (scoreOf x0 x1 x2 x3 x5 b r h) := by
    unfold val_main_v35
    generalize hy : val_main_v34 (F := Ideal) x0 x1 x2 x3 x5 = y
    refine (Host.reduce_eq_fold_single (FloatOps.maximumf (F := Ideal) (φ := .f32)) y _ _ hR _ _).trans ?_
    have hl : ∀ j : Fin 256, y (hR.lift (ix3 b h r) j) = scoreOf x0 x1 x2 x3 x5 b r h j := fun j => by
      have hj := score_apply x0 x1 x2 x3 x5 b r h j
      rw [hy] at hj
      rw [← hj]
      exact congrArg y (ix4_ext _ b h r j rfl rfl rfl rfl)
    have hf : (y ∘ hR.lift (ix3 b h r)) = fun j : Fin 256 => scoreOf x0 x1 x2 x3 x5 b r h j := funext hl
    have hi : val_main_cst_6 (F := Ideal) (Shape.Idx.first Cert.Reference5Ideal.Gen.h_S_) = (⊥ : EReal) := bot_bits
    rw [hf, hi]
    rfl
  rw [val_main_v37_apply, hm, val_main_v36_apply, val_main_cst_7_apply]
  exact (congrArg (fun z : EReal => max z _) bot_bits).trans (max_eq_right bot_le)

/-- a position's weight, -/
theorem weight_apply (h : Fin 4) (j : Fin 256) : val_main_v41 (F := Ideal) x0 x1 x2 x3 x5 (ix4 b h r j)
    = Ideal.exp (scoreOf x0 x1 x2 x3 x5 b r h j - top (scoreOf x0 x1 x2 x3 x5 b r h)) := by
  have h1 : idx_main_v38 (idx_main_v39 (ix4 b h r j)) = ix3 b h r := ix3_ext _ b h r rfl rfl rfl
  rw [val_main_v41_apply, val_main_v40_apply, score_apply, val_main_v39_apply, val_main_v38_apply, h1, top_apply]
  rfl

/-- and its share. -/
theorem share_apply (h : Fin 4) (j : Fin 256) : val_main_v45 (F := Ideal) x0 x1 x2 x3 x5 (ix4 b h r j) = share (scoreOf x0 x1 x2 x3 x5 b r h) j := by
  have h1 : idx_main_v43 (idx_main_v44 (ix4 b h r j)) = ix3 b h r := ix3_ext _ b h r rfl rfl rfl
  have hs : val_main_v42 (F := Ideal) x0 x1 x2 x3 x5 (ix3 b h r)
      = ∑ k : Fin 256, Ideal.exp (scoreOf x0 x1 x2 x3 x5 b r h k - top (scoreOf x0 x1 x2 x3 x5 b r h)) := by
    rw [val_main_v42_apply, val_main_cst_8_apply]
    refine (congrArg (fun z : EReal => z + _) zero_bits).trans ((zero_add _).trans (Finset.sum_congr rfl fun k _ => ?_))
    rw [ix4_ext (idx_main_v42 (ix3 b h r) k) b h r k rfl rfl rfl rfl, weight_apply]
  rw [val_main_v45_apply, weight_apply, val_main_v44_apply, val_main_v43_apply, h1, hs]
  rfl

/-- A head's average. -/
theorem average_apply (h : Fin 4) (d : Fin 64) : val_main_v48 (F := Ideal) x0 x1 x2 x3 x5 (ix4 b h d r)
    = attended (scoreOf x0 x1 x2 x3 x5 b r h) (fun j => x1 (ix3 b (valCol (inHead h d)) j)) := by
  rw [val_main_v48_apply]
  unfold attended
  refine Finset.sum_congr rfl fun j _ => ?_
  rw [ix4_ext (lidx_main_v48 (ix4 b h d r) j) b j h d rfl rfl rfl rfl, ix4_ext (ridx_main_v48 (ix4 b h d r) j) b h r j rfl rfl rfl rfl,
    value_apply, share_apply]
  exact mul_comm (G := EReal) _ _

/-- The heads side by side. -/
theorem heads_apply (e : Fin 256) : val_main_v50 (F := Ideal) x0 x1 x2 x3 x5 (ix3 b r e)
    = attended (scoreOf x0 x1 x2 x3 x5 b r (head e)) (fun j => x1 (ix3 b (valCol (inHead (head e) (place e))) j)) := by
  rw [val_main_v50_apply, val_main_v49_apply, ix4_ext (idx_main_v49 (idx_main_v50 (ix3 b r e))) b (head e) (place e) r
    (by show ((b.val * 8192 + r.val) * 256 + e.val) / 2097152 = b.val; omega)
    (by show ((b.val * 8192 + r.val) * 256 + e.val) / 64 % 4 = e.val / 64; omega)
    (by show ((b.val * 8192 + r.val) * 256 + e.val) % 64 = e.val % 64; omega)
    (by show ((b.val * 8192 + r.val) * 256 + e.val) / 256 % 8192 = r.val; omega), average_apply]

/-- The reference's result. -/
theorem result_apply (k : Fin 1024) : val_main_v52 (F := Ideal) x0 x1 x2 x3 x4 x5 (ix3 b r k)
    = rowOut (fun j => x0 (ix3 b r j)) (scoreOf x0 x1 x2 x3 x5 b r) (fun f j => x1 (ix3 b f j)) (fun e k => x4 (ix2 e k)) k := by
  have hs : val_main_v51 (F := Ideal) x0 x1 x2 x3 x4 x5 (ix3 b r k)
      = ∑ e : Fin 256, attended (scoreOf x0 x1 x2 x3 x5 b r (head e)) (fun j => x1 (ix3 b (valCol (inHead (head e) (place e))) j)) * x4 (ix2 e k) := by
    rw [val_main_v51_apply]
    refine Finset.sum_congr rfl fun e _ => ?_
    rw [ix3_ext (lidx_main_v51 (ix3 b r k) e) b r e rfl rfl rfl, ix2_ext (ridx_main_v51 (ix3 b r k) e) e k rfl rfl, heads_apply]
  rw [val_main_v52_apply, hs]
  rfl

/-! ## The two scores -/

/-- An eighth is a positive real. -/
theorem eighth_bits : Ideal.ofBits .f32 0x3E000000#32 = ((8⁻¹ : ℝ) : EReal) := by
  simp [Ideal.ofBits, Ideal.ieee]
  rw [← EReal.coe_mul]
  norm_num

/-- A positive real times a sum. -/
theorem sum_scale {ι : Type} (s : Finset ι) (f : ι → EReal) (x : ℝ) (hx : 0 < x) : (∑ i ∈ s, f i) * (x : EReal) = ∑ i ∈ s, f i * (x : EReal) := by
  classical
  induction s using Finset.induction_on with
  | empty => rw [Finset.sum_empty, Finset.sum_empty, zero_mul]
  | insert a s ha ih =>
    rw [Finset.sum_insert ha, Finset.sum_insert ha, EReal.right_distrib_of_nonneg_of_ne_top (EReal.coe_nonneg.mpr hx.le) (EReal.coe_ne_top x), ih]

/-- On real query features the two agree. -/
theorem score_eq (q : Fin 256 → EReal) (hq : ∀ e, Real' (q e)) (n : Fin 64 → EReal) (kv : Fin 512 → Fin 256 → EReal) :
    scoreK (fun e => tableNormed q same (fun e => n (place e)) e) kv = scoreR q n kv := by
  funext h j
  have hp : ∀ d : Fin 64, tableNormed q same (fun e => n (place e)) (inHead h d) = headNormed q n h d := fun d => by
    have e1 : head (inHead h d) = h := Fin.ext (by show (64 * h.val + d.val) / 64 = h.val; omega)
    have e2 : place (inHead h d) = d := Fin.ext (by show (64 * h.val + d.val) % 64 = d.val; omega)
    rw [Cert.Reference4Ideal.Reading.tableNormed_eq q hq n (inHead h d), e1, e2]
  unfold scoreK scoreR
  rw [eighth_bits, sum_scale _ _ _ (by norm_num)]
  refine Finset.sum_congr rfl fun d _ => ?_
  refine (congrArg (fun z : EReal => z * _ * _) (hp d)).trans ?_
  exact mul_right_comm (G := EReal) _ _ _

/-- The gain finite and the queries' weight finite: the row's query features are real. -/
theorem query_real (hg : ∀ k : Fin 1024, Real' (x2 (ix1 k))) (hw : ∀ (k : Fin 1024) (e : Fin 256), Real' (x3 (ix2 k e))) (e : Fin 256) :
    Real' (rowQuery x0 x2 x3 b r e) := by
  unfold rowQuery query scaled
  refine Cert.GroupNorm.real_sum _ _ fun k _ => Real'.mul (Real'.mul ?_ (hg k)) (hw k e)
  obtain ⟨p, hp, ep⟩ := Cert.GroupNorm.eps_bits
  rw [Cert.GroupNorm.length_bits, ep]
  exact Cert.GroupNorm.scaled_real (fun j => x0 (ix3 b r j)) 1024 p (by norm_num) hp k

/-! ## The precondition -/

theorem gain_real (h : (Cert.Pre_query_weights_finite.fn (F := Ideal) x0 x1 x2 x3 x4 x5).1 = fun _ => 1#1) (k : Fin 1024) : Real' (x2 (ix1 k)) :=
  Cert.Reference4Ideal.Reading.real_of_word _ (congrFun h (ix1 k))
theorem weight_real (h : (Cert.Pre_query_weights_finite.fn (F := Ideal) x0 x1 x2 x3 x4 x5).2 = fun _ => 1#1) (k : Fin 1024) (e : Fin 256) :
    Real' (x3 (ix2 k e)) :=
  Cert.Reference4Ideal.Reading.real_of_word _ (congrFun h (ix2 k e))

end Cert.Reference5Ideal.Reading

end
-- ==== Proof.OddBody.lean ====
/- The odd layers' projections: what one run of the kernel's body leaves in the values' block, in the convolution's and in the
   gates', entry by entry. None of the three depends on what the point before left, so both cases of the body leave the same. -/
module

public import proofs.«01_k».proof.Proof.Gen.Kernel6Ideal.Frame
public import Idealize.ShloMosaic.Lib.Pipeline.Value
public import proofs.«01_k».proof.Proof.MemKvRef
public import Idealize.ShloMosaic.Lib.Pipeline.ReadBack
public import Idealize.ShloMosaic.Lib.Pointwise

@[expose] public section

set_option maxRecDepth 16384

noncomputable section

namespace Cert.Kernel6Ideal.Body

open Idealize.ShloMosaic Cert.Kernel6Ideal Cert.Kernel6Ideal.Gen Idealize.ShloMosaic.TcCoe Idealize.SL.Sem
open Cert.Kernel4Ideal.Body (scaled)

/-! ## A row of numbers -/

/-- A row normalised, times one column of the weight. -/
def project (x g w : Fin 1024 → EReal) : EReal := ∑ k : Fin 1024, scaled x g k * w k

/-- One half of the convolution's input, gated by the other. -/
def gated (a b : EReal) : EReal := a * Ideal.div 1 (1 + Ideal.exp (0 - b))

/-- The logarithm of a gate's sigmoid. -/
def logGate (z : EReal) : EReal := 0 - (max (0 - z) 0 + Ideal.log1p (Ideal.exp (0 - max z (-z))))

/-! ## What the body leaves -/

variable (c : Dev nD) (i : grid0.Coords)
  (arg2 : Memref sig .tc .vmem S1x256x1024 .f32) (harg2 : arg2.IsWhole) (arg3 : Memref sig .tc .vmem S1x1024 .f32) (harg3 : arg3.IsWhole)
  (arg4 : Memref sig .tc .vmem S1024x2688 .bf16) (harg4 : arg4.IsWhole) (arg5 : Memref sig .tc .vmem S1x512 .f32) (harg5 : arg5.IsWhole)
  (arg6 : Memref sig .tc .vmem S1x512 .f32) (harg6 : arg6.IsWhole) (arg7 : Memref sig .tc .vmem S1x128 .f32) (harg7 : arg7.IsWhole)
  (arg8 : Memref sig .tc .vmem S512x512 .bf16) (harg8 : arg8.IsWhole) (arg9 : Memref sig .tc .vmem S256x256 .f32) (harg9 : arg9.IsWhole)
  (arg10 : Memref sig .tc .vmem S1x256x512 .bf16) (harg10 : arg10.IsWhole) (arg11 : Memref sig .tc .vmem S1x256x1024 .f32) (harg11 : arg11.IsWhole)
  (arg12 : Memref sig .tc .vmem S1x256x512 .bf16) (harg12 : arg12.IsWhole) (arg13 : Memref sig .tc .vmem S1x256x128 .f32) (harg13 : arg13.IsWhole)
  (arg14 : Memref sig .tc .vmem S1x256x128 .f32) (harg14 : arg14.IsWhole) (arg15 : Memref sig .tc .vmem S1x256x512 .f32) (harg15 : arg15.IsWhole)
  (arg16 : Memref sig .tc .vmem S512x256 .bf16) (harg16 : arg16.IsWhole) (arg17 : Memref sig .tc .vmem S512x256 .bf16) (harg17 : arg17.IsWhole)
  (arg18 : Memref sig .tc .vmem S8x128 .f32) (harg18 : arg18.IsWhole)
  (x0 : Vec Ideal S1x256x1024 .f32) (x1 : Vec Ideal S1x1024 .f32) (x2 : Vec Ideal S1024x2688 .bf16) (x3 x4 : Vec Ideal S1x512 .f32)
  (x5 : Vec Ideal S1x128 .f32) (x6 : Vec Ideal S512x512 .bf16) (x7 : Vec Ideal S256x256 .f32) (xs0 : Vec Ideal S8x128 .f32)

theorem origin2 : (![0, 0] : Fin 2 → ℕ) = fun _ => 0 := by decide
theorem origin3 : (![0, 0, 0] : Fin 3 → ℕ) = fun _ => 0 := by decide

/-- The weight's columns of the values, of the convolution's two halves and of the gates. -/
def valueCols : Vec Ideal S1024x512 .bf16 := View.ld x2 (Rect.unit (s := S1024x2688) ![0, 1024] S1024x512.size inb_S1024x2688_S1024x512_0_1024)
def inputCols : Vec Ideal S1024x512 .bf16 := View.ld x2 (Rect.unit (s := S1024x2688) ![0, 1536] S1024x512.size inb_S1024x2688_S1024x512_0_1536)
def openCols : Vec Ideal S1024x512 .bf16 := View.ld x2 (Rect.unit (s := S1024x2688) ![0, 2048] S1024x512.size inb_S1024x2688_S1024x512_0_2048)
def gateCols : Vec Ideal S1024x128 .bf16 := View.ld x2 (Rect.unit (s := S1024x2688) ![0, 2560] S1024x128.size inb_S1024x2688_S1024x128_0_2560)

/-- The gates, at a point that starts a sequence -/
theorem gates_A (hc0 : cond0_0 i) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7
      = k0_pay17 (k0_pay2 x0 x1) (gateCols x2) x5 := by
  unfold out0_A_11
  rw [View.read_writes_junk_eq_canon]
  unfold kernelRun0_A
  dsimp only
  sl_unfold_words
  refine (View.canon_cons_unit_zero origin3 _ _ _).trans ?_
  simp only [View.readAt_eq_ld, harg2.read_unread, harg3.read_unread, harg4.read_unread, harg7.read_unread]
  rw [View.ld_unit_zero (S := S1x256x1024) origin3 _ x0, View.ld_unit_zero (S := S1x1024) origin2 _ x1, View.ld_unit_zero (S := S1x128) origin2 _ x5]
  rfl

/-- and at any other; -/
theorem gates_B (hc0 : ¬cond0_0 i) :
    out0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 xs0
      = k0_pay17 (k0_pay2 x0 x1) (gateCols x2) x5 := by
  unfold out0_B_11
  rw [View.read_writes_junk_eq_canon]
  unfold kernelRun0_B
  dsimp only
  sl_unfold_words
  refine (View.canon_cons_unit_zero origin3 _ _ _).trans ?_
  simp only [View.readAt_eq_ld, harg2.read_unread, harg3.read_unread, harg4.read_unread, harg7.read_unread]
  rw [View.ld_unit_zero (S := S1x256x1024) origin3 _ x0, View.ld_unit_zero (S := S1x1024) origin2 _ x1, View.ld_unit_zero (S := S1x128) origin2 _ x5]
  rfl

/-- the convolution's input; -/
theorem inputs_A (hc0 : cond0_0 i) :
    out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7
      = k0_pay15 (k0_pay14 (k0_pay2 x0 x1) (inputCols x2) (openCols x2)) := by
  unfold out0_A_13
  rw [View.read_writes_junk_eq_canon]
  unfold kernelRun0_A
  dsimp only
  sl_unfold_words
  refine (View.canon_cons_unit_zero origin3 _ _ _).trans ?_
  simp only [View.readAt_eq_ld, harg2.read_unread, harg3.read_unread, harg4.read_unread]
  rw [View.ld_unit_zero (S := S1x256x1024) origin3 _ x0, View.ld_unit_zero (S := S1x1024) origin2 _ x1]
  rfl
theorem inputs_B (hc0 : ¬cond0_0 i) :
    out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 xs0
      = k0_pay15 (k0_pay14 (k0_pay2 x0 x1) (inputCols x2) (openCols x2)) := by
  unfold out0_B_13
  rw [View.read_writes_junk_eq_canon]
  unfold kernelRun0_B
  dsimp only
  sl_unfold_words
  refine (View.canon_cons_unit_zero origin3 _ _ _).trans ?_
  simp only [View.readAt_eq_ld, harg2.read_unread, harg3.read_unread, harg4.read_unread]
  rw [View.ld_unit_zero (S := S1x256x1024) origin3 _ x0, View.ld_unit_zero (S := S1x1024) origin2 _ x1]
  rfl

/-- and the values, transposed. -/
theorem values_A (hc0 : cond0_0 i) :
    out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7
      = k0_pay13 (k0_pay2 x0 x1) (valueCols x2) := by
  unfold out0_A_15
  rw [View.read_writes_junk_eq_canon]
  unfold kernelRun0_A
  dsimp only
  sl_unfold_words
  refine (View.canon_cons_unit_zero origin2 _ _ _).trans ?_
  simp only [View.readAt_eq_ld, harg2.read_unread, harg3.read_unread, harg4.read_unread]
  rw [View.ld_unit_zero (S := S1x256x1024) origin3 _ x0, View.ld_unit_zero (S := S1x1024) origin2 _ x1]
  rfl
theorem values_B (hc0 : ¬cond0_0 i) :
    out0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 xs0
      = k0_pay13 (k0_pay2 x0 x1) (valueCols x2) := by
  unfold out0_B_15
  rw [View.read_writes_junk_eq_canon]
  unfold kernelRun0_B
  dsimp only
  sl_unfold_words
  refine (View.canon_cons_unit_zero origin2 _ _ _).trans ?_
  simp only [View.readAt_eq_ld, harg2.read_unread, harg3.read_unread, harg4.read_unread]
  rw [View.ld_unit_zero (S := S1x256x1024) origin3 _ x0, View.ld_unit_zero (S := S1x1024) origin2 _ x1]
  rfl

/-! ## Entry by entry -/

variable (xn : FVec Ideal S256x1024 .bf16) (w w' : FVec Ideal S1024x512 .bf16) (v : FVec Ideal S1024x128 .bf16) (r : Fin 256)

/-- A row's entries normalised, -/
theorem rows_apply (k : Fin 1024) : k0_pay2 (F := Ideal) x0 x1 (ix2 r k) = scaled (fun j => x0 (ix3 0 r j)) (fun j => x1 (ix2 0 j)) k := by
  unfold k0_pay2 scaled
  pointwise

/-- its gates, -/
theorem gates_apply (e : Fin 128) : k0_pay17 (F := Ideal) xn v x5 (ix3 0 r e)
    = logGate ((∑ k : Fin 1024, xn (ix2 r k) * v (ix2 k e)) + x5 (ix2 0 e)) := by
  unfold k0_pay17 k0_pay16 logGate
  pointwise
  rfl

/-- its share of the convolution's input, -/
theorem inputs_apply (e : Fin 512) : k0_pay15 (F := Ideal) (k0_pay14 (F := Ideal) xn w w') (ix3 0 r e)
    = gated (∑ k : Fin 1024, xn (ix2 r k) * w (ix2 k e)) (∑ k : Fin 1024, xn (ix2 r k) * w' (ix2 k e)) := by
  unfold k0_pay15 k0_pay14 gated
  pointwise

/-- and its values. -/
theorem values_apply (e : Fin 512) : k0_pay13 (F := Ideal) xn w (ix2 e r) = ∑ k : Fin 1024, xn (ix2 r k) * w (ix2 k e) := by
  unfold k0_pay13 k0_pay9
  pointwise

/-- A column of the weight, read from column `o` on. -/
theorem cols_apply (o : ℕ) (hb : ∀ a : Fin 2, (![0, o] : Fin 2 → ℕ) a + S1024x512.size a ≤ S1024x2688.size a) (k : Fin 1024) (e : Fin 512)
    (f : Fin 2688) (hf : f.val = o + e.val) : View.ld x2 (Rect.unit (s := S1024x2688) ![0, o] S1024x512.size hb) (ix2 k e) = x2 (ix2 k f) := by
  refine congrArg x2 (funext fun a => Fin.ext ?_)
  match a with
  | ⟨0, _⟩ => show 0 + 1 * k.val = k.val; omega
  | ⟨1, _⟩ => show o + 1 * e.val = f.val; omega

/-- The weight's column of a value, of a feature of either half, of a gate. -/
def valueCol (e : Fin 512) : Fin 2688 := ⟨1024 + e.val, by omega⟩
def inputCol (e : Fin 512) : Fin 2688 := ⟨1536 + e.val, by omega⟩
def openCol (e : Fin 512) : Fin 2688 := ⟨2048 + e.val, by omega⟩
def gateCol (e : Fin 128) : Fin 2688 := ⟨2560 + e.val, by omega⟩

theorem valueCols_apply (k : Fin 1024) (e : Fin 512) : valueCols x2 (ix2 k e) = x2 (ix2 k (valueCol e)) := cols_apply x2 1024 _ k e _ rfl
theorem inputCols_apply (k : Fin 1024) (e : Fin 512) : inputCols x2 (ix2 k e) = x2 (ix2 k (inputCol e)) := cols_apply x2 1536 _ k e _ rfl
theorem openCols_apply (k : Fin 1024) (e : Fin 512) : openCols x2 (ix2 k e) = x2 (ix2 k (openCol e)) := cols_apply x2 2048 _ k e _ rfl
theorem gateCols_apply (k : Fin 1024) (e : Fin 128) : gateCols x2 (ix2 k e) = x2 (ix2 k (gateCol e)) := by
  refine congrArg x2 (funext fun a => Fin.ext ?_)
  match a with
  | ⟨0, _⟩ => show 0 + 1 * k.val = k.val; omega
  | ⟨1, _⟩ => show 2560 + 1 * e.val = 2560 + e.val; omega

end Cert.Kernel6Ideal.Body

end
-- ==== Proof.OddIn.lean ====
/- The odd layers' projections: three of the arrays the kernel writes, entry by entry. Grid point `t` does rows
   `256 (t mod 32)` on of sequence `t / 32`; the values' array is written transposed, a column for each row. -/
module

public import proofs.«01_k».proof.Proof.OddBody
public import proofs.«01_k».proof.Proof.Gen.Kernel6Ideal.Value

@[expose] public section

set_option maxRecDepth 16384

noncomputable section

namespace Cert.Kernel6Ideal.Project

open Idealize.ShloMosaic Cert.Kernel6Ideal Cert.Kernel6Ideal.Gen Cert.Kernel6Ideal.Body Idealize.ShloMosaic.TcCoe Idealize.SL.Sem
open Cert.Kernel4Ideal.Body (scaled)

variable (m : (ℓ : Loc nD τ sig) → Buf (Elt Ideal) ℓ) (ρ : Dev nD → PrngReg) (c : Dev nD)

/-- The arguments the three arrays depend on: the residual stream, the gain of the norm, the weight, the gates' bias. -/
def argX : Vec Ideal S2x8192x1024 .f32 := m ((c : Thread nD τ).loc main_arg0)
def argG : Vec Ideal S1024 .f32 := m ((c : Thread nD τ).loc main_arg1)
def argW : Vec Ideal S1024x2688 .f32 := m ((c : Thread nD τ).loc main_arg2)
def argB : Vec Ideal S128 .f32 := m ((c : Thread nD τ).loc main_arg5)

/-- Row `r` of sequence `b` through column `f` of the weight. -/
def feature (x : Vec Ideal S2x8192x1024 .f32) (g : Vec Ideal S1024 .f32) (w : Vec Ideal S1024x2688 .f32) (b : Fin 2) (r : Fin 8192) (f : Fin 2688) : EReal :=
  project (fun j => x (ix3 b r j)) (fun j => g (ix1 j)) (fun k => w (ix2 k f))

/-- The sequence and the row of a column of the values' array. -/
def seqOf (n : Fin 16384) : Fin 2 := ⟨n.val / 8192, by omega⟩
def rowOf (n : Fin 16384) : Fin 8192 := ⟨n.val % 8192, by omega⟩

/-- The gates' array, the convolution's and the values'. -/
def gates : Buf (Elt Ideal) ((c : Thread nD τ).loc main_v21_3) := fun i =>
  logGate (feature (argX m c) (argG m c) (argW m c) (i 0) (i 1) (gateCol (i 2)) + argB m c (ix1 (i 2)))
def inputs : Buf (Elt Ideal) ((c : Thread nD τ).loc main_v21_5) := fun i =>
  gated (feature (argX m c) (argG m c) (argW m c) (i 0) (i 1) (inputCol (i 2))) (feature (argX m c) (argG m c) (argW m c) (i 0) (i 1) (openCol (i 2)))
def values : Buf (Elt Ideal) ((c : Thread nD τ).loc main_v21_7) := fun i =>
  feature (argX m c) (argG m c) (argW m c) (seqOf (i 1)) (rowOf (i 1)) (valueCol (i 0))

/-! ## What a point stages -/

theorem index0 : ∀ t : Fin cfg0.N, win0_0.index t (0 : Fin 3) = t.val / 32 ∧ win0_0.index t (1 : Fin 3) = t.val % 32 ∧ win0_0.index t (2 : Fin 3) = 0 :=
  (by decide +kernel : ∀ t : Fin grid0.N, _)
theorem index1 : ∀ t : Fin cfg0.N, win0_1.index t (0 : Fin 2) = 0 ∧ win0_1.index t (1 : Fin 2) = 0 :=
  (by decide +kernel : ∀ t : Fin grid0.N, _)
theorem index2 : ∀ t : Fin cfg0.N, win0_2.index t (0 : Fin 2) = 0 ∧ win0_2.index t (1 : Fin 2) = 0 :=
  (by decide +kernel : ∀ t : Fin grid0.N, _)
theorem index5 : ∀ t : Fin cfg0.N, win0_5.index t (0 : Fin 2) = 0 ∧ win0_5.index t (1 : Fin 2) = 0 :=
  (by decide +kernel : ∀ t : Fin grid0.N, _)
theorem index11 : ∀ t : Fin cfg0.N, win0_11.index t (0 : Fin 3) = t.val / 32 ∧ win0_11.index t (1 : Fin 3) = t.val % 32 ∧ win0_11.index t (2 : Fin 3) = 0 :=
  (by decide +kernel : ∀ t : Fin grid0.N, _)
theorem index13 : ∀ t : Fin cfg0.N, win0_13.index t (0 : Fin 3) = t.val / 32 ∧ win0_13.index t (1 : Fin 3) = t.val % 32 ∧ win0_13.index t (2 : Fin 3) = 0 :=
  (by decide +kernel : ∀ t : Fin grid0.N, _)
theorem index15 : ∀ t : Fin cfg0.N, win0_15.index t (0 : Fin 2) = 0 ∧ win0_15.index t (1 : Fin 2) = t.val :=
  (by decide +kernel : ∀ t : Fin grid0.N, _)

/-- The gain as a row, -/
theorem gain_eq (j : Fin 1024) : V m c main_v0 (ix2 0 j) = argG m c (ix1 j) := by
  have e : V m c main_v0 = (shapeCast S1x1024 (argG m c) shapeCasts_S1024_S1x1024 : Vec Ideal S1x1024 .f32) := by
    show StableHlo.after (List.flatten [hostOps0, hostOps0_1, hostOps0_2]) _ _ = _
    simp only [hostOps0, hostOps0_1, hostOps0_2, List.flatten_cons, List.flatten_nil, List.append_nil, List.cons_append, List.nil_append]
    after_results
    rfl
  rw [e]
  pointwise
/-- the weight, -/
theorem weight_eq (k : Fin 1024) (f : Fin 2688) : V m c main_v1 (ix2 k f) = argW m c (ix2 k f) := by
  have e : V m c main_v1 = (truncf (F := Ideal) (s := S1024x2688) (φ := .f32) .bf16 (argW m c) bitsLt_bf16_f32 : Vec Ideal S1024x2688 .bf16) := by
    show StableHlo.after (List.flatten [hostOps0, hostOps0_1, hostOps0_2]) _ _ = _
    simp only [hostOps0, hostOps0_1, hostOps0_2, List.flatten_cons, List.flatten_nil, List.append_nil, List.cons_append, List.nil_append]
    after_results
    rfl
  rw [e]
  rfl
/-- and the bias as a row. -/
theorem bias_eq (e : Fin 128) : V m c main_v10 (ix2 0 e) = argB m c (ix1 e) := by
  have h : V m c main_v10 = (shapeCast S1x128 (argB m c) shapeCasts_S128_S1x128 : Vec Ideal S1x128 .f32) := by
    show StableHlo.after (List.flatten [hostOps0, hostOps0_1, hostOps0_2]) _ _ = _
    simp only [hostOps0, hostOps0_1, hostOps0_2, List.flatten_cons, List.flatten_nil, List.append_nil, List.cons_append, List.nil_append]
    after_results
    rfl
  rw [h]
  pointwise

variable (t : Fin cfg0.N)

/-- Point `t`'s sequence, and row `r` of its rows. -/
def seq (t : Fin cfg0.N) : Fin 2 := ⟨t.val / 32, by have h : t.val < 64 := lt_of_lt_of_eq t.isLt N_0; omega⟩
def row (t : Fin cfg0.N) (r : Fin 256) : Fin 8192 := ⟨256 * (t.val % 32) + r.val, by omega⟩

theorem block_x (r : Fin 256) (j : Fin 1024) : iblk m c 0 t (ix3 0 r j) = argX m c (ix3 (seq t) (row t r) j) := by
  obtain ⟨i0, i1, i2⟩ := index0 t
  show V m c main_arg0 (((cfg0.win 0).blk t).view.emb (ix3 0 r j)) = _
  rw [V_main_arg0]
  refine congrArg (argX m c) (funext fun a => Fin.ext ?_)
  match a with
  | ⟨0, _⟩ => show win0_0.index t (0 : Fin 3) * 1 + 1 * 0 = t.val / 32; rw [i0]; omega
  | ⟨1, _⟩ => show win0_0.index t (1 : Fin 3) * 256 + 1 * r.val = 256 * (t.val % 32) + r.val; rw [i1]; omega
  | ⟨2, _⟩ => show win0_0.index t (2 : Fin 3) * 1024 + 1 * j.val = j.val; rw [i2]; omega
theorem block_g (j : Fin 1024) : iblk m c 1 t (ix2 0 j) = argG m c (ix1 j) := by
  obtain ⟨i0, i1⟩ := index1 t
  rw [← gain_eq m c j]
  show V m c main_v0 (((cfg0.win 1).blk t).view.emb (ix2 0 j)) = _
  refine congrArg (V m c main_v0) (funext fun a => Fin.ext ?_)
  match a with
  | ⟨0, _⟩ => show win0_1.index t (0 : Fin 2) * 1 + 1 * 0 = 0; rw [i0]
  | ⟨1, _⟩ => show win0_1.index t (1 : Fin 2) * 1024 + 1 * j.val = j.val; rw [i1]; omega
theorem block_w (k : Fin 1024) (f : Fin 2688) : iblk m c 2 t (ix2 k f) = argW m c (ix2 k f) := by
  obtain ⟨i0, i1⟩ := index2 t
  rw [← weight_eq m c k f]
  show V m c main_v1 (((cfg0.win 2).blk t).view.emb (ix2 k f)) = _
  refine congrArg (V m c main_v1) (funext fun a => Fin.ext ?_)
  match a with
  | ⟨0, _⟩ => show win0_2.index t (0 : Fin 2) * 1024 + 1 * k.val = k.val; rw [i0]; omega
  | ⟨1, _⟩ => show win0_2.index t (1 : Fin 2) * 2688 + 1 * f.val = f.val; rw [i1]; omega
theorem block_b (e : Fin 128) : iblk m c 5 t (ix2 0 e) = argB m c (ix1 e) := by
  obtain ⟨i0, i1⟩ := index5 t
  rw [← bias_eq m c e]
  show V m c main_v10 (((cfg0.win 5).blk t).view.emb (ix2 0 e)) = _
  refine congrArg (V m c main_v10) (funext fun a => Fin.ext ?_)
  match a with
  | ⟨0, _⟩ => show win0_5.index t (0 : Fin 2) * 1 + 1 * 0 = 0; rw [i0]
  | ⟨1, _⟩ => show win0_5.index t (1 : Fin 2) * 128 + 1 * e.val = e.val; rw [i1]; omega

/-- A staged row normalised. -/
theorem block_row (r : Fin 256) (k : Fin 1024) : k0_pay2 (F := Ideal) (iblk m c 0 t) (iblk m c 1 t) (ix2 r k)
    = scaled (fun j => argX m c (ix3 (seq t) (row t r) j)) (fun j => argG m c (ix1 j)) k := by
  have hx : (fun j => iblk m c 0 t (ix3 0 r j)) = fun j => argX m c (ix3 (seq t) (row t r) j) := funext (block_x m c t r)
  have hg : (fun j => iblk m c 1 t (ix2 0 j)) = fun j => argG m c (ix1 j) := funext (block_g m c t)
  rw [rows_apply, hx, hg]

/-! ## What a point writes -/

/-- Point `t`'s gates, -/
theorem gates_point (r : Fin 256) (e : Fin 128) :
    k0_pay17 (F := Ideal) (k0_pay2 (F := Ideal) (iblk m c 0 t) (iblk m c 1 t)) (gateCols (iblk m c 2 t)) (iblk m c 5 t) (ix3 0 r e)
      = gates m c (ix3 (seq t) (row t r) e) := by
  rw [gates_apply, block_b]
  simp only [block_row, gateCols_apply, block_w]
  rfl
/-- its share of the convolution's input, -/
theorem inputs_point (r : Fin 256) (e : Fin 512) :
    k0_pay15 (F := Ideal) (k0_pay14 (F := Ideal) (k0_pay2 (F := Ideal) (iblk m c 0 t) (iblk m c 1 t)) (inputCols (iblk m c 2 t)) (openCols (iblk m c 2 t))) (ix3 0 r e)
      = inputs m c (ix3 (seq t) (row t r) e) := by
  rw [inputs_apply]
  simp only [block_row, inputCols_apply, openCols_apply, block_w]
  rfl
/-- and its values. -/
theorem values_point (r : Fin 256) (e : Fin 512) (n : Fin 16384) (hn : n.val = 256 * t.val + r.val) :
    k0_pay13 (F := Ideal) (k0_pay2 (F := Ideal) (iblk m c 0 t) (iblk m c 1 t)) (valueCols (iblk m c 2 t)) (ix2 e r)
      = values m c (ix2 e n) := by
  have hs : seq t = seqOf n := Fin.ext (by show t.val / 32 = n.val / 8192; omega)
  have hr : row t r = rowOf n := Fin.ext (by show 256 * (t.val % 32) + r.val = n.val % 8192; omega)
  rw [values_apply]
  simp only [block_row, valueCols_apply, block_w, hs, hr]
  rfl

/-- Point `t` writes its block of the gates' array, -/
theorem flushed_gates : (dats m 0 c).flushed 11 t = ((cfg0.win 11).blk t).view.read (Elt Ideal) (gates m c) := by
  have hp : (dats m 0 c).flushed 11 t = (cfg0.win 11).cut (grid0.coords t)
      (k0_pay17 (F := Ideal) (k0_pay2 (F := Ideal) (iblk m c 0 t) (iblk m c 1 t)) (gateCols (iblk m c 2 t)) (iblk m c 5 t)) := by
    by_cases h0 : t.val % 32 = 0
    · rw [Value.flushed11_A m c t h0, gates_A]
    · rw [Value.flushed11_B m c t h0, gates_B]
  rw [hp]
  obtain ⟨i0, i1, i2⟩ := index11 t
  funext y
  have hy0 : (y 0).val < 1 := (y 0).isLt
  have hy1 : (y 1).val < 256 := (y 1).isLt
  have hy2 : (y 2).val < 128 := (y 2).isLt
  have hy : (cfg0.win 11).xinj (grid0.coords t) y = (ix3 (n0 := 1) (n1 := 256) (n2 := 128) 0 ⟨(y 1).val, hy1⟩ ⟨(y 2).val, hy2⟩) := by
    funext a; apply Fin.ext
    match a with
    | ⟨0, _⟩ => show (y 0).val = 0; omega
    | ⟨1, _⟩ => rfl
    | ⟨2, _⟩ => rfl
  have he : ((cfg0.win 11).blk t).view.emb y = (ix3 (n0 := 2) (n1 := 8192) (n2 := 128) (seq t) (row t ⟨(y 1).val, hy1⟩) ⟨(y 2).val, hy2⟩) := by
    funext a; apply Fin.ext
    match a with
    | ⟨0, _⟩ => show win0_11.index t (0 : Fin 3) * 1 + 1 * (y 0).val = t.val / 32; rw [i0]; omega
    | ⟨1, _⟩ => show win0_11.index t (1 : Fin 3) * 256 + 1 * (y 1).val = 256 * (t.val % 32) + (y 1).val; rw [i1]; omega
    | ⟨2, _⟩ => show win0_11.index t (2 : Fin 3) * 128 + 1 * (y 2).val = (y 2).val; rw [i2]; omega
  show k0_pay17 (F := Ideal) (k0_pay2 (F := Ideal) (iblk m c 0 t) (iblk m c 1 t)) (gateCols (iblk m c 2 t)) (iblk m c 5 t) ((cfg0.win 11).xinj (grid0.coords t) y)
    = gates m c (((cfg0.win 11).blk t).view.emb y)
  rw [hy, he, gates_point]

/-- of the convolution's, -/
theorem flushed_inputs : (dats m 0 c).flushed 13 t = ((cfg0.win 13).blk t).view.read (Elt Ideal) (inputs m c) := by
  have hp : (dats m 0 c).flushed 13 t = (cfg0.win 13).cut (grid0.coords t)
      (k0_pay15 (F := Ideal) (k0_pay14 (F := Ideal) (k0_pay2 (F := Ideal) (iblk m c 0 t) (iblk m c 1 t)) (inputCols (iblk m c 2 t)) (openCols (iblk m c 2 t)))) := by
    by_cases h0 : t.val % 32 = 0
    · rw [Value.flushed13_A m c t h0, inputs_A]
    · rw [Value.flushed13_B m c t h0, inputs_B]
  rw [hp]
  obtain ⟨i0, i1, i2⟩ := index13 t
  funext y
  have hy0 : (y 0).val < 1 := (y 0).isLt
  have hy1 : (y 1).val < 256 := (y 1).isLt
  have hy2 : (y 2).val < 512 := (y 2).isLt
  have hy : (cfg0.win 13).xinj (grid0.coords t) y = (ix3 (n0 := 1) (n1 := 256) (n2 := 512) 0 ⟨(y 1).val, hy1⟩ ⟨(y 2).val, hy2⟩) := by
    funext a; apply Fin.ext
    match a with
    | ⟨0, _⟩ => show (y 0).val = 0; omega
    | ⟨1, _⟩ => rfl
    | ⟨2, _⟩ => rfl
  have he : ((cfg0.win 13).blk t).view.emb y = (ix3 (n0 := 2) (n1 := 8192) (n2 := 512) (seq t) (row t ⟨(y 1).val, hy1⟩) ⟨(y 2).val, hy2⟩) := by
    funext a; apply Fin.ext
    match a with
    | ⟨0, _⟩ => show win0_13.index t (0 : Fin 3) * 1 + 1 * (y 0).val = t.val / 32; rw [i0]; omega
    | ⟨1, _⟩ => show win0_13.index t (1 : Fin 3) * 256 + 1 * (y 1).val = 256 * (t.val % 32) + (y 1).val; rw [i1]; omega
    | ⟨2, _⟩ => show win0_13.index t (2 : Fin 3) * 512 + 1 * (y 2).val = (y 2).val; rw [i2]; omega
  show k0_pay15 (F := Ideal) (k0_pay14 (F := Ideal) (k0_pay2 (F := Ideal) (iblk m c 0 t) (iblk m c 1 t)) (inputCols (iblk m c 2 t)) (openCols (iblk m c 2 t))) ((cfg0.win 13).xinj (grid0.coords t) y)
    = inputs m c (((cfg0.win 13).blk t).view.emb y)
  rw [hy, he, inputs_point]

/-- and of the values'. -/
theorem flushed_values : (dats m 0 c).flushed 15 t = ((cfg0.win 15).blk t).view.read (Elt Ideal) (values m c) := by
  have hp : (dats m 0 c).flushed 15 t = (cfg0.win 15).cut (grid0.coords t)
      (k0_pay13 (F := Ideal) (k0_pay2 (F := Ideal) (iblk m c 0 t) (iblk m c 1 t)) (valueCols (iblk m c 2 t))) := by
    by_cases h0 : t.val % 32 = 0
    · rw [Value.flushed15_A m c t h0, values_A]
    · rw [Value.flushed15_B m c t h0, values_B]
  rw [hp]
  obtain ⟨i0, i1⟩ := index15 t
  have ht : t.val < 64 := lt_of_lt_of_eq t.isLt N_0
  funext y
  have hy0 : (y 0).val < 512 := (y 0).isLt
  have hy1 : (y 1).val < 256 := (y 1).isLt
  have hy : (cfg0.win 15).xinj (grid0.coords t) y = (ix2 (n0 := 512) (n1 := 256) ⟨(y 0).val, hy0⟩ ⟨(y 1).val, hy1⟩) := by
    funext a; apply Fin.ext
    match a with
    | ⟨0, _⟩ => rfl
    | ⟨1, _⟩ => rfl
  have he : ((cfg0.win 15).blk t).view.emb y = (ix2 (n0 := 512) (n1 := 16384) ⟨(y 0).val, hy0⟩ ⟨256 * t.val + (y 1).val, by omega⟩) := by
    funext a; apply Fin.ext
    match a with
    | ⟨0, _⟩ => show win0_15.index t (0 : Fin 2) * 512 + 1 * (y 0).val = (y 0).val; rw [i0]; omega
    | ⟨1, _⟩ => show win0_15.index t (1 : Fin 2) * 256 + 1 * (y 1).val = 256 * t.val + (y 1).val; rw [i1]; omega
  show k0_pay13 (F := Ideal) (k0_pay2 (F := Ideal) (iblk m c 0 t) (iblk m c 1 t)) (valueCols (iblk m c 2 t)) ((cfg0.win 15).xinj (grid0.coords t) y)
    = values m c (((cfg0.win 15).blk t).view.emb y)
  rw [hy, he]
  exact values_point m c t _ _ _ rfl

/-- Every entry of each array lies in some point's block. -/
theorem covered_gates (i : S2x8192x128.Idx) : ∃ t : Fin cfg0.N, (cfg0.win 11).flush t = true ∧ i ∈ ((cfg0.win 11).blk t).view.set := by
  have h0 : (i 0).val < 2 := (i 0).isLt
  have h1 : (i 1).val < 8192 := (i 1).isLt
  have h2 : (i 2).val < 128 := (i 2).isLt
  have hf : ∀ t : Fin cfg0.N, (cfg0.win 11).flush t = true := (by decide +kernel : ∀ t : Fin grid0.N, _)
  have ht : 32 * (i 0).val + (i 1).val / 256 < 64 := by omega
  refine ⟨⟨32 * (i 0).val + (i 1).val / 256, lt_of_lt_of_eq ht N_0.symm⟩, hf _, ?_⟩
  obtain ⟨e0, e1, e2⟩ := index11 ⟨32 * (i 0).val + (i 1).val / 256, lt_of_lt_of_eq ht N_0.symm⟩
  dsimp only at e0 e1
  generalize (⟨32 * (i 0).val + (i 1).val / 256, _⟩ : Fin cfg0.N) = t at *
  show i ∈ ((View.whole main_v21_3).slice (win0_11.rect t)).set
  rw [View.set_slice_whole, Rect.mem_set_unit]
  intro a
  match a with
  | ⟨0, _⟩ => show win0_11.index t (0 : Fin 3) * 1 ≤ (i 0).val ∧ (i 0).val < win0_11.index t (0 : Fin 3) * 1 + 1; rw [e0]; omega
  | ⟨1, _⟩ => show win0_11.index t (1 : Fin 3) * 256 ≤ (i 1).val ∧ (i 1).val < win0_11.index t (1 : Fin 3) * 256 + 256; rw [e1]; omega
  | ⟨2, _⟩ => show win0_11.index t (2 : Fin 3) * 128 ≤ (i 2).val ∧ (i 2).val < win0_11.index t (2 : Fin 3) * 128 + 128; rw [e2]; omega
theorem covered_inputs (i : S2x8192x512.Idx) : ∃ t : Fin cfg0.N, (cfg0.win 13).flush t = true ∧ i ∈ ((cfg0.win 13).blk t).view.set := by
  have h0 : (i 0).val < 2 := (i 0).isLt
  have h1 : (i 1).val < 8192 := (i 1).isLt
  have h2 : (i 2).val < 512 := (i 2).isLt
  have hf : ∀ t : Fin cfg0.N, (cfg0.win 13).flush t = true := (by decide +kernel : ∀ t : Fin grid0.N, _)
  have ht : 32 * (i 0).val + (i 1).val / 256 < 64 := by omega
  refine ⟨⟨32 * (i 0).val + (i 1).val / 256, lt_of_lt_of_eq ht N_0.symm⟩, hf _, ?_⟩
  obtain ⟨e0, e1, e2⟩ := index13 ⟨32 * (i 0).val + (i 1).val / 256, lt_of_lt_of_eq ht N_0.symm⟩
  dsimp only at e0 e1
  generalize (⟨32 * (i 0).val + (i 1).val / 256, _⟩ : Fin cfg0.N) = t at *
  show i ∈ ((View.whole main_v21_5).slice (win0_13.rect t)).set
  rw [View.set_slice_whole, Rect.mem_set_unit]
  intro a
  match a with
  | ⟨0, _⟩ => show win0_13.index t (0 : Fin 3) * 1 ≤ (i 0).val ∧ (i 0).val < win0_13.index t (0 : Fin 3) * 1 + 1; rw [e0]; omega
  | ⟨1, _⟩ => show win0_13.index t (1 : Fin 3) * 256 ≤ (i 1).val ∧ (i 1).val < win0_13.index t (1 : Fin 3) * 256 + 256; rw [e1]; omega
  | ⟨2, _⟩ => show win0_13.index t (2 : Fin 3) * 512 ≤ (i 2).val ∧ (i 2).val < win0_13.index t (2 : Fin 3) * 512 + 512; rw [e2]; omega
theorem covered_values (i : S512x16384.Idx) : ∃ t : Fin cfg0.N, (cfg0.win 15).flush t = true ∧ i ∈ ((cfg0.win 15).blk t).view.set := by
  have h0 : (i 0).val < 512 := (i 0).isLt
  have h1 : (i 1).val < 16384 := (i 1).isLt
  have hf : ∀ t : Fin cfg0.N, (cfg0.win 15).flush t = true := (by decide +kernel : ∀ t : Fin grid0.N, _)
  have ht : (i 1).val / 256 < 64 := by omega
  refine ⟨⟨(i 1).val / 256, lt_of_lt_of_eq ht N_0.symm⟩, hf _, ?_⟩
  obtain ⟨e0, e1⟩ := index15 ⟨(i 1).val / 256, lt_of_lt_of_eq ht N_0.symm⟩
  dsimp only at e1
  generalize (⟨(i 1).val / 256, _⟩ : Fin cfg0.N) = t at *
  show i ∈ ((View.whole main_v21_7).slice (win0_15.rect t)).set
  rw [View.set_slice_whole, Rect.mem_set_unit]
  intro a
  match a with
  | ⟨0, _⟩ => show win0_15.index t (0 : Fin 2) * 512 ≤ (i 0).val ∧ (i 0).val < win0_15.index t (0 : Fin 2) * 512 + 512; rw [e0]; omega
  | ⟨1, _⟩ => show win0_15.index t (1 : Fin 2) * 256 ≤ (i 1).val ∧ (i 1).val < win0_15.index t (1 : Fin 2) * 256 + 256; rw [e1]; omega

end Cert.Kernel6Ideal.Project

end
-- ==== Proof.OddRef.lean ====
/- The odd layers' projections in the reference, entry by entry: the row's norm, its columns of the one product, and what
   is made of them. The reference's log of a sigmoid tests a number against itself, which is never unequal here. -/
module

public import proofs.«01_k».proof.Proof.OddIn
public import proofs.«01_k».proof.Proof.FfnRef
public import proofs.«01_k».proof.Proof.Gen.Reference6Ideal.Read

@[expose] public section

noncomputable section

namespace Cert.Reference6Ideal.Reading

open Idealize.ShloMosaic Cert.Reference6Ideal Cert.Reference6Ideal.Read Cert.ReferenceIdeal.Reading Idealize.SL.Sem
open Cert.Kernel4Ideal.Body (scaled)
open Cert.Kernel6Ideal.Body (project gated logGate valueCol inputCol openCol gateCol)
open Cert.Kernel6Ideal.Project (feature seqOf rowOf)
open Cert.Reference2Ideal.Reading (one_bits)

variable (x0 : (⟨S2x8192x1024, .f32⟩ : BufTy).Contents (Elt Ideal)) (x1 : (⟨S1024, .f32⟩ : BufTy).Contents (Elt Ideal))
  (x2 : (⟨S1024x2688, .f32⟩ : BufTy).Contents (Elt Ideal)) (x5 : (⟨S128, .f32⟩ : BufTy).Contents (Elt Ideal)) (b : Fin 2) (r : Fin 8192)

/-- The row's squares summed, -/
theorem squares_apply : val_main_v1 (F := Ideal) x0 (ix2 b r) = ∑ k : Fin 1024, x0 (ix3 b r k) * x0 (ix3 b r k) := by
  rw [val_main_v1_apply, val_main_cst_apply]
  refine (congrArg (fun z : EReal => z + _) zero_bits).trans ((zero_add _).trans (Finset.sum_congr rfl fun k _ => ?_))
  rw [ix3_ext (idx_main_v1 (ix2 b r) k) b r k rfl rfl rfl, val_main_v0_apply]
  rfl

/-- the row normalised, -/
theorem normed_apply (k : Fin 1024) : val_main_v12 (F := Ideal) x0 x1 (ix3 b r k) = scaled (fun j => x0 (ix3 b r j)) (fun j => x1 (ix1 j)) k := by
  have h1 : idx_main_v2 (idx_main_v8 (ix3 b r k)) = ix2 b r := ix2_ext _ b r rfl rfl
  have h2 : idx_main_v10 (idx_main_v11 (ix3 b r k)) = ix1 k := by funext a; fin_cases a; rfl
  rw [val_main_v12_apply, val_main_v9_apply, val_main_v8_apply, val_main_v7_apply, val_main_v6_apply, val_main_v4_apply, val_main_v2_apply, h1,
    squares_apply, val_main_v3_apply, val_main_cst_0_apply, val_main_v5_apply, val_main_cst_1_apply, val_main_v11_apply, val_main_v10_apply, h2]
  rfl

/-- and through a column of the weight. -/
theorem feature_apply (f : Fin 2688) : val_main_v13 (F := Ideal) x0 x1 x2 (ix3 b r f) = feature x0 x1 x2 b r f := by
  rw [val_main_v13_apply]
  unfold feature project
  refine Finset.sum_congr rfl fun k _ => ?_
  rw [ix3_ext (lidx_main_v13 (ix3 b r f) k) b r k rfl rfl rfl, ix2_ext (ridx_main_v13 (ix3 b r f) k) k f rfl rfl, normed_apply]

/-- The convolution's input: a column opened by the sigmoid of another. -/
theorem inputs_apply (e : Fin 512) : val_main_v62 (F := Ideal) x0 x1 x2 (ix3 b r e)
    = gated (feature x0 x1 x2 b r (inputCol e)) (feature x0 x1 x2 b r (openCol e)) := by
  rw [val_main_v62_apply, val_main_v54_apply, val_main_v61_apply, val_main_v60_apply, val_main_cst_10_apply, val_main_v59_apply, val_main_v58_apply,
    val_main_cst_9_apply, val_main_v57_apply, val_main_v56_apply, val_main_v55_apply,
    ix3_ext (idx_main_v54 (ix3 b r e)) b r (inputCol e) rfl rfl rfl, ix3_ext (idx_main_v55 (ix3 b r e)) b r (openCol e) rfl rfl rfl,
    feature_apply, feature_apply]
  unfold gated
  generalize feature x0 x1 x2 b r (openCol e) = z
  show _ * Ideal.div (Ideal.ofBits .f32 0x3F800000#32) (Ideal.ofBits .f32 0x3F800000#32 + Ideal.exp (-z)) = _
  rw [one_bits, zero_sub]

/-- The values, a column for each row. -/
theorem values_apply (e : Fin 512) (n : Fin 16384) : val_main_v71 (F := Ideal) x0 x1 x2 (ix2 e n) = feature x0 x1 x2 (seqOf n) (rowOf n) (valueCol e) := by
  rw [val_main_v71_apply, val_main_v70_apply, val_main_v69_apply, val_main_v16_apply, ix3_ext (idx_main_v16 (idx_main_v70 (idx_main_v71 (ix2 e n))))
    (seqOf n) (rowOf n) (valueCol e) (by show (n.val * 512 + e.val) / 4194304 = n.val / 8192; omega)
    (by show (n.val * 512 + e.val) / 512 % 8192 = n.val % 8192; omega)
    (by show 1024 + (n.val * 512 + e.val) % 512 = 1024 + e.val; omega), feature_apply]
  rfl

/-- The log of a sigmoid as the reference takes it. -/
theorem logGate_eq (z : EReal) : -(max (-z) 0 + Ideal.log1p (Ideal.exp (-(max (-z - 0) (-(-z - 0)))))) = logGate z := by
  unfold logGate
  rw [sub_zero, neg_neg, max_comm (-z) z, zero_sub, zero_sub, zero_sub]

/-- The gates' column with its bias, -/
theorem biased_apply (e : Fin 128) : val_main_v52 (F := Ideal) x0 x1 x2 x5 (ix3 b r e) = feature x0 x1 x2 b r (gateCol e) + x5 (ix1 e) := by
  have h1 : idx_main_v50 (idx_main_v51 (ix3 b r e)) = ix1 e := by funext a; fin_cases a; rfl
  rw [val_main_v52_apply, val_main_v49_apply, val_main_v51_apply, val_main_v50_apply, h1,
    ix3_ext (idx_main_v49 (ix3 b r e)) b r (gateCol e) rfl rfl rfl, feature_apply]
  rfl

/-- and the log of its sigmoid. -/
theorem gates_apply (e : Fin 128) : val_main_v53 (F := Ideal) x0 x1 x2 x5 (ix3 b r e)
    = logGate (feature x0 x1 x2 b r (gateCol e) + x5 (ix1 e)) := by
  rw [val_main_v53_apply, val_main_call0_v1_apply, val_main_call0_call0_v4_apply, val_main_call0_call0_v11_apply, val_main_call0_call0_v10_apply,
    val_main_call0_call0_v9_apply, val_main_call0_call0_v8_apply, val_main_call0_call0_v7_apply, val_main_call0_call0_v3_apply,
    val_main_call0_call0_v2_apply, val_main_call0_call0_v1_apply, val_main_call0_call0_v0_apply, val_main_call0_call0_cst_apply, val_main_call0_v0_apply,
    biased_apply]
  generalize feature x0 x1 x2 b r (gateCol e) + x5 (ix1 e) = z
  have hs : ∀ (d : EReal) (p q : EReal), (Scalar.select (FloatOps.cmpf (F := Ideal) (φ := .f32) .une d d) p q : EReal) = q := fun d p q => by
    simp [FloatOps.cmpf, Scalar.select, Ideal.cmp]
  refine (congrArg (fun s : EReal => -s) (hs _ _ _)).trans ?_
  rw [← logGate_eq z, ← zero_bits]
  rfl

end Cert.Reference6Ideal.Reading

end
-- ==== Proof.OddKeys.lean ====
/- The odd layers' projections: what one run of the kernel's body leaves in the queries' blocks, in the keys' and in that of
   the keys and values, entry by entry. The body norms a head's features by a product with a table, as the memory's does. -/
module

public import proofs.«01_k».proof.Proof.OddBody

@[expose] public section

set_option maxRecDepth 16384

noncomputable section

namespace Cert.Kernel6Ideal.Body

open Idealize.ShloMosaic Cert.Kernel6Ideal Cert.Kernel6Ideal.Gen Idealize.ShloMosaic.TcCoe Idealize.SL.Sem
open Cert.Kernel4Ideal.Body (scaled)

/-- A feature over the root mean square of its head as the body takes it: `v` are the row's features, `a` the table. -/
def tableScaled (v : Fin 512 → EReal) (a : Fin 512 → Fin 512 → EReal) (e : Fin 512) : EReal :=
  v e * Ideal.rsqrt (((∑ k : Fin 512, v k * v k * a k e) + ∑ k : Fin 512, (v k * v k - v k * v k) * a k e) * Ideal.ofBits .f32 0x3C800000#32
    + Ideal.ofBits .f32 0x358637BD#32)

variable (c : Dev nD) (i : grid0.Coords)
  (arg2 : Memref sig .tc .vmem S1x256x1024 .f32) (harg2 : arg2.IsWhole) (arg3 : Memref sig .tc .vmem S1x1024 .f32) (harg3 : arg3.IsWhole)
  (arg4 : Memref sig .tc .vmem S1024x2688 .bf16) (harg4 : arg4.IsWhole) (arg5 : Memref sig .tc .vmem S1x512 .f32) (harg5 : arg5.IsWhole)
  (arg6 : Memref sig .tc .vmem S1x512 .f32) (harg6 : arg6.IsWhole) (arg7 : Memref sig .tc .vmem S1x128 .f32) (harg7 : arg7.IsWhole)
  (arg8 : Memref sig .tc .vmem S512x512 .bf16) (harg8 : arg8.IsWhole) (arg9 : Memref sig .tc .vmem S256x256 .f32) (harg9 : arg9.IsWhole)
  (arg10 : Memref sig .tc .vmem S1x256x512 .bf16) (harg10 : arg10.IsWhole) (arg11 : Memref sig .tc .vmem S1x256x1024 .f32) (harg11 : arg11.IsWhole)
  (arg12 : Memref sig .tc .vmem S1x256x512 .bf16) (harg12 : arg12.IsWhole) (arg13 : Memref sig .tc .vmem S1x256x128 .f32) (harg13 : arg13.IsWhole)
  (arg14 : Memref sig .tc .vmem S1x256x128 .f32) (harg14 : arg14.IsWhole) (arg15 : Memref sig .tc .vmem S1x256x512 .f32) (harg15 : arg15.IsWhole)
  (arg16 : Memref sig .tc .vmem S512x256 .bf16) (harg16 : arg16.IsWhole) (arg17 : Memref sig .tc .vmem S512x256 .bf16) (harg17 : arg17.IsWhole)
  (arg18 : Memref sig .tc .vmem S8x128 .f32) (harg18 : arg18.IsWhole)
  (x0 : Vec Ideal S1x256x1024 .f32) (x1 : Vec Ideal S1x1024 .f32) (x2 : Vec Ideal S1024x2688 .bf16) (x3 x4 : Vec Ideal S1x512 .f32)
  (x5 : Vec Ideal S1x128 .f32) (x6 : Vec Ideal S512x512 .bf16) (x7 : Vec Ideal S256x256 .f32) (xs0 : Vec Ideal S8x128 .f32)

/-- The weight's columns of the queries and of the keys. -/
def queryCols : Vec Ideal S1024x512 .bf16 := View.ld x2 (Rect.unit (s := S1024x2688) ![0, 0] S1024x512.size inb_S1024x2688_S1024x512_0_0)
def keyCols : Vec Ideal S1024x512 .bf16 := View.ld x2 (Rect.unit (s := S1024x2688) ![0, 512] S1024x512.size inb_S1024x2688_S1024x512_0_512)

/-- The two halves of the keys' and values' block. -/
abbrev lowHalf : Rect S1x256x1024 := Rect.unit (s := S1x256x1024) ![0, 0, 0] S1x256x512.size inb_S1x256x1024_S1x256x512_0_0_0
abbrev highHalf : Rect S1x256x1024 := Rect.unit (s := S1x256x1024) ![0, 0, 512] S1x256x512.size inb_S1x256x1024_S1x256x512_0_0_512

/-- The queries, at a point that starts a sequence and at any other; -/
theorem queries_A (hc0 : cond0_0 i) :
    out0_A_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7
      = k0_pay6 (k0_pay3 x0 x1 (queryCols x2)) (k0_pay4 x0 x1 (queryCols x2) x6) x3 := by
  unfold out0_A_8
  rw [View.read_writes_junk_eq_canon]
  unfold kernelRun0_A
  dsimp only
  sl_unfold_words
  refine (View.canon_cons_unit_zero origin3 _ _ _).trans ?_
  simp only [View.readAt_eq_ld, harg2.read_unread, harg3.read_unread, harg4.read_unread, harg5.read_unread, harg8.read_unread]
  rw [View.ld_unit_zero (S := S1x256x1024) origin3 _ x0, View.ld_unit_zero (S := S1x1024) origin2 _ x1, View.ld_unit_zero (S := S512x512) origin2 _ x6, View.ld_unit_zero (S := S1x512) origin2 _ x3]
  rfl
theorem queries_B (hc0 : ¬cond0_0 i) :
    out0_B_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 xs0
      = k0_pay6 (k0_pay3 x0 x1 (queryCols x2)) (k0_pay4 x0 x1 (queryCols x2) x6) x3 := by
  unfold out0_B_8
  rw [View.read_writes_junk_eq_canon]
  unfold kernelRun0_B
  dsimp only
  sl_unfold_words
  refine (View.canon_cons_unit_zero origin3 _ _ _).trans ?_
  simp only [View.readAt_eq_ld, harg2.read_unread, harg3.read_unread, harg4.read_unread, harg5.read_unread, harg8.read_unread]
  rw [View.ld_unit_zero (S := S1x256x1024) origin3 _ x0, View.ld_unit_zero (S := S1x1024) origin2 _ x1, View.ld_unit_zero (S := S512x512) origin2 _ x6, View.ld_unit_zero (S := S1x512) origin2 _ x3]
  rfl

/-- the queries transposed; -/
theorem turned_A (hc0 : cond0_0 i) :
    out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7
      = k0_pay7 (k0_pay3 x0 x1 (queryCols x2)) (k0_pay4 x0 x1 (queryCols x2) x6) x3 := by
  unfold out0_A_14
  rw [View.read_writes_junk_eq_canon]
  unfold kernelRun0_A
  dsimp only
  sl_unfold_words
  refine (View.canon_cons_unit_zero origin2 _ _ _).trans ?_
  simp only [View.readAt_eq_ld, harg2.read_unread, harg3.read_unread, harg4.read_unread, harg5.read_unread, harg8.read_unread]
  rw [View.ld_unit_zero (S := S1x256x1024) origin3 _ x0, View.ld_unit_zero (S := S1x1024) origin2 _ x1, View.ld_unit_zero (S := S512x512) origin2 _ x6, View.ld_unit_zero (S := S1x512) origin2 _ x3]
  rfl
theorem turned_B (hc0 : ¬cond0_0 i) :
    out0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 xs0
      = k0_pay7 (k0_pay3 x0 x1 (queryCols x2)) (k0_pay4 x0 x1 (queryCols x2) x6) x3 := by
  unfold out0_B_14
  rw [View.read_writes_junk_eq_canon]
  unfold kernelRun0_B
  dsimp only
  sl_unfold_words
  refine (View.canon_cons_unit_zero origin2 _ _ _).trans ?_
  simp only [View.readAt_eq_ld, harg2.read_unread, harg3.read_unread, harg4.read_unread, harg5.read_unread, harg8.read_unread]
  rw [View.ld_unit_zero (S := S1x256x1024) origin3 _ x0, View.ld_unit_zero (S := S1x1024) origin2 _ x1, View.ld_unit_zero (S := S512x512) origin2 _ x6, View.ld_unit_zero (S := S1x512) origin2 _ x3]
  rfl

/-- the keys; -/
theorem keys_A (hc0 : cond0_0 i) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7
      = k0_pay12 (k0_pay8 (k0_pay2 x0 x1) (keyCols x2) x6 x4) := by
  unfold out0_A_10
  rw [View.read_writes_junk_eq_canon]
  unfold kernelRun0_A
  dsimp only
  sl_unfold_words
  refine (View.canon_cons_unit_zero origin3 _ _ _).trans ?_
  simp only [View.readAt_eq_ld, harg2.read_unread, harg3.read_unread, harg4.read_unread, harg6.read_unread, harg8.read_unread]
  rw [View.ld_unit_zero (S := S1x256x1024) origin3 _ x0, View.ld_unit_zero (S := S1x1024) origin2 _ x1, View.ld_unit_zero (S := S512x512) origin2 _ x6, View.ld_unit_zero (S := S1x512) origin2 _ x4]
  rfl
theorem keys_B (hc0 : ¬cond0_0 i) :
    out0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 xs0
      = k0_pay12 (k0_pay8 (k0_pay2 x0 x1) (keyCols x2) x6 x4) := by
  unfold out0_B_10
  rw [View.read_writes_junk_eq_canon]
  unfold kernelRun0_B
  dsimp only
  sl_unfold_words
  refine (View.canon_cons_unit_zero origin3 _ _ _).trans ?_
  simp only [View.readAt_eq_ld, harg2.read_unread, harg3.read_unread, harg4.read_unread, harg6.read_unread, harg8.read_unread]
  rw [View.ld_unit_zero (S := S1x256x1024) origin3 _ x0, View.ld_unit_zero (S := S1x1024) origin2 _ x1, View.ld_unit_zero (S := S512x512) origin2 _ x6, View.ld_unit_zero (S := S1x512) origin2 _ x4]
  rfl

/-- and the keys and the values beside each other. -/
theorem pairs_A (hc0 : cond0_0 i) :
    out0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7
      = View.canon [⟨highHalf, k0_pay11 (k0_pay2 x0 x1) (valueCols x2)⟩, ⟨lowHalf, k0_pay10 (k0_pay8 (k0_pay2 x0 x1) (keyCols x2) x6 x4)⟩] := by
  unfold out0_A_9
  rw [View.read_writes_junk_eq_canon]
  unfold kernelRun0_A
  dsimp only
  sl_unfold_words
  simp only [View.readAt_eq_ld, harg2.read_unread, harg3.read_unread, harg4.read_unread, harg6.read_unread, harg8.read_unread]
  rw [View.ld_unit_zero (S := S1x256x1024) origin3 _ x0, View.ld_unit_zero (S := S1x1024) origin2 _ x1, View.ld_unit_zero (S := S512x512) origin2 _ x6, View.ld_unit_zero (S := S1x512) origin2 _ x4]
  rfl
theorem pairs_B (hc0 : ¬cond0_0 i) :
    out0_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 xs0
      = View.canon [⟨highHalf, k0_pay11 (k0_pay2 x0 x1) (valueCols x2)⟩, ⟨lowHalf, k0_pay10 (k0_pay8 (k0_pay2 x0 x1) (keyCols x2) x6 x4)⟩] := by
  unfold out0_B_9
  rw [View.read_writes_junk_eq_canon]
  unfold kernelRun0_B
  dsimp only
  sl_unfold_words
  simp only [View.readAt_eq_ld, harg2.read_unread, harg3.read_unread, harg4.read_unread, harg6.read_unread, harg8.read_unread]
  rw [View.ld_unit_zero (S := S1x256x1024) origin3 _ x0, View.ld_unit_zero (S := S1x1024) origin2 _ x1, View.ld_unit_zero (S := S512x512) origin2 _ x6, View.ld_unit_zero (S := S1x512) origin2 _ x4]
  rfl

/-! ## Entry by entry -/

variable (xn : FVec Ideal S256x1024 .bf16) (w : Vec Ideal S1024x512 .bf16) (p s : FVec Ideal S256x512 .f32) (n : Vec Ideal S1x512 .f32) (r : Fin 256)

/-- The queries' features scaled, -/
theorem scaled_apply (e : Fin 512) : k0_pay3 (F := Ideal) x0 x1 w (ix2 r e) * k0_pay4 (F := Ideal) x0 x1 w x6 (ix2 r e)
    = tableScaled (fun f => ∑ k : Fin 1024, k0_pay2 (F := Ideal) x0 x1 (ix2 r k) * w (ix2 k f)) (fun k f => x6 (ix2 k f)) e := by
  unfold k0_pay4 k0_pay3 tableScaled
  generalize k0_pay2 (F := Ideal) x0 x1 = y
  pointwise

/-- with their gain and an eighth of them, -/
theorem queries_apply (e : Fin 512) : k0_pay6 (F := Ideal) p s n (ix3 0 r e) = p (ix2 r e) * s (ix2 r e) * n (ix2 0 e) * Ideal.ofBits .f32 0x3E000000#32 := by
  unfold k0_pay6 k0_pay5
  pointwise
theorem turned_apply (e : Fin 512) : k0_pay7 (F := Ideal) p s n (ix2 e r) = p (ix2 r e) * s (ix2 r e) * n (ix2 0 e) * Ideal.ofBits .f32 0x3E000000#32 := by
  unfold k0_pay7 k0_pay5
  pointwise

/-- the keys' with their gain, -/
theorem normed_apply (e : Fin 512) : k0_pay8 (F := Ideal) xn w x6 n (ix2 r e)
    = tableScaled (fun f => ∑ k : Fin 1024, xn (ix2 r k) * w (ix2 k f)) (fun k f => x6 (ix2 k f)) e * n (ix2 0 e) := by
  unfold k0_pay8 tableScaled
  pointwise
theorem keys_apply (e : Fin 512) : k0_pay12 (F := Ideal) p (ix3 0 r e) = p (ix2 r e) := by
  unfold k0_pay12
  pointwise

/-- and the two halves of a row. -/
theorem low_apply (e : Fin 512) : k0_pay10 (F := Ideal) p (ix3 0 r e) = p (ix2 r e) := by
  unfold k0_pay10
  pointwise
theorem high_apply (e : Fin 512) : k0_pay11 (F := Ideal) xn w (ix3 0 r e) = ∑ k : Fin 1024, xn (ix2 r k) * w (ix2 k e) := by
  unfold k0_pay11 k0_pay9
  pointwise

/-- A feature's column among the keys and among the values. -/
def lowCol (e : Fin 512) : Fin 1024 := ⟨e.val, by omega⟩
def highCol (e : Fin 512) : Fin 1024 := ⟨512 + e.val, by omega⟩

theorem low_not_mem (e : Fin 512) : (ix3 0 r (lowCol e) : S1x256x1024.Idx) ∉ highHalf.set := fun h => by
  rw [Rect.mem_set_unit] at h
  have h2 : (512 : ℕ) ≤ e.val := (h (2 : Fin 3)).1
  exact absurd e.isLt (Nat.not_lt.mpr h2)

/-- Two stores, one to each half: what each half holds. -/
theorem low_half (a b : Vec Ideal S1x256x512 .f32) (e : Fin 512) :
    (View.canon [⟨highHalf, a⟩, ⟨lowHalf, b⟩] : Vec Ideal S1x256x1024 .f32) (ix3 0 r (lowCol e)) = b (ix3 0 r e) := by
  have he : (ix3 0 r (lowCol e) : S1x256x1024.Idx) = lowHalf.emb (ix3 0 r e : S1x256x512.Idx) := by
    funext d; apply Fin.ext
    match d with
    | ⟨0, _⟩ => rfl
    | ⟨1, _⟩ => show r.val = 0 + 1 * r.val; omega
    | ⟨2, _⟩ => show e.val = 0 + 1 * e.val; omega
  refine (View.canon_cons_of_not_mem (⟨highHalf, a⟩ : View.Piece (Elt Ideal) S1x256x1024 .f32) [⟨lowHalf, b⟩] (y := ix3 0 r (lowCol e)) (low_not_mem r e)).trans ?_
  rw [he]
  exact View.canon_cons_emb lowHalf b [] _
theorem high_half (a b : Vec Ideal S1x256x512 .f32) (e : Fin 512) :
    (View.canon [⟨highHalf, a⟩, ⟨lowHalf, b⟩] : Vec Ideal S1x256x1024 .f32) (ix3 0 r (highCol e)) = a (ix3 0 r e) := by
  have he : (ix3 0 r (highCol e) : S1x256x1024.Idx) = highHalf.emb (ix3 0 r e : S1x256x512.Idx) := by
    funext d; apply Fin.ext
    match d with
    | ⟨0, _⟩ => rfl
    | ⟨1, _⟩ => show r.val = 0 + 1 * r.val; omega
    | ⟨2, _⟩ => show 512 + e.val = 512 + 1 * e.val; omega
  rw [he]
  exact View.canon_cons_emb highHalf a _ _

/-- The weight's column of a query's feature and of a key's. -/
def queryCol (e : Fin 512) : Fin 2688 := ⟨e.val, by omega⟩
def keyCol (e : Fin 512) : Fin 2688 := ⟨512 + e.val, by omega⟩

theorem queryCols_apply (k : Fin 1024) (e : Fin 512) : queryCols x2 (ix2 k e) = x2 (ix2 k (queryCol e)) :=
  cols_apply x2 0 _ k e _ (by show e.val = 0 + e.val; omega)
theorem keyCols_apply (k : Fin 1024) (e : Fin 512) : keyCols x2 (ix2 k e) = x2 (ix2 k (keyCol e)) := cols_apply x2 512 _ k e _ rfl

end Cert.Kernel6Ideal.Body

end
-- ==== Proof.OddHeads.lean ====
/- The odd layers' projections: the queries' arrays, the keys' and that of the keys and values, entry by entry. The kernel norms
   a head's features by a table of which features share a head, built on the host from the features' numbers. -/
module

public import proofs.«01_k».proof.Proof.OddIn
public import proofs.«01_k».proof.Proof.OddKeys
public import proofs.«01_k».proof.Proof.FfnRef

@[expose] public section

set_option maxRecDepth 16384

noncomputable section

namespace Cert.Kernel6Ideal.Project

open Idealize.ShloMosaic Cert.Kernel6Ideal Cert.Kernel6Ideal.Gen Cert.Kernel6Ideal.Body Idealize.ShloMosaic.TcCoe Idealize.SL.Sem
open Cert.Kernel4Ideal.Body (scaled)

variable (m : (ℓ : Loc nD τ sig) → Buf (Elt Ideal) ℓ) (ρ : Dev nD → PrngReg) (c : Dev nD)

/-- The gains of a head's query features and of its key features. -/
def argQ : Vec Ideal S64 .f32 := m ((c : Thread nD τ).loc main_arg3)
def argK : Vec Ideal S64 .f32 := m ((c : Thread nD τ).loc main_arg4)

/-- A feature's place in its head. -/
def place (e : Fin 512) : Fin 64 := ⟨e.val % 64, Nat.mod_lt _ (by decide)⟩

/-- The table: one inside a head. -/
def same (k e : Fin 512) : EReal := if k.val / 64 = e.val / 64 then 1 else 0

/-- Row `r` of sequence `b`: a query's feature, a key's, and one of the array of both keys and values. -/
def queryAt (b : Fin 2) (r : Fin 8192) (e : Fin 512) : EReal :=
  tableScaled (fun f => feature (argX m c) (argG m c) (argW m c) b r (queryCol f)) same e * argQ m c (ix1 (place e)) * Ideal.ofBits .f32 0x3E000000#32
def keyAt (b : Fin 2) (r : Fin 8192) (e : Fin 512) : EReal :=
  tableScaled (fun f => feature (argX m c) (argG m c) (argW m c) b r (keyCol f)) same e * argK m c (ix1 (place e))
def pairAt (b : Fin 2) (r : Fin 8192) (f : Fin 1024) : EReal :=
  if h : f.val < 512 then keyAt m c b r ⟨f.val, h⟩ else feature (argX m c) (argG m c) (argW m c) b r (valueCol ⟨f.val - 512, by omega⟩)

theorem pairAt_low (b : Fin 2) (r : Fin 8192) (e : Fin 512) : pairAt m c b r (lowCol e) = keyAt m c b r e := by
  unfold pairAt
  rw [dif_pos (show (lowCol e).val < 512 from e.isLt)]
  rfl
theorem pairAt_high (b : Fin 2) (r : Fin 8192) (e : Fin 512) :
    pairAt m c b r (highCol e) = feature (argX m c) (argG m c) (argW m c) b r (valueCol e) := by
  unfold pairAt
  rw [dif_neg (show ¬(highCol e).val < 512 by show ¬(512 + e.val < 512); omega)]
  exact congrArg (fun e => feature (argX m c) (argG m c) (argW m c) b r (valueCol e)) (Fin.ext (by show 512 + e.val - 512 = e.val; omega))

/-- A feature of the keys and values is a key's or a value's. -/
theorem halves (f : Fin 1024) : (∃ e : Fin 512, f = lowCol e) ∨ ∃ e : Fin 512, f = highCol e := by
  by_cases h : f.val < 512
  · exact Or.inl ⟨⟨f.val, h⟩, rfl⟩
  · exact Or.inr ⟨⟨f.val - 512, by omega⟩, Fin.ext (by show f.val = 512 + (f.val - 512); omega)⟩

/-- The queries' array, that of the keys and values, the keys', and the queries' transposed. -/
def queries : Buf (Elt Ideal) ((c : Thread nD τ).loc main_v21_0) := fun i => queryAt m c (i 0) (i 1) (i 2)
def pairs : Buf (Elt Ideal) ((c : Thread nD τ).loc main_v21_1) := fun i => pairAt m c (i 0) (i 1) (i 2)
def keys : Buf (Elt Ideal) ((c : Thread nD τ).loc main_v21_2) := fun i => keyAt m c (i 0) (i 1) (i 2)
def turned : Buf (Elt Ideal) ((c : Thread nD τ).loc main_v21_6) := fun i => queryAt m c (seqOf (i 1)) (rowOf (i 1)) (i 0)

/-! ## What a point stages -/

theorem index3 : ∀ t : Fin cfg0.N, win0_3.index t (0 : Fin 2) = 0 ∧ win0_3.index t (1 : Fin 2) = 0 :=
  (by decide +kernel : ∀ t : Fin grid0.N, _)
theorem index4 : ∀ t : Fin cfg0.N, win0_4.index t (0 : Fin 2) = 0 ∧ win0_4.index t (1 : Fin 2) = 0 :=
  (by decide +kernel : ∀ t : Fin grid0.N, _)
theorem index6 : ∀ t : Fin cfg0.N, win0_6.index t (0 : Fin 2) = 0 ∧ win0_6.index t (1 : Fin 2) = 0 :=
  (by decide +kernel : ∀ t : Fin grid0.N, _)
theorem index8 : ∀ t : Fin cfg0.N, win0_8.index t (0 : Fin 3) = t.val / 32 ∧ win0_8.index t (1 : Fin 3) = t.val % 32 ∧ win0_8.index t (2 : Fin 3) = 0 :=
  (by decide +kernel : ∀ t : Fin grid0.N, _)
theorem index9 : ∀ t : Fin cfg0.N, win0_9.index t (0 : Fin 3) = t.val / 32 ∧ win0_9.index t (1 : Fin 3) = t.val % 32 ∧ win0_9.index t (2 : Fin 3) = 0 :=
  (by decide +kernel : ∀ t : Fin grid0.N, _)
theorem index10 : ∀ t : Fin cfg0.N, win0_10.index t (0 : Fin 3) = t.val / 32 ∧ win0_10.index t (1 : Fin 3) = t.val % 32 ∧ win0_10.index t (2 : Fin 3) = 0 :=
  (by decide +kernel : ∀ t : Fin grid0.N, _)
theorem index14 : ∀ t : Fin cfg0.N, win0_14.index t (0 : Fin 2) = 0 ∧ win0_14.index t (1 : Fin 2) = t.val :=
  (by decide +kernel : ∀ t : Fin grid0.N, _)

/-- A head's gains once for each head, as a row. -/
def gainsRow (n : Vec Ideal S64 .f32) : Vec Ideal S1x512 .f32 :=
  shapeCast S1x512 (shapeCast S512 (broadcastInDim S8x64 ![0, 1] bcast_S1x64_S8x64_0_1
    (shapeCast S1x64 n shapeCasts_S64_S1x64 : Vec Ideal S1x64 .f32) : Vec Ideal S8x64 .f32) shapeCasts_S8x64_S512 : Vec Ideal S512 .f32) shapeCasts_S512_S1x512
theorem gainsRow_apply (n : Vec Ideal S64 .f32) (e : Fin 512) : gainsRow n (ix2 0 e) = n (ix1 (place e)) := by
  unfold gainsRow
  pointwise
  rfl

/-- The queries' gains, -/
theorem queryGains_eq (e : Fin 512) : V m c main_v5 (ix2 0 e) = argQ m c (ix1 (place e)) := by
  have h : V m c main_v5 = gainsRow (argQ m c) := by
    show StableHlo.after (List.flatten [hostOps0, hostOps0_1, hostOps0_2]) _ _ = _
    simp only [hostOps0, hostOps0_1, hostOps0_2, List.flatten_cons, List.flatten_nil, List.append_nil, List.cons_append, List.nil_append]
    after_results
    rfl
  rw [h, gainsRow_apply]
/-- the keys', -/
theorem keyGains_eq (e : Fin 512) : V m c main_v9 (ix2 0 e) = argK m c (ix1 (place e)) := by
  have h : V m c main_v9 = gainsRow (argK m c) := by
    show StableHlo.after (List.flatten [hostOps0, hostOps0_1, hostOps0_2]) _ _ = _
    simp only [hostOps0, hostOps0_1, hostOps0_2, List.flatten_cons, List.flatten_nil, List.append_nil, List.cons_append, List.nil_append]
    after_results
    rfl
  rw [h, gainsRow_apply]

/-- The head of a feature as the host finds it. -/
def headWord : IVec S512 32 := Host.divsi (iotaInDim S512 32 0) (broadcastInDim S512 ![] bcast_S_S512 (constantI S_ 32 64#32))
theorem headWord_apply (k : Fin 512) : headWord (ix1 k) = BitVec.ofNat 32 (k.val / 64) := by
  have hs : ∀ k : Fin 512, (BitVec.ofNat 32 k.val).sdiv 64#32 = BitVec.ofNat 32 (k.val / 64) := by decide +kernel
  have hc : ∀ k : Fin 512, ¬IntOp.SDivCorner (BitVec.ofNat 32 k.val) 64#32 := by decide +kernel
  have e : headWord (ix1 k) = IntOp.divsi .host (BitVec.ofNat 32 k.val) 64#32 := rfl
  rw [e, IntOp.divsi, if_neg (hc k), hs k]

/-- and the table. -/
theorem table_eq (k e : Fin 512) : V m c main_v20 (ix2 k e) = same k e := by
  have h : V m c main_v20 = (truncf (F := Ideal) (s := S512x512) (φ := .f32) .bf16 (select
      (cmpi .eq (broadcastInDim S512x512 ![0, 1] bcast_S512x1_S512x512_0_1 (broadcastInDim S512x1 ![0] bcast_S512_S512x1_0 headWord : IVec S512x1 32) : IVec S512x512 32)
        (broadcastInDim S512x512 ![0, 1] bcast_S1x512_S512x512_0_1 (broadcastInDim S1x512 ![1] bcast_S512_S1x512_1 headWord : IVec S1x512 32) : IVec S512x512 32))
      (broadcastInDim S512x512 ![] bcast_S_S512x512 (constant (F := Ideal) S_ .f32 0x3F800000#32))
      (broadcastInDim S512x512 ![] bcast_S_S512x512 (constant (F := Ideal) S_ .f32 0x00000000#32)) : FVec Ideal S512x512 .f32) bitsLt_bf16_f32 : Vec Ideal S512x512 .bf16) := by
    show StableHlo.after (List.flatten [hostOps0, hostOps0_1, hostOps0_2]) _ _ = _
    simp only [hostOps0, hostOps0_1, hostOps0_2, List.flatten_cons, List.flatten_nil, List.append_nil, List.cons_append, List.nil_append]
    after_results
    rfl
  have he : V m c main_v20 (ix2 k e) = Scalar.select (IntOp.cmpi .eq (headWord (ix1 k)) (headWord (ix1 e)))
      (Ideal.ofBits .f32 0x3F800000#32) (Ideal.ofBits .f32 0x00000000#32) := by
    rw [h]
    pointwise
  have hw : ∀ a b : Fin 8, (BitVec.ofNat 32 a.val == BitVec.ofNat 32 b.val) = decide (a.val = b.val) := by decide +kernel
  have hab := hw ⟨k.val / 64, by omega⟩ ⟨e.val / 64, by omega⟩
  rw [he, headWord_apply, headWord_apply]
  unfold same IntOp.cmpi
  dsimp only at hab ⊢
  rw [hab]
  by_cases hk : k.val / 64 = e.val / 64
  · rw [if_pos hk, decide_eq_true hk]
    exact Cert.Reference2Ideal.Reading.one_bits
  · rw [if_neg hk, decide_eq_false hk]
    exact Cert.ReferenceIdeal.Reading.zero_bits

variable (t : Fin cfg0.N)

theorem block_q (e : Fin 512) : iblk m c 3 t (ix2 0 e) = argQ m c (ix1 (place e)) := by
  obtain ⟨i0, i1⟩ := index3 t
  rw [← queryGains_eq m c e]
  show V m c main_v5 (((cfg0.win 3).blk t).view.emb (ix2 0 e)) = _
  refine congrArg (V m c main_v5) (funext fun a => Fin.ext ?_)
  match a with
  | ⟨0, _⟩ => show win0_3.index t (0 : Fin 2) * 1 + 1 * 0 = 0; rw [i0]
  | ⟨1, _⟩ => show win0_3.index t (1 : Fin 2) * 512 + 1 * e.val = e.val; rw [i1]; omega
theorem block_k (e : Fin 512) : iblk m c 4 t (ix2 0 e) = argK m c (ix1 (place e)) := by
  obtain ⟨i0, i1⟩ := index4 t
  rw [← keyGains_eq m c e]
  show V m c main_v9 (((cfg0.win 4).blk t).view.emb (ix2 0 e)) = _
  refine congrArg (V m c main_v9) (funext fun a => Fin.ext ?_)
  match a with
  | ⟨0, _⟩ => show win0_4.index t (0 : Fin 2) * 1 + 1 * 0 = 0; rw [i0]
  | ⟨1, _⟩ => show win0_4.index t (1 : Fin 2) * 512 + 1 * e.val = e.val; rw [i1]; omega
theorem block_a (k e : Fin 512) : iblk m c 6 t (ix2 k e) = same k e := by
  obtain ⟨i0, i1⟩ := index6 t
  rw [← table_eq m c k e]
  show V m c main_v20 (((cfg0.win 6).blk t).view.emb (ix2 k e)) = _
  refine congrArg (V m c main_v20) (funext fun a => Fin.ext ?_)
  match a with
  | ⟨0, _⟩ => show win0_6.index t (0 : Fin 2) * 512 + 1 * k.val = k.val; rw [i0]; omega
  | ⟨1, _⟩ => show win0_6.index t (1 : Fin 2) * 512 + 1 * e.val = e.val; rw [i1]; omega

/-! ## What a point writes -/

/-- A point's blocks. -/
def featureBlock : FVec Ideal S256x512 .f32 := k0_pay3 (F := Ideal) (iblk m c 0 t) (iblk m c 1 t) (queryCols (iblk m c 2 t))
def rootBlock : FVec Ideal S256x512 .f32 := k0_pay4 (F := Ideal) (iblk m c 0 t) (iblk m c 1 t) (queryCols (iblk m c 2 t)) (iblk m c 6 t)
def normedBlock : FVec Ideal S256x512 .f32 := k0_pay8 (F := Ideal) (k0_pay2 (F := Ideal) (iblk m c 0 t) (iblk m c 1 t)) (keyCols (iblk m c 2 t)) (iblk m c 6 t) (iblk m c 4 t)
def queriesBlock : Vec Ideal S1x256x512 .bf16 := k0_pay6 (F := Ideal) (featureBlock m c t) (rootBlock m c t) (iblk m c 3 t)
def turnedBlock : Vec Ideal S512x256 .bf16 := k0_pay7 (F := Ideal) (featureBlock m c t) (rootBlock m c t) (iblk m c 3 t)
def keysBlock : Vec Ideal S1x256x512 .bf16 := k0_pay12 (F := Ideal) (normedBlock m c t)
def pairsBlock : Vec Ideal S1x256x1024 .f32 := View.canon [⟨highHalf, k0_pay11 (F := Ideal) (k0_pay2 (F := Ideal) (iblk m c 0 t) (iblk m c 1 t)) (valueCols (iblk m c 2 t))⟩, ⟨lowHalf, k0_pay10 (F := Ideal) (normedBlock m c t)⟩]

/-- The queries' features scaled and the keys' normed, -/
theorem scaledBlock_apply (r : Fin 256) (e : Fin 512) : featureBlock m c t (ix2 r e) * rootBlock m c t (ix2 r e)
    = tableScaled (fun f => feature (argX m c) (argG m c) (argW m c) (seq t) (row t r) (queryCol f)) same e := by
  unfold featureBlock rootBlock
  rw [scaled_apply]
  simp only [block_row, queryCols_apply, block_w, block_a]
  rfl
theorem normedBlock_apply (r : Fin 256) (e : Fin 512) : normedBlock m c t (ix2 r e) = keyAt m c (seq t) (row t r) e := by
  unfold normedBlock keyAt
  rw [normed_apply, block_k]
  simp only [block_row, keyCols_apply, block_w, block_a]
  rfl

/-- the queries, -/
theorem queries_point (r : Fin 256) (e : Fin 512) : queriesBlock m c t (ix3 0 r e) = queries m c (ix3 (seq t) (row t r) e) := by
  unfold queriesBlock
  rw [queries_apply, scaledBlock_apply, block_q]
  rfl
theorem turned_point (r : Fin 256) (e : Fin 512) (n : Fin 16384) (hn : n.val = 256 * t.val + r.val) :
    turnedBlock m c t (ix2 e r) = turned m c (ix2 e n) := by
  have hs : seq t = seqOf n := Fin.ext (by show t.val / 32 = n.val / 8192; omega)
  have hr : row t r = rowOf n := Fin.ext (by show 256 * (t.val % 32) + r.val = n.val % 8192; omega)
  unfold turnedBlock
  rw [turned_apply, scaledBlock_apply, block_q, hs, hr]
  rfl
/-- the keys, -/
theorem keys_point (r : Fin 256) (e : Fin 512) : keysBlock m c t (ix3 0 r e) = keys m c (ix3 (seq t) (row t r) e) := by
  unfold keysBlock
  rw [keys_apply, normedBlock_apply]
  rfl
/-- and keys and values. -/
theorem pairs_point (r : Fin 256) (f : Fin 1024) : pairsBlock m c t (ix3 0 r f) = pairs m c (ix3 (seq t) (row t r) f) := by
  show _ = pairAt m c (seq t) (row t r) f
  unfold pairsBlock
  rcases halves f with ⟨e, rfl⟩ | ⟨e, rfl⟩
  · rw [low_half, low_apply, normedBlock_apply, pairAt_low]
  · rw [high_half, high_apply, pairAt_high]
    simp only [block_row, valueCols_apply, block_w]
    rfl

/-- Point `t` writes its block of the queries' array, -/
theorem flushed_queries : (dats m 0 c).flushed 8 t = ((cfg0.win 8).blk t).view.read (Elt Ideal) (queries m c) := by
  have hp : (dats m 0 c).flushed 8 t = (cfg0.win 8).cut (grid0.coords t) (queriesBlock m c t) := by
    by_cases h0 : t.val % 32 = 0
    · rw [Value.flushed8_A m c t h0, queries_A]; rfl
    · rw [Value.flushed8_B m c t h0, queries_B]; rfl
  rw [hp]
  obtain ⟨i0, i1, i2⟩ := index8 t
  funext y
  have hy0 : (y 0).val < 1 := (y 0).isLt
  have hy1 : (y 1).val < 256 := (y 1).isLt
  have hy2 : (y 2).val < 512 := (y 2).isLt
  have hy : (cfg0.win 8).xinj (grid0.coords t) y = (ix3 (n0 := 1) (n1 := 256) (n2 := 512) 0 ⟨(y 1).val, hy1⟩ ⟨(y 2).val, hy2⟩) := by
    funext a; apply Fin.ext
    match a with
    | ⟨0, _⟩ => show (y 0).val = 0; omega
    | ⟨1, _⟩ => rfl
    | ⟨2, _⟩ => rfl
  have he : ((cfg0.win 8).blk t).view.emb y = (ix3 (n0 := 2) (n1 := 8192) (n2 := 512) (seq t) (row t ⟨(y 1).val, hy1⟩) ⟨(y 2).val, hy2⟩) := by
    funext a; apply Fin.ext
    match a with
    | ⟨0, _⟩ => show win0_8.index t (0 : Fin 3) * 1 + 1 * (y 0).val = t.val / 32; rw [i0]; omega
    | ⟨1, _⟩ => show win0_8.index t (1 : Fin 3) * 256 + 1 * (y 1).val = 256 * (t.val % 32) + (y 1).val; rw [i1]; omega
    | ⟨2, _⟩ => show win0_8.index t (2 : Fin 3) * 512 + 1 * (y 2).val = (y 2).val; rw [i2]; omega
  show queriesBlock m c t ((cfg0.win 8).xinj (grid0.coords t) y) = queries m c (((cfg0.win 8).blk t).view.emb y)
  rw [hy, he, queries_point]

/-- of the keys' and values', -/
theorem flushed_pairs : (dats m 0 c).flushed 9 t = ((cfg0.win 9).blk t).view.read (Elt Ideal) (pairs m c) := by
  have hp : (dats m 0 c).flushed 9 t = (cfg0.win 9).cut (grid0.coords t) (pairsBlock m c t) := by
    by_cases h0 : t.val % 32 = 0
    · rw [Value.flushed9_A m c t h0, pairs_A]; rfl
    · rw [Value.flushed9_B m c t h0, pairs_B]; rfl
  rw [hp]
  obtain ⟨i0, i1, i2⟩ := index9 t
  funext y
  have hy0 : (y 0).val < 1 := (y 0).isLt
  have hy1 : (y 1).val < 256 := (y 1).isLt
  have hy2 : (y 2).val < 1024 := (y 2).isLt
  have hy : (cfg0.win 9).xinj (grid0.coords t) y = (ix3 (n0 := 1) (n1 := 256) (n2 := 1024) 0 ⟨(y 1).val, hy1⟩ ⟨(y 2).val, hy2⟩) := by
    funext a; apply Fin.ext
    match a with
    | ⟨0, _⟩ => show (y 0).val = 0; omega
    | ⟨1, _⟩ => rfl
    | ⟨2, _⟩ => rfl
  have he : ((cfg0.win 9).blk t).view.emb y = (ix3 (n0 := 2) (n1 := 8192) (n2 := 1024) (seq t) (row t ⟨(y 1).val, hy1⟩) ⟨(y 2).val, hy2⟩) := by
    funext a; apply Fin.ext
    match a with
    | ⟨0, _⟩ => show win0_9.index t (0 : Fin 3) * 1 + 1 * (y 0).val = t.val / 32; rw [i0]; omega
    | ⟨1, _⟩ => show win0_9.index t (1 : Fin 3) * 256 + 1 * (y 1).val = 256 * (t.val % 32) + (y 1).val; rw [i1]; omega
    | ⟨2, _⟩ => show win0_9.index t (2 : Fin 3) * 1024 + 1 * (y 2).val = (y 2).val; rw [i2]; omega
  show pairsBlock m c t ((cfg0.win 9).xinj (grid0.coords t) y) = pairs m c (((cfg0.win 9).blk t).view.emb y)
  rw [hy, he, pairs_point]

/-- of the keys', -/
theorem flushed_keys : (dats m 0 c).flushed 10 t = ((cfg0.win 10).blk t).view.read (Elt Ideal) (keys m c) := by
  have hp : (dats m 0 c).flushed 10 t = (cfg0.win 10).cut (grid0.coords t) (keysBlock m c t) := by
    by_cases h0 : t.val % 32 = 0
    · rw [Value.flushed10_A m c t h0, keys_A]; rfl
    · rw [Value.flushed10_B m c t h0, keys_B]; rfl
  rw [hp]
  obtain ⟨i0, i1, i2⟩ := index10 t
  funext y
  have hy0 : (y 0).val < 1 := (y 0).isLt
  have hy1 : (y 1).val < 256 := (y 1).isLt
  have hy2 : (y 2).val < 512 := (y 2).isLt
  have hy : (cfg0.win 10).xinj (grid0.coords t) y = (ix3 (n0 := 1) (n1 := 256) (n2 := 512) 0 ⟨(y 1).val, hy1⟩ ⟨(y 2).val, hy2⟩) := by
    funext a; apply Fin.ext
    match a with
    | ⟨0, _⟩ => show (y 0).val = 0; omega
    | ⟨1, _⟩ => rfl
    | ⟨2, _⟩ => rfl
  have he : ((cfg0.win 10).blk t).view.emb y = (ix3 (n0 := 2) (n1 := 8192) (n2 := 512) (seq t) (row t ⟨(y 1).val, hy1⟩) ⟨(y 2).val, hy2⟩) := by
    funext a; apply Fin.ext
    match a with
    | ⟨0, _⟩ => show win0_10.index t (0 : Fin 3) * 1 + 1 * (y 0).val = t.val / 32; rw [i0]; omega
    | ⟨1, _⟩ => show win0_10.index t (1 : Fin 3) * 256 + 1 * (y 1).val = 256 * (t.val % 32) + (y 1).val; rw [i1]; omega
    | ⟨2, _⟩ => show win0_10.index t (2 : Fin 3) * 512 + 1 * (y 2).val = (y 2).val; rw [i2]; omega
  show keysBlock m c t ((cfg0.win 10).xinj (grid0.coords t) y) = keys m c (((cfg0.win 10).blk t).view.emb y)
  rw [hy, he, keys_point]

/-- and of the queries' transposed. -/
theorem flushed_turned : (dats m 0 c).flushed 14 t = ((cfg0.win 14).blk t).view.read (Elt Ideal) (turned m c) := by
  have hp : (dats m 0 c).flushed 14 t = (cfg0.win 14).cut (grid0.coords t) (turnedBlock m c t) := by
    by_cases h0 : t.val % 32 = 0
    · rw [Value.flushed14_A m c t h0, turned_A]; rfl
    · rw [Value.flushed14_B m c t h0, turned_B]; rfl
  rw [hp]
  obtain ⟨i0, i1⟩ := index14 t
  have ht : t.val < 64 := lt_of_lt_of_eq t.isLt N_0
  funext y
  have hy0 : (y 0).val < 512 := (y 0).isLt
  have hy1 : (y 1).val < 256 := (y 1).isLt
  have hy : (cfg0.win 14).xinj (grid0.coords t) y = (ix2 (n0 := 512) (n1 := 256) ⟨(y 0).val, hy0⟩ ⟨(y 1).val, hy1⟩) := by
    funext a; apply Fin.ext
    match a with
    | ⟨0, _⟩ => rfl
    | ⟨1, _⟩ => rfl
  have he : ((cfg0.win 14).blk t).view.emb y = (ix2 (n0 := 512) (n1 := 16384) ⟨(y 0).val, hy0⟩ ⟨256 * t.val + (y 1).val, by omega⟩) := by
    funext a; apply Fin.ext
    match a with
    | ⟨0, _⟩ => show win0_14.index t (0 : Fin 2) * 512 + 1 * (y 0).val = (y 0).val; rw [i0]; omega
    | ⟨1, _⟩ => show win0_14.index t (1 : Fin 2) * 256 + 1 * (y 1).val = 256 * t.val + (y 1).val; rw [i1]; omega
  show turnedBlock m c t ((cfg0.win 14).xinj (grid0.coords t) y)
    = turned m c (((cfg0.win 14).blk t).view.emb y)
  rw [hy, he]
  exact turned_point m c t _ _ _ rfl

/-- Every entry of each array lies in some point's block. -/
theorem covered_queries (i : S2x8192x512.Idx) : ∃ t : Fin cfg0.N, (cfg0.win 8).flush t = true ∧ i ∈ ((cfg0.win 8).blk t).view.set := by
  have h0 : (i 0).val < 2 := (i 0).isLt
  have h1 : (i 1).val < 8192 := (i 1).isLt
  have h2 : (i 2).val < 512 := (i 2).isLt
  have hf : ∀ t : Fin cfg0.N, (cfg0.win 8).flush t = true := (by decide +kernel : ∀ t : Fin grid0.N, _)
  have ht : 32 * (i 0).val + (i 1).val / 256 < 64 := by omega
  refine ⟨⟨32 * (i 0).val + (i 1).val / 256, lt_of_lt_of_eq ht N_0.symm⟩, hf _, ?_⟩
  obtain ⟨e0, e1, e2⟩ := index8 ⟨32 * (i 0).val + (i 1).val / 256, lt_of_lt_of_eq ht N_0.symm⟩
  dsimp only at e0 e1
  generalize (⟨32 * (i 0).val + (i 1).val / 256, _⟩ : Fin cfg0.N) = t at *
  show i ∈ ((View.whole main_v21_0).slice (win0_8.rect t)).set
  rw [View.set_slice_whole, Rect.mem_set_unit]
  intro a
  match a with
  | ⟨0, _⟩ => show win0_8.index t (0 : Fin 3) * 1 ≤ (i 0).val ∧ (i 0).val < win0_8.index t (0 : Fin 3) * 1 + 1; rw [e0]; omega
  | ⟨1, _⟩ => show win0_8.index t (1 : Fin 3) * 256 ≤ (i 1).val ∧ (i 1).val < win0_8.index t (1 : Fin 3) * 256 + 256; rw [e1]; omega
  | ⟨2, _⟩ => show win0_8.index t (2 : Fin 3) * 512 ≤ (i 2).val ∧ (i 2).val < win0_8.index t (2 : Fin 3) * 512 + 512; rw [e2]; omega
theorem covered_pairs (i : S2x8192x1024.Idx) : ∃ t : Fin cfg0.N, (cfg0.win 9).flush t = true ∧ i ∈ ((cfg0.win 9).blk t).view.set := by
  have h0 : (i 0).val < 2 := (i 0).isLt
  have h1 : (i 1).val < 8192 := (i 1).isLt
  have h2 : (i 2).val < 1024 := (i 2).isLt
  have hf : ∀ t : Fin cfg0.N, (cfg0.win 9).flush t = true := (by decide +kernel : ∀ t : Fin grid0.N, _)
  have ht : 32 * (i 0).val + (i 1).val / 256 < 64 := by omega
  refine ⟨⟨32 * (i 0).val + (i 1).val / 256, lt_of_lt_of_eq ht N_0.symm⟩, hf _, ?_⟩
  obtain ⟨e0, e1, e2⟩ := index9 ⟨32 * (i 0).val + (i 1).val / 256, lt_of_lt_of_eq ht N_0.symm⟩
  dsimp only at e0 e1
  generalize (⟨32 * (i 0).val + (i 1).val / 256, _⟩ : Fin cfg0.N) = t at *
  show i ∈ ((View.whole main_v21_1).slice (win0_9.rect t)).set
  rw [View.set_slice_whole, Rect.mem_set_unit]
  intro a
  match a with
  | ⟨0, _⟩ => show win0_9.index t (0 : Fin 3) * 1 ≤ (i 0).val ∧ (i 0).val < win0_9.index t (0 : Fin 3) * 1 + 1; rw [e0]; omega
  | ⟨1, _⟩ => show win0_9.index t (1 : Fin 3) * 256 ≤ (i 1).val ∧ (i 1).val < win0_9.index t (1 : Fin 3) * 256 + 256; rw [e1]; omega
  | ⟨2, _⟩ => show win0_9.index t (2 : Fin 3) * 1024 ≤ (i 2).val ∧ (i 2).val < win0_9.index t (2 : Fin 3) * 1024 + 1024; rw [e2]; omega
theorem covered_keys (i : S2x8192x512.Idx) : ∃ t : Fin cfg0.N, (cfg0.win 10).flush t = true ∧ i ∈ ((cfg0.win 10).blk t).view.set := by
  have h0 : (i 0).val < 2 := (i 0).isLt
  have h1 : (i 1).val < 8192 := (i 1).isLt
  have h2 : (i 2).val < 512 := (i 2).isLt
  have hf : ∀ t : Fin cfg0.N, (cfg0.win 10).flush t = true := (by decide +kernel : ∀ t : Fin grid0.N, _)
  have ht : 32 * (i 0).val + (i 1).val / 256 < 64 := by omega
  refine ⟨⟨32 * (i 0).val + (i 1).val / 256, lt_of_lt_of_eq ht N_0.symm⟩, hf _, ?_⟩
  obtain ⟨e0, e1, e2⟩ := index10 ⟨32 * (i 0).val + (i 1).val / 256, lt_of_lt_of_eq ht N_0.symm⟩
  dsimp only at e0 e1
  generalize (⟨32 * (i 0).val + (i 1).val / 256, _⟩ : Fin cfg0.N) = t at *
  show i ∈ ((View.whole main_v21_2).slice (win0_10.rect t)).set
  rw [View.set_slice_whole, Rect.mem_set_unit]
  intro a
  match a with
  | ⟨0, _⟩ => show win0_10.index t (0 : Fin 3) * 1 ≤ (i 0).val ∧ (i 0).val < win0_10.index t (0 : Fin 3) * 1 + 1; rw [e0]; omega
  | ⟨1, _⟩ => show win0_10.index t (1 : Fin 3) * 256 ≤ (i 1).val ∧ (i 1).val < win0_10.index t (1 : Fin 3) * 256 + 256; rw [e1]; omega
  | ⟨2, _⟩ => show win0_10.index t (2 : Fin 3) * 512 ≤ (i 2).val ∧ (i 2).val < win0_10.index t (2 : Fin 3) * 512 + 512; rw [e2]; omega
theorem covered_turned (i : S512x16384.Idx) : ∃ t : Fin cfg0.N, (cfg0.win 14).flush t = true ∧ i ∈ ((cfg0.win 14).blk t).view.set := by
  have h0 : (i 0).val < 512 := (i 0).isLt
  have h1 : (i 1).val < 16384 := (i 1).isLt
  have hf : ∀ t : Fin cfg0.N, (cfg0.win 14).flush t = true := (by decide +kernel : ∀ t : Fin grid0.N, _)
  have ht : (i 1).val / 256 < 64 := by omega
  refine ⟨⟨(i 1).val / 256, lt_of_lt_of_eq ht N_0.symm⟩, hf _, ?_⟩
  obtain ⟨e0, e1⟩ := index14 ⟨(i 1).val / 256, lt_of_lt_of_eq ht N_0.symm⟩
  dsimp only at e1
  generalize (⟨(i 1).val / 256, _⟩ : Fin cfg0.N) = t at *
  show i ∈ ((View.whole main_v21_6).slice (win0_14.rect t)).set
  rw [View.set_slice_whole, Rect.mem_set_unit]
  intro a
  match a with
  | ⟨0, _⟩ => show win0_14.index t (0 : Fin 2) * 512 ≤ (i 0).val ∧ (i 0).val < win0_14.index t (0 : Fin 2) * 512 + 512; rw [e0]; omega
  | ⟨1, _⟩ => show win0_14.index t (1 : Fin 2) * 256 ≤ (i 1).val ∧ (i 1).val < win0_14.index t (1 : Fin 2) * 256 + 256; rw [e1]; omega

/-- The kernel runs and leaves the seven arrays named. -/
theorem run : θ_run defs (onTc (τ := τ) (main (F := Ideal))) ⟨m, fun _ => 0, ρ⟩ fun r => ∀ c : Dev nD,
      r.2.mem ((c : Thread nD τ).loc main_v21_0) = queries m c
      ∧ r.2.mem ((c : Thread nD τ).loc main_v21_1) = pairs m c
      ∧ r.2.mem ((c : Thread nD τ).loc main_v21_2) = keys m c
      ∧ r.2.mem ((c : Thread nD τ).loc main_v21_3) = gates m c
      ∧ r.2.mem ((c : Thread nD τ).loc main_v21_5) = inputs m c
      ∧ r.2.mem ((c : Thread nD τ).loc main_v21_6) = turned m c
      ∧ r.2.mem ((c : Thread nD τ).loc main_v21_7) = values m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  θ_run_mono (Value.run_blocks m ρ) fun _ h c => by
    obtain ⟨hq, hp, hk, hg, _, hu, ht, hv, hargs⟩ := h c
    exact ⟨hq.trans ((dats m 0 c).arrAt_eq_of_cover 8 _ (fun t _ => flushed_queries m c t) covered_queries),
      hp.trans ((dats m 0 c).arrAt_eq_of_cover 9 _ (fun t _ => flushed_pairs m c t) covered_pairs),
      hk.trans ((dats m 0 c).arrAt_eq_of_cover 10 _ (fun t _ => flushed_keys m c t) covered_keys),
      hg.trans ((dats m 0 c).arrAt_eq_of_cover 11 _ (fun t _ => flushed_gates m c t) covered_gates),
      hu.trans ((dats m 0 c).arrAt_eq_of_cover 13 _ (fun t _ => flushed_inputs m c t) covered_inputs),
      ht.trans ((dats m 0 c).arrAt_eq_of_cover 14 _ (fun t _ => flushed_turned m c t) covered_turned),
      hv.trans ((dats m 0 c).arrAt_eq_of_cover 15 _ (fun t _ => flushed_values m c t) covered_values), hargs⟩

end Cert.Kernel6Ideal.Project

end
-- ==== Proof.OddHeadsRef.lean ====
/- The odd layers' queries and keys in the reference: the features regrouped by head and each head's normed over its own. Where
   the gain and the weights of both are finite the kernel's table gives the same norm. -/
module

public import proofs.«01_k».proof.Proof.OddHeads
public import proofs.«01_k».proof.Proof.OddRef
public import proofs.«01_k».proof.Proof.Gen.Pre_head_weights_finite

@[expose] public section

noncomputable section

namespace Cert.Reference6Ideal.Reading

open Idealize.ShloMosaic Cert.Reference6Ideal Cert.Reference6Ideal.Read Cert.ReferenceIdeal.Reading Idealize.SL.Sem
open Cert.Kernel4Ideal.Body (scaled)
open Cert.Kernel6Ideal.Body (project tableScaled queryCol keyCol valueCol lowCol highCol)
open Cert.Kernel6Ideal.Project (feature seqOf rowOf place same)
open Cert.GroupNorm (Real')
open Cert.Reference4Ideal.Reading (real_of_word)

variable (x0 : (⟨S2x8192x1024, .f32⟩ : BufTy).Contents (Elt Ideal)) (x1 : (⟨S1024, .f32⟩ : BufTy).Contents (Elt Ideal))
  (x2 : (⟨S1024x2688, .f32⟩ : BufTy).Contents (Elt Ideal)) (x3 x4 : (⟨S64, .f32⟩ : BufTy).Contents (Elt Ideal))
  (x5 : (⟨S128, .f32⟩ : BufTy).Contents (Elt Ideal)) (b : Fin 2) (r : Fin 8192)

/-- The features of a head, and a feature's head. -/
def inHead (h : Fin 8) (d : Fin 64) : Fin 512 := ⟨64 * h.val + d.val, by omega⟩
def head (e : Fin 512) : Fin 8 := ⟨e.val / 64, by omega⟩
theorem head_place (e : Fin 512) : inHead (head e) (place e) = e := Fin.ext (by show 64 * (e.val / 64) + e.val % 64 = e.val; omega)

/-- A head's feature over the root mean square of the head. -/
def headScaled (v : Fin 512 → EReal) (h : Fin 8) (d : Fin 64) : EReal :=
  v (inHead h d) * Ideal.rsqrt (Ideal.div (∑ k : Fin 64, v (inHead h k) * v (inHead h k)) (Ideal.ofBits .f32 0x42800000#32)
    + Ideal.ofBits .f32 0x358637BD#32)

/-- The queries' features by head, -/
theorem query_head (h : Fin 8) (d : Fin 64) : val_main_v17 (F := Ideal) x0 x1 x2 (ix4 b r h d) = feature x0 x1 x2 b r (queryCol (inHead h d)) := by
  rw [val_main_v17_apply, val_main_v14_apply, ix3_ext (idx_main_v14 (idx_main_v17 (ix4 b r h d))) b r (queryCol (inHead h d))
    (by show (((b.val * 8192 + r.val) * 8 + h.val) * 64 + d.val) / 4194304 = b.val; omega)
    (by show (((b.val * 8192 + r.val) * 8 + h.val) * 64 + d.val) / 512 % 8192 = r.val; omega)
    (by show (((b.val * 8192 + r.val) * 8 + h.val) * 64 + d.val) % 512 = (64 * h.val + d.val); omega), feature_apply]
/-- a head's squares summed, -/
theorem query_squares (h : Fin 8) : val_main_v19 (F := Ideal) x0 x1 x2 (ix3 b r h)
    = ∑ k : Fin 64, feature x0 x1 x2 b r (queryCol (inHead h k)) * feature x0 x1 x2 b r (queryCol (inHead h k)) := by
  rw [val_main_v19_apply, val_main_cst_2_apply]
  refine (congrArg (fun z : EReal => z + _) zero_bits).trans ((zero_add _).trans (Finset.sum_congr rfl fun k _ => ?_))
  rw [ix4_ext (idx_main_v19 (ix3 b r h) k) b r h k rfl rfl rfl rfl, val_main_v18_apply, query_head]
  rfl
/-- and normed with their gains. -/
theorem query_normed (h : Fin 8) (d : Fin 64) : val_main_v30 (F := Ideal) x0 x1 x2 x3 (ix4 b r h d)
    = headScaled (fun e => feature x0 x1 x2 b r (queryCol e)) h d * x3 (ix1 d) := by
  have h1 : idx_main_v20 (idx_main_v26 (ix4 b r h d)) = ix3 b r h := ix3_ext _ b r h rfl rfl rfl
  have h2 : idx_main_v28 (idx_main_v29 (ix4 b r h d)) = ix1 d := by funext a; fin_cases a; rfl
  rw [val_main_v30_apply, val_main_v27_apply, query_head, val_main_v26_apply, val_main_v25_apply, val_main_v24_apply, val_main_v22_apply,
    val_main_v20_apply, h1, query_squares, val_main_v21_apply, val_main_cst_3_apply, val_main_v23_apply, val_main_cst_4_apply, val_main_v29_apply,
    val_main_v28_apply, h2]
  rfl
/-- In a row. -/
theorem query_row (e : Fin 512) : val_main_v31 (F := Ideal) x0 x1 x2 x3 (ix3 b r e)
    = headScaled (fun e => feature x0 x1 x2 b r (queryCol e)) (head e) (place e) * x3 (ix1 (place e)) := by
  rw [val_main_v31_apply, ix4_ext (idx_main_v31 (ix3 b r e)) b r (head e) (place e)
    (by show ((b.val * 8192 + r.val) * 512 + e.val) / 4194304 = b.val; omega)
    (by show ((b.val * 8192 + r.val) * 512 + e.val) / 512 % 8192 = r.val; omega)
    (by show ((b.val * 8192 + r.val) * 512 + e.val) / 64 % 8 = e.val / 64; omega)
    (by show ((b.val * 8192 + r.val) * 512 + e.val) % 64 = e.val % 64; omega), query_normed]

/-- The keys' features by head, -/
theorem key_head (h : Fin 8) (d : Fin 64) : val_main_v34 (F := Ideal) x0 x1 x2 (ix4 b r h d) = feature x0 x1 x2 b r (keyCol (inHead h d)) := by
  rw [val_main_v34_apply, val_main_v15_apply, ix3_ext (idx_main_v15 (idx_main_v34 (ix4 b r h d))) b r (keyCol (inHead h d))
    (by show (((b.val * 8192 + r.val) * 8 + h.val) * 64 + d.val) / 4194304 = b.val; omega)
    (by show (((b.val * 8192 + r.val) * 8 + h.val) * 64 + d.val) / 512 % 8192 = r.val; omega)
    (by show 512 + (((b.val * 8192 + r.val) * 8 + h.val) * 64 + d.val) % 512 = 512 + (64 * h.val + d.val); omega), feature_apply]
/-- a head's squares summed, -/
theorem key_squares (h : Fin 8) : val_main_v36 (F := Ideal) x0 x1 x2 (ix3 b r h)
    = ∑ k : Fin 64, feature x0 x1 x2 b r (keyCol (inHead h k)) * feature x0 x1 x2 b r (keyCol (inHead h k)) := by
  rw [val_main_v36_apply, val_main_cst_6_apply]
  refine (congrArg (fun z : EReal => z + _) zero_bits).trans ((zero_add _).trans (Finset.sum_congr rfl fun k _ => ?_))
  rw [ix4_ext (idx_main_v36 (ix3 b r h) k) b r h k rfl rfl rfl rfl, val_main_v35_apply, key_head]
  rfl
/-- and normed with their gains. -/
theorem key_normed (h : Fin 8) (d : Fin 64) : val_main_v47 (F := Ideal) x0 x1 x2 x4 (ix4 b r h d)
    = headScaled (fun e => feature x0 x1 x2 b r (keyCol e)) h d * x4 (ix1 d) := by
  have h1 : idx_main_v37 (idx_main_v43 (ix4 b r h d)) = ix3 b r h := ix3_ext _ b r h rfl rfl rfl
  have h2 : idx_main_v45 (idx_main_v46 (ix4 b r h d)) = ix1 d := by funext a; fin_cases a; rfl
  rw [val_main_v47_apply, val_main_v44_apply, key_head, val_main_v43_apply, val_main_v42_apply, val_main_v41_apply, val_main_v39_apply,
    val_main_v37_apply, h1, key_squares, val_main_v38_apply, val_main_cst_7_apply, val_main_v40_apply, val_main_cst_8_apply, val_main_v46_apply,
    val_main_v45_apply, h2]
  rfl
/-- In a row. -/
theorem key_row (e : Fin 512) : val_main_v48 (F := Ideal) x0 x1 x2 x4 (ix3 b r e)
    = headScaled (fun e => feature x0 x1 x2 b r (keyCol e)) (head e) (place e) * x4 (ix1 (place e)) := by
  rw [val_main_v48_apply, ix4_ext (idx_main_v48 (ix3 b r e)) b r (head e) (place e)
    (by show ((b.val * 8192 + r.val) * 512 + e.val) / 4194304 = b.val; omega)
    (by show ((b.val * 8192 + r.val) * 512 + e.val) / 512 % 8192 = r.val; omega)
    (by show ((b.val * 8192 + r.val) * 512 + e.val) / 64 % 8 = e.val / 64; omega)
    (by show ((b.val * 8192 + r.val) * 512 + e.val) % 64 = e.val % 64; omega), key_normed]

/-! ## The arrays -/

/-- The queries, an eighth of them, -/
theorem eighth_apply (e : Fin 512) : val_main_v33 (F := Ideal) x0 x1 x2 x3 (ix3 b r e)
    = headScaled (fun e => feature x0 x1 x2 b r (queryCol e)) (head e) (place e) * x3 (ix1 (place e)) * Ideal.ofBits .f32 0x3E000000#32 := by
  rw [val_main_v33_apply, query_row, val_main_v32_apply, val_main_cst_5_apply]
  rfl
theorem queries_apply (e : Fin 512) : val_main_v63 (F := Ideal) x0 x1 x2 x3 (ix3 b r e)
    = headScaled (fun e => feature x0 x1 x2 b r (queryCol e)) (head e) (place e) * x3 (ix1 (place e)) * Ideal.ofBits .f32 0x3E000000#32 := by
  rw [val_main_v63_apply, ← eighth_apply]
  rfl
/-- a column for each row, -/
theorem turned_apply (e : Fin 512) (n : Fin 16384) : val_main_v68 (F := Ideal) x0 x1 x2 x3 (ix2 e n)
    = headScaled (fun e => feature x0 x1 x2 (seqOf n) (rowOf n) (queryCol e)) (head e) (place e) * x3 (ix1 (place e)) * Ideal.ofBits .f32 0x3E000000#32 := by
  rw [val_main_v68_apply, val_main_v67_apply, val_main_v66_apply, ix3_ext (idx_main_v67 (idx_main_v68 (ix2 e n)))
    (seqOf n) (rowOf n) e (by show (n.val * 512 + e.val) / 4194304 = n.val / 8192; omega)
    (by show (n.val * 512 + e.val) / 512 % 8192 = n.val % 8192; omega)
    (by show (n.val * 512 + e.val) % 512 = e.val; omega), ← eighth_apply]
  rfl
/-- the keys, -/
theorem keys_apply (e : Fin 512) : val_main_v65 (F := Ideal) x0 x1 x2 x4 (ix3 b r e)
    = headScaled (fun e => feature x0 x1 x2 b r (keyCol e)) (head e) (place e) * x4 (ix1 (place e)) := by
  rw [val_main_v65_apply, ← key_row]
  rfl
/-- and keys and values beside each other. -/
theorem pairs_low (e : Fin 512) : val_main_v64 (F := Ideal) x0 x1 x2 x4 (ix3 b r (lowCol e))
    = headScaled (fun e => feature x0 x1 x2 b r (keyCol e)) (head e) (place e) * x4 (ix1 (place e)) := by
  rw [← key_row]
  exact concatenate_pair_apply_left (t := S2x8192x1024) (s₁ := S2x8192x512) (s₂ := S2x8192x512) 2 _ _ _ (ix3 b r (lowCol e)) rfl (ix3 b r e) fun a => by
    fin_cases a <;> rfl
theorem pairs_high (e : Fin 512) : val_main_v64 (F := Ideal) x0 x1 x2 x4 (ix3 b r (highCol e)) = feature x0 x1 x2 b r (valueCol e) := by
  have h : val_main_v64 (F := Ideal) x0 x1 x2 x4 (ix3 b r (highCol e)) = val_main_v16 (F := Ideal) x0 x1 x2 (ix3 b r e) :=
    concatenate_pair_apply_right (t := S2x8192x1024) (s₁ := S2x8192x512) (s₂ := S2x8192x512) 2 _ _ _ (ix3 b r (highCol e)) rfl rfl (ix3 b r e)
      (fun a ha => by
        fin_cases a
        · rfl
        · rfl
        · exact absurd rfl ha)
      (by show e.val + 512 = 512 + e.val; omega)
  rw [h, val_main_v16_apply, ix3_ext (idx_main_v16 (ix3 b r e)) b r (valueCol e) rfl rfl rfl, feature_apply]

/-! ## The two norms -/

/-- On real features the table gives the head's norm. -/
theorem tableScaled_eq (v : Fin 512 → EReal) (hv : ∀ e, Real' (v e)) (e : Fin 512) :
    tableScaled v same e = headScaled v (head e) (place e) := by
  have hs : (∑ k : Fin 512, v k * v k * same k e) + (∑ k : Fin 512, (v k * v k - v k * v k) * same k e)
      = ∑ k : Fin 64, v (inHead (head e) k) * v (inHead (head e) k) := Cert.GroupNorm.squares_sum (H := 8) v hv (head e)
  unfold tableScaled headScaled
  rw [hs, Cert.GroupNorm.mul_64th, head_place]

/-- The gain finite and a column of the weight finite: the row's feature is real. -/
theorem feature_real (hg : ∀ k : Fin 1024, Real' (x1 (ix1 k))) (f : Fin 2688) (hw : ∀ k : Fin 1024, Real' (x2 (ix2 k f))) :
    Real' (feature x0 x1 x2 b r f) := by
  unfold feature project scaled
  refine Cert.GroupNorm.real_sum _ _ fun k _ => Real'.mul (Real'.mul ?_ (hg k)) (hw k)
  obtain ⟨p, hp, ep⟩ := Cert.GroupNorm.eps_bits
  rw [Cert.GroupNorm.length_bits, ep]
  exact Cert.GroupNorm.scaled_real (fun j => x0 (ix3 b r j)) 1024 p (by norm_num) hp k

/-! ## The precondition -/

theorem gain_real (h : (Cert.Pre_head_weights_finite.fn (F := Ideal) x0 x1 x2 x3 x4 x5).1 = fun _ => 1#1) (k : Fin 1024) : Real' (x1 (ix1 k)) :=
  real_of_word _ (congrFun h (ix1 k))

theorem weights_real (h : (Cert.Pre_head_weights_finite.fn (F := Ideal) x0 x1 x2 x3 x4 x5).2 = fun _ => 1#1) (k e : Fin 1024) (f : Fin 2688)
    (hf : f.val = e.val) : Real' (x2 (ix2 k f)) := by
  have hs : extractStridedSlice Cert.Pre_head_weights_finite.S1024x1024 ![0, 0] x2 Cert.Pre_head_weights_finite.Gen.slices_S1024x2688_S1024x1024_0_0 (ix2 k e) = x2 (ix2 k f) := by
    obtain rfl : f = ⟨e.val, lt_trans e.isLt (by decide)⟩ := Fin.ext hf
    pointwise
  rw [← hs]
  exact real_of_word _ (congrFun h (ix2 k e))

/-- So a query's feature is real, and a key's. -/
theorem query_real (hg : (Cert.Pre_head_weights_finite.fn (F := Ideal) x0 x1 x2 x3 x4 x5).1 = fun _ => 1#1)
    (hw : (Cert.Pre_head_weights_finite.fn (F := Ideal) x0 x1 x2 x3 x4 x5).2 = fun _ => 1#1) (e : Fin 512) : Real' (feature x0 x1 x2 b r (queryCol e)) :=
  feature_real x0 x1 x2 b r (gain_real x0 x1 x2 x3 x4 x5 hg) _ fun k => weights_real x0 x1 x2 x3 x4 x5 hw k ⟨e.val, by omega⟩ _ rfl
theorem key_real (hg : (Cert.Pre_head_weights_finite.fn (F := Ideal) x0 x1 x2 x3 x4 x5).1 = fun _ => 1#1)
    (hw : (Cert.Pre_head_weights_finite.fn (F := Ideal) x0 x1 x2 x3 x4 x5).2 = fun _ => 1#1) (e : Fin 512) : Real' (feature x0 x1 x2 b r (keyCol e)) :=
  feature_real x0 x1 x2 b r (gain_real x0 x1 x2 x3 x4 x5 hg) _ fun k => weights_real x0 x1 x2 x3 x4 x5 hw k ⟨512 + e.val, by omega⟩ _ rfl

end Cert.Reference6Ideal.Reading

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Pre_key_weights_finite
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Pre_query_weights_finite
public import proofs.«01_k».proof.Proof.Gen.Pre_head_weights_finite
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Array
public import proofs.«01_k».proof.Proof.Fold
public import proofs.«01_k».proof.Proof.RefValue
public import proofs.«01_k».proof.Proof.FfnArray
public import proofs.«01_k».proof.Proof.FfnRef
public import proofs.«01_k».proof.Proof.OutProj
public import proofs.«01_k».proof.Proof.OutProjRef
public import proofs.«01_k».proof.Proof.MemKv
public import proofs.«01_k».proof.Proof.MemKvRef
public import proofs.«01_k».proof.Proof.Xattn
public import proofs.«01_k».proof.Proof.XattnRef
public import proofs.«01_k».proof.Proof.OddIn
public import proofs.«01_k».proof.Proof.OddRef
public import proofs.«01_k».proof.Proof.OddHeads
public import proofs.«01_k».proof.Proof.OddHeadsRef
public import Idealize.ShloMosaic.Adequacy
public import Idealize.ShloMosaic.Init

@[expose] public section

noncomputable section

namespace Cert.Proof

open Idealize.ShloMosaic Idealize.SL.Sem

/-- The three programs run, leave their arguments unchanged and every semaphore counter at zero. -/
theorem frame_kernel : Cert.quiescent_Kernel := fun m ρ _ => Cert.Kernel.Gen.frame m ρ
theorem frame_kernelIdeal : Cert.quiescent_KernelIdeal := fun m ρ _ => Cert.KernelIdeal.Gen.frame m ρ
theorem frame_referenceIdeal : Cert.quiescent_ReferenceIdeal := fun m ρ _ =>
  θ_run_mono (Cert.ReferenceIdeal.Value.run m ρ) fun _ h => ⟨fun c => (h c).2, Idealize.ShloMosaic.sem_eq_zero_of_no_sems (by decide) _⟩

/-- The mask named in the idealization is the kernel's. -/
theorem preserves : Cert.preserves_Kernel_KernelIdeal :=
  IdealRules.named_const.statement Cert.KernelIdeal.κ "mask" .f32 0xF149F2CA#32 ⊥ rfl

/-- The idealized kernel's result array is the reference's, on equal arguments. -/
theorem equation (m : (ℓ : Loc Cert.KernelIdeal.nD Cert.KernelIdeal.τ Cert.KernelIdeal.sig) → Buf (Elt Ideal) ℓ) (c : Dev Cert.KernelIdeal.nD) :
    Cert.KernelIdeal.Array.result m c
      = Cert.ReferenceIdeal.Read.val_main_v42 (F := Ideal) (Cert.KernelIdeal.Array.argQ m c) (Cert.KernelIdeal.Array.argK m c)
          (Cert.KernelIdeal.Array.argV m c) (Cert.KernelIdeal.Array.argC m c) := by
  have key : ∀ (b : Fin 2) (r : Fin 8192) (h : Fin 8) (d : Fin 64),
      Cert.KernelIdeal.Array.result m c (ix3 b r (Cert.Layer.lane h d))
        = Cert.ReferenceIdeal.Read.val_main_v42 (F := Ideal) (Cert.KernelIdeal.Array.argQ m c) (Cert.KernelIdeal.Array.argK m c)
          (Cert.KernelIdeal.Array.argV m c) (Cert.KernelIdeal.Array.argC m c) (ix3 b r (Cert.Layer.lane h d)) := fun b r h d =>
    (Cert.KernelIdeal.Array.result_apply m c b r h d).trans (Cert.ReferenceIdeal.Reading.result_apply _ _ _ _ b h r d).symm
  funext i
  have hi : i = ix3 (i 0) (i 1) (Cert.Layer.lane (Cert.KernelIdeal.Head.headOf (i 2)) (Cert.KernelIdeal.Head.placeOf (i 2))) := by
    funext a
    fin_cases a
    · rfl
    · rfl
    · exact (Cert.KernelIdeal.Head.lane_headOf (i 2)).symm
  rw [hi]
  exact key _ _ _ _

/-- Over the extended reals the two programs end with equal results. -/
theorem algebraic : Cert.algebraic_KernelIdeal_ReferenceIdeal := fun m ρ m' ρ' _ hagree =>
  ⟨Cert.KernelIdeal.Array.result m, Cert.KernelIdeal.Array.run m ρ,
    θ_run_mono (Cert.ReferenceIdeal.Value.run m' ρ') fun _ h c => ⟨(h c).1.trans (by
      obtain ⟨e0, e1, e2, e3⟩ := hagree c
      rw [equation m c, Cert.ReferenceIdeal.Read.val_main_v42_eq, e0, e1, e2, e3]
      rfl), (h c).2⟩⟩

/-! ## The feed-forward block -/

theorem frame_kernel2 : Cert.quiescent_Kernel2 := fun m ρ _ => Cert.Kernel2.Gen.frame m ρ
theorem frame_kernel2Ideal : Cert.quiescent_Kernel2Ideal := fun m ρ _ => Cert.Kernel2Ideal.Gen.frame m ρ
theorem frame_reference2Ideal : Cert.quiescent_Reference2Ideal := fun m ρ _ =>
  θ_run_mono (Cert.Reference2Ideal.Value.run m ρ) fun _ h => ⟨fun c => (h c).2, Idealize.ShloMosaic.sem_eq_zero_of_no_sems (by decide) _⟩

theorem equation2 (m : (ℓ : Loc Cert.Kernel2Ideal.nD Cert.Kernel2Ideal.τ Cert.Kernel2Ideal.sig) → Buf (Elt Ideal) ℓ) (c : Dev Cert.Kernel2Ideal.nD) :
    Cert.Kernel2Ideal.Value.G5 m c
      = Cert.Reference2Ideal.Read.val_main_v19 (F := Ideal) (Cert.Kernel2Ideal.Chunks.argY m c) (Cert.Kernel2Ideal.Chunks.argG m c)
          (Cert.Kernel2Ideal.Chunks.argU m c) (Cert.Kernel2Ideal.Chunks.argD m c) := by
  have key : ∀ (r : Fin 16384) (e : Fin 1024), Cert.Kernel2Ideal.Value.G5 m c (ix2 r e)
      = Cert.Reference2Ideal.Read.val_main_v19 (F := Ideal) (Cert.Kernel2Ideal.Chunks.argY m c) (Cert.Kernel2Ideal.Chunks.argG m c)
          (Cert.Kernel2Ideal.Chunks.argU m c) (Cert.Kernel2Ideal.Chunks.argD m c) (ix2 r e) := fun r e =>
    (Cert.Kernel2Ideal.Chunks.result_apply m c r e).trans (Cert.Reference2Ideal.Reading.result_apply _ _ _ _ r e).symm
  funext i
  rw [Cert.ReferenceIdeal.Reading.ix2_ext i (i 0) (i 1) rfl rfl]
  exact key _ _

theorem algebraic2 : Cert.algebraic_Kernel2Ideal_Reference2Ideal := fun m ρ m' ρ' _ hagree =>
  ⟨Cert.Kernel2Ideal.Value.G5 m, Cert.Kernel2Ideal.Value.run m ρ,
    θ_run_mono (Cert.Reference2Ideal.Value.run m' ρ') fun _ h c => ⟨(h c).1.trans (by
      obtain ⟨e0, e1, e2, e3⟩ := hagree c
      rw [equation2 m c, Cert.Reference2Ideal.Read.val_main_v19_eq, e0, e1, e2, e3]
      rfl), (h c).2⟩⟩

/-! ## The odd layer's output projection -/

theorem frame_kernel3 : Cert.quiescent_Kernel3 := fun m ρ _ => Cert.Kernel3.Gen.frame m ρ
theorem frame_kernel3Ideal : Cert.quiescent_Kernel3Ideal := fun m ρ _ => Cert.Kernel3Ideal.Gen.frame m ρ
theorem frame_reference3Ideal : Cert.quiescent_Reference3Ideal := fun m ρ _ =>
  θ_run_mono (Cert.Reference3Ideal.Value.run m ρ) fun _ h => ⟨fun c => (h c).2, Idealize.ShloMosaic.sem_eq_zero_of_no_sems (by decide) _⟩

theorem equation3 (m : (ℓ : Loc Cert.Kernel3Ideal.nD Cert.Kernel3Ideal.τ Cert.Kernel3Ideal.sig) → Buf (Elt Ideal) ℓ) (c : Dev Cert.Kernel3Ideal.nD) :
    Cert.Kernel3Ideal.Rows.result m c
      = Cert.Reference3Ideal.Read.val_main_v2 (F := Ideal) (Cert.Kernel3Ideal.Rows.argY m c) (Cert.Kernel3Ideal.Rows.argF m c)
          (Cert.Kernel3Ideal.Rows.argC m c) (Cert.Kernel3Ideal.Rows.argW m c) := by
  have key : ∀ (r : Fin 16384) (e : Fin 1024), Cert.Kernel3Ideal.Rows.result m c (ix2 r e)
      = Cert.Reference3Ideal.Read.val_main_v2 (F := Ideal) (Cert.Kernel3Ideal.Rows.argY m c) (Cert.Kernel3Ideal.Rows.argF m c)
          (Cert.Kernel3Ideal.Rows.argC m c) (Cert.Kernel3Ideal.Rows.argW m c) (ix2 r e) := fun r e =>
    (Cert.Reference3Ideal.Reading.result_apply _ _ _ _ r e).symm
  funext i
  rw [Cert.ReferenceIdeal.Reading.ix2_ext i (i 0) (i 1) rfl rfl]
  exact key _ _

theorem algebraic3 : Cert.algebraic_Kernel3Ideal_Reference3Ideal := fun m ρ m' ρ' _ hagree =>
  ⟨Cert.Kernel3Ideal.Rows.result m, Cert.Kernel3Ideal.Rows.run m ρ,
    θ_run_mono (Cert.Reference3Ideal.Value.run m' ρ') fun _ h c => ⟨(h c).1.trans (by
      obtain ⟨e0, e1, e2, e3⟩ := hagree c
      rw [equation3 m c, Cert.Reference3Ideal.Read.val_main_v2_eq, e0, e1, e2, e3]
      rfl), (h c).2⟩⟩

/-! ## The memory's keys and values -/

theorem frame_kernel4 : Cert.quiescent_Kernel4 := fun m ρ _ => Cert.Kernel4.Gen.frame m ρ
theorem frame_kernel4Ideal : Cert.quiescent_Kernel4Ideal := fun m ρ _ => Cert.Kernel4Ideal.Gen.frame m ρ
theorem frame_kernel4Ideal_pre : Cert.quiescent_Kernel4Ideal_pre_key_weights_finite := fun m ρ _ => Cert.Kernel4Ideal.Gen.frame m ρ
theorem frame_reference4Ideal : Cert.quiescent_Reference4Ideal := fun m ρ _ =>
  θ_run_mono (Cert.Reference4Ideal.Value.run m ρ) fun _ h => ⟨fun c => (h c).2, Idealize.ShloMosaic.sem_eq_zero_of_no_sems (by decide) _⟩
theorem frame_reference4Ideal_pre : Cert.quiescent_Reference4Ideal_pre_key_weights_finite := fun m ρ _ =>
  θ_run_mono (Cert.Reference4Ideal.Value.run m ρ) fun _ h => ⟨fun c => (h c).2, Idealize.ShloMosaic.sem_eq_zero_of_no_sems (by decide) _⟩

theorem equation4 (m : (ℓ : Loc Cert.Kernel4Ideal.nD Cert.Kernel4Ideal.τ Cert.Kernel4Ideal.sig) → Buf (Elt Ideal) ℓ)
    (hpre : Cert.Pre_Kernel4Ideal_key_weights_finite m) (c : Dev Cert.Kernel4Ideal.nD) :
    Cert.Kernel4Ideal.Memory.result m c
      = Cert.Reference4Ideal.Read.val_main_v36 (F := Ideal) (Cert.Kernel4Ideal.Memory.argX m c) (Cert.Kernel4Ideal.Memory.argG m c)
          (Cert.Kernel4Ideal.Memory.argW m c) (Cert.Kernel4Ideal.Memory.argN m c) := by
  have key : ∀ (b : Fin 2) (f : Fin 512) (r : Fin 256), Cert.Kernel4Ideal.Memory.entry m c b f r
      = Cert.Reference4Ideal.Read.val_main_v36 (F := Ideal) (Cert.Kernel4Ideal.Memory.argX m c) (Cert.Kernel4Ideal.Memory.argG m c)
          (Cert.Kernel4Ideal.Memory.argW m c) (Cert.Kernel4Ideal.Memory.argN m c) (ix3 b f r) := fun b f r => by
    rcases Cert.Kernel4Ideal.Memory.split f with ⟨e, rfl⟩ | ⟨e, rfl⟩
    · rw [Cert.Kernel4Ideal.Memory.entry_key, Cert.Reference4Ideal.Reading.result_key]
      exact Cert.Reference4Ideal.Reading.tableNormed_eq
        (fun e => Cert.Kernel4Ideal.Memory.memFeature (Cert.Kernel4Ideal.Memory.argX m c) (Cert.Kernel4Ideal.Memory.argG m c)
          (Cert.Kernel4Ideal.Memory.argW m c) b r (Cert.Kernel4Ideal.Body.keyCol e))
        (Cert.Reference4Ideal.Reading.feature_real _ _ _ b r
          (Cert.Reference4Ideal.Reading.gain_real _ _ _ _ (hpre c).1) (Cert.Reference4Ideal.Reading.weights_real _ _ _ _ (hpre c).2))
        (fun d => Cert.Kernel4Ideal.Memory.argN m c (ix1 d)) e
    · rw [Cert.Kernel4Ideal.Memory.entry_val, Cert.Reference4Ideal.Reading.result_val]
      rfl
  funext i
  rw [Cert.ReferenceIdeal.Reading.ix3_ext i (i 0) (i 1) (i 2) rfl rfl rfl]
  exact key _ _ _

theorem algebraic4 : Cert.algebraic_Kernel4Ideal_Reference4Ideal_pre_key_weights_finite := fun m ρ m' ρ' hpre hagree =>
  ⟨Cert.Kernel4Ideal.Memory.result m, Cert.Kernel4Ideal.Memory.run m ρ,
    θ_run_mono (Cert.Reference4Ideal.Value.run m' ρ') fun _ h c => ⟨(h c).1.trans (by
      obtain ⟨e0, e1, e2, e3⟩ := hagree c
      rw [equation4 m hpre c, Cert.Reference4Ideal.Read.val_main_v36_eq, e0, e1, e2, e3]
      rfl), (h c).2⟩⟩

/-! ## The attention to the memory -/

theorem frame_kernel5 : Cert.quiescent_Kernel5 := fun m ρ _ => Cert.Kernel5.Gen.frame m ρ
theorem frame_kernel5Ideal : Cert.quiescent_Kernel5Ideal := fun m ρ _ => Cert.Kernel5Ideal.Gen.frame m ρ
theorem frame_kernel5Ideal_pre : Cert.quiescent_Kernel5Ideal_pre_query_weights_finite := fun m ρ _ => Cert.Kernel5Ideal.Gen.frame m ρ
theorem frame_reference5Ideal : Cert.quiescent_Reference5Ideal := fun m ρ _ =>
  θ_run_mono (Cert.Reference5Ideal.Value.run m ρ) fun _ h => ⟨fun c => (h c).2, Idealize.ShloMosaic.sem_eq_zero_of_no_sems (by decide) _⟩
theorem frame_reference5Ideal_pre : Cert.quiescent_Reference5Ideal_pre_query_weights_finite := fun m ρ _ =>
  θ_run_mono (Cert.Reference5Ideal.Value.run m ρ) fun _ h => ⟨fun c => (h c).2, Idealize.ShloMosaic.sem_eq_zero_of_no_sems (by decide) _⟩

theorem equation5 (m : (ℓ : Loc Cert.Kernel5Ideal.nD Cert.Kernel5Ideal.τ Cert.Kernel5Ideal.sig) → Buf (Elt Ideal) ℓ)
    (hpre : Cert.Pre_Kernel5Ideal_query_weights_finite m) (c : Dev Cert.Kernel5Ideal.nD) :
    Cert.Kernel5Ideal.Attend.result m c
      = Cert.Reference5Ideal.Read.val_main_v52 (F := Ideal) (Cert.Kernel5Ideal.Attend.argX m c) (Cert.Kernel5Ideal.Attend.argM m c)
          (Cert.Kernel5Ideal.Attend.argG m c) (Cert.Kernel5Ideal.Attend.argQ m c) (Cert.Kernel5Ideal.Attend.argO m c)
          (Cert.Kernel5Ideal.Attend.argN m c) := by
  have key : ∀ (b : Fin 2) (r : Fin 8192) (k : Fin 1024), Cert.Kernel5Ideal.Attend.entry m c b r k
      = Cert.Reference5Ideal.Read.val_main_v52 (F := Ideal) (Cert.Kernel5Ideal.Attend.argX m c) (Cert.Kernel5Ideal.Attend.argM m c)
          (Cert.Kernel5Ideal.Attend.argG m c) (Cert.Kernel5Ideal.Attend.argQ m c) (Cert.Kernel5Ideal.Attend.argO m c)
          (Cert.Kernel5Ideal.Attend.argN m c) (ix3 b r k) := fun b r k => by
    have hs : Cert.Kernel5Ideal.Body.scoreK (Cert.Kernel5Ideal.Attend.rowNormed m c b r)
        (fun f j => Cert.Kernel5Ideal.Attend.argM m c (ix3 b f j)) = _ := Cert.Reference5Ideal.Reading.score_eq
      (Cert.Kernel5Ideal.Attend.rowQuery (Cert.Kernel5Ideal.Attend.argX m c) (Cert.Kernel5Ideal.Attend.argG m c)
        (Cert.Kernel5Ideal.Attend.argQ m c) b r)
      (Cert.Reference5Ideal.Reading.query_real _ _ _ b r
        (Cert.Reference5Ideal.Reading.gain_real _ _ _ _ _ _ (hpre c).1) (Cert.Reference5Ideal.Reading.weight_real _ _ _ _ _ _ (hpre c).2))
      (fun d => Cert.Kernel5Ideal.Attend.argN m c (ix1 d)) (fun f j => Cert.Kernel5Ideal.Attend.argM m c (ix3 b f j))
    rw [Cert.Reference5Ideal.Reading.result_apply]
    unfold Cert.Kernel5Ideal.Attend.entry
    rw [hs]
  funext i
  rw [Cert.ReferenceIdeal.Reading.ix3_ext i (i 0) (i 1) (i 2) rfl rfl rfl]
  exact key _ _ _

theorem algebraic5 : Cert.algebraic_Kernel5Ideal_Reference5Ideal_pre_query_weights_finite := fun m ρ m' ρ' hpre hagree =>
  ⟨Cert.Kernel5Ideal.Attend.result m, Cert.Kernel5Ideal.Attend.run m ρ,
    θ_run_mono (Cert.Reference5Ideal.Value.run m' ρ') fun _ h c => ⟨(h c).1.trans (by
      obtain ⟨e0, e1, e2, e3, e4, e5⟩ := hagree c
      rw [equation5 m hpre c, Cert.Reference5Ideal.Read.val_main_v52_eq, e0, e1, e2, e3, e4, e5]
      rfl), (h c).2⟩⟩

/-! ## The odd layer's projections -/

theorem frame_kernel6 : Cert.quiescent_Kernel6 := fun m ρ _ => Cert.Kernel6.Gen.frame m ρ
theorem frame_kernel6Ideal : Cert.quiescent_Kernel6Ideal := fun m ρ _ => Cert.Kernel6Ideal.Gen.frame m ρ
theorem frame_kernel6Ideal_pre : Cert.quiescent_Kernel6Ideal_pre_head_weights_finite := fun m ρ _ => Cert.Kernel6Ideal.Gen.frame m ρ
theorem frame_reference6Ideal : Cert.quiescent_Reference6Ideal := fun m ρ _ =>
  θ_run_mono (Cert.Reference6Ideal.Value.run m ρ) fun _ h => ⟨fun c => (h c).2.2.2.2.2.2.2, Idealize.ShloMosaic.sem_eq_zero_of_no_sems (by decide) _⟩
theorem frame_reference6Ideal_pre : Cert.quiescent_Reference6Ideal_pre_head_weights_finite := fun m ρ _ =>
  θ_run_mono (Cert.Reference6Ideal.Value.run m ρ) fun _ h => ⟨fun c => (h c).2.2.2.2.2.2.2, Idealize.ShloMosaic.sem_eq_zero_of_no_sems (by decide) _⟩

section
variable (m : (ℓ : Loc Cert.Kernel6Ideal.nD Cert.Kernel6Ideal.τ Cert.Kernel6Ideal.sig) → Buf (Elt Ideal) ℓ)
  (hpre : Cert.Pre_Kernel6Ideal_head_weights_finite m) (c : Dev Cert.Kernel6Ideal.nD)

include hpre in
/-- With the gain and the weights finite the table's norm of a query is the head's, -/
theorem query_norm (b : Fin 2) (r : Fin 8192) (e : Fin 512) : Cert.Kernel6Ideal.Project.queryAt m c b r e
    = Cert.Reference6Ideal.Reading.headScaled (fun e => Cert.Kernel6Ideal.Project.feature (Cert.Kernel6Ideal.Project.argX m c)
        (Cert.Kernel6Ideal.Project.argG m c) (Cert.Kernel6Ideal.Project.argW m c) b r (Cert.Kernel6Ideal.Body.queryCol e))
        (Cert.Reference6Ideal.Reading.head e) (Cert.Kernel6Ideal.Project.place e)
      * Cert.Kernel6Ideal.Project.argQ m c (ix1 (Cert.Kernel6Ideal.Project.place e)) * Ideal.ofBits .f32 0x3E000000#32 := by
  unfold Cert.Kernel6Ideal.Project.queryAt
  rw [Cert.Reference6Ideal.Reading.tableScaled_eq (fun e => Cert.Kernel6Ideal.Project.feature (Cert.Kernel6Ideal.Project.argX m c)
    (Cert.Kernel6Ideal.Project.argG m c) (Cert.Kernel6Ideal.Project.argW m c) b r (Cert.Kernel6Ideal.Body.queryCol e))
    (Cert.Reference6Ideal.Reading.query_real _ _ _ _ _ _ b r (hpre c).1 (hpre c).2)]

include hpre in
/-- and of a key. -/
theorem key_norm (b : Fin 2) (r : Fin 8192) (e : Fin 512) : Cert.Kernel6Ideal.Project.keyAt m c b r e
    = Cert.Reference6Ideal.Reading.headScaled (fun e => Cert.Kernel6Ideal.Project.feature (Cert.Kernel6Ideal.Project.argX m c)
        (Cert.Kernel6Ideal.Project.argG m c) (Cert.Kernel6Ideal.Project.argW m c) b r (Cert.Kernel6Ideal.Body.keyCol e))
        (Cert.Reference6Ideal.Reading.head e) (Cert.Kernel6Ideal.Project.place e)
      * Cert.Kernel6Ideal.Project.argK m c (ix1 (Cert.Kernel6Ideal.Project.place e)) := by
  unfold Cert.Kernel6Ideal.Project.keyAt
  rw [Cert.Reference6Ideal.Reading.tableScaled_eq (fun e => Cert.Kernel6Ideal.Project.feature (Cert.Kernel6Ideal.Project.argX m c)
    (Cert.Kernel6Ideal.Project.argG m c) (Cert.Kernel6Ideal.Project.argW m c) b r (Cert.Kernel6Ideal.Body.keyCol e))
    (Cert.Reference6Ideal.Reading.key_real _ _ _ _ _ _ b r (hpre c).1 (hpre c).2)]

theorem equation_gates : Cert.Kernel6Ideal.Project.gates m c
    = Cert.Reference6Ideal.Read.val_main_v53 (F := Ideal) (Cert.Kernel6Ideal.Project.argX m c) (Cert.Kernel6Ideal.Project.argG m c)
        (Cert.Kernel6Ideal.Project.argW m c) (Cert.Kernel6Ideal.Project.argB m c) := by
  have key : ∀ (b : Fin 2) (r : Fin 8192) (e : Fin 128), Cert.Kernel6Ideal.Project.gates m c (ix3 b r e)
      = Cert.Reference6Ideal.Read.val_main_v53 (F := Ideal) (Cert.Kernel6Ideal.Project.argX m c) (Cert.Kernel6Ideal.Project.argG m c)
          (Cert.Kernel6Ideal.Project.argW m c) (Cert.Kernel6Ideal.Project.argB m c) (ix3 b r e) := fun b r e =>
    (Cert.Reference6Ideal.Reading.gates_apply _ _ _ _ b r e).symm
  funext i
  rw [Cert.ReferenceIdeal.Reading.ix3_ext i (i 0) (i 1) (i 2) rfl rfl rfl]
  exact key _ _ _

theorem equation_inputs : Cert.Kernel6Ideal.Project.inputs m c
    = Cert.Reference6Ideal.Read.val_main_v62 (F := Ideal) (Cert.Kernel6Ideal.Project.argX m c) (Cert.Kernel6Ideal.Project.argG m c)
        (Cert.Kernel6Ideal.Project.argW m c) := by
  have key : ∀ (b : Fin 2) (r : Fin 8192) (e : Fin 512), Cert.Kernel6Ideal.Project.inputs m c (ix3 b r e)
      = Cert.Reference6Ideal.Read.val_main_v62 (F := Ideal) (Cert.Kernel6Ideal.Project.argX m c) (Cert.Kernel6Ideal.Project.argG m c)
          (Cert.Kernel6Ideal.Project.argW m c) (ix3 b r e) := fun b r e => (Cert.Reference6Ideal.Reading.inputs_apply _ _ _ b r e).symm
  funext i
  rw [Cert.ReferenceIdeal.Reading.ix3_ext i (i 0) (i 1) (i 2) rfl rfl rfl]
  exact key _ _ _

theorem equation_values : Cert.Kernel6Ideal.Project.values m c
    = Cert.Reference6Ideal.Read.val_main_v71 (F := Ideal) (Cert.Kernel6Ideal.Project.argX m c) (Cert.Kernel6Ideal.Project.argG m c)
        (Cert.Kernel6Ideal.Project.argW m c) := by
  have key : ∀ (e : Fin 512) (n : Fin 16384), Cert.Kernel6Ideal.Project.values m c (ix2 e n)
      = Cert.Reference6Ideal.Read.val_main_v71 (F := Ideal) (Cert.Kernel6Ideal.Project.argX m c) (Cert.Kernel6Ideal.Project.argG m c)
          (Cert.Kernel6Ideal.Project.argW m c) (ix2 e n) := fun e n => (Cert.Reference6Ideal.Reading.values_apply _ _ _ e n).symm
  funext i
  rw [Cert.ReferenceIdeal.Reading.ix2_ext i (i 0) (i 1) rfl rfl]
  exact key _ _

include hpre in
theorem equation_queries : Cert.Kernel6Ideal.Project.queries m c
    = Cert.Reference6Ideal.Read.val_main_v63 (F := Ideal) (Cert.Kernel6Ideal.Project.argX m c) (Cert.Kernel6Ideal.Project.argG m c)
        (Cert.Kernel6Ideal.Project.argW m c) (Cert.Kernel6Ideal.Project.argQ m c) := by
  have key : ∀ (b : Fin 2) (r : Fin 8192) (e : Fin 512), Cert.Kernel6Ideal.Project.queries m c (ix3 b r e)
      = Cert.Reference6Ideal.Read.val_main_v63 (F := Ideal) (Cert.Kernel6Ideal.Project.argX m c) (Cert.Kernel6Ideal.Project.argG m c)
          (Cert.Kernel6Ideal.Project.argW m c) (Cert.Kernel6Ideal.Project.argQ m c) (ix3 b r e) := fun b r e =>
    (query_norm m hpre c b r e).trans (Cert.Reference6Ideal.Reading.queries_apply _ _ _ _ b r e).symm
  funext i
  rw [Cert.ReferenceIdeal.Reading.ix3_ext i (i 0) (i 1) (i 2) rfl rfl rfl]
  exact key _ _ _

include hpre in
theorem equation_pairs : Cert.Kernel6Ideal.Project.pairs m c
    = Cert.Reference6Ideal.Read.val_main_v64 (F := Ideal) (Cert.Kernel6Ideal.Project.argX m c) (Cert.Kernel6Ideal.Project.argG m c)
        (Cert.Kernel6Ideal.Project.argW m c) (Cert.Kernel6Ideal.Project.argK m c) := by
  have key : ∀ (b : Fin 2) (r : Fin 8192) (f : Fin 1024), Cert.Kernel6Ideal.Project.pairs m c (ix3 b r f)
      = Cert.Reference6Ideal.Read.val_main_v64 (F := Ideal) (Cert.Kernel6Ideal.Project.argX m c) (Cert.Kernel6Ideal.Project.argG m c)
          (Cert.Kernel6Ideal.Project.argW m c) (Cert.Kernel6Ideal.Project.argK m c) (ix3 b r f) := fun b r f => by
    rcases Cert.Kernel6Ideal.Project.halves f with ⟨e, rfl⟩ | ⟨e, rfl⟩
    · exact (Cert.Kernel6Ideal.Project.pairAt_low m c b r e).trans
        ((key_norm m hpre c b r e).trans (Cert.Reference6Ideal.Reading.pairs_low _ _ _ _ b r e).symm)
    · exact (Cert.Kernel6Ideal.Project.pairAt_high m c b r e).trans (Cert.Reference6Ideal.Reading.pairs_high _ _ _ _ b r e).symm
  funext i
  rw [Cert.ReferenceIdeal.Reading.ix3_ext i (i 0) (i 1) (i 2) rfl rfl rfl]
  exact key _ _ _

include hpre in
theorem equation_keys : Cert.Kernel6Ideal.Project.keys m c
    = Cert.Reference6Ideal.Read.val_main_v65 (F := Ideal) (Cert.Kernel6Ideal.Project.argX m c) (Cert.Kernel6Ideal.Project.argG m c)
        (Cert.Kernel6Ideal.Project.argW m c) (Cert.Kernel6Ideal.Project.argK m c) := by
  have key : ∀ (b : Fin 2) (r : Fin 8192) (e : Fin 512), Cert.Kernel6Ideal.Project.keys m c (ix3 b r e)
      = Cert.Reference6Ideal.Read.val_main_v65 (F := Ideal) (Cert.Kernel6Ideal.Project.argX m c) (Cert.Kernel6Ideal.Project.argG m c)
          (Cert.Kernel6Ideal.Project.argW m c) (Cert.Kernel6Ideal.Project.argK m c) (ix3 b r e) := fun b r e =>
    (key_norm m hpre c b r e).trans (Cert.Reference6Ideal.Reading.keys_apply _ _ _ _ b r e).symm
  funext i
  rw [Cert.ReferenceIdeal.Reading.ix3_ext i (i 0) (i 1) (i 2) rfl rfl rfl]
  exact key _ _ _

include hpre in
theorem equation_turned : Cert.Kernel6Ideal.Project.turned m c
    = Cert.Reference6Ideal.Read.val_main_v68 (F := Ideal) (Cert.Kernel6Ideal.Project.argX m c) (Cert.Kernel6Ideal.Project.argG m c)
        (Cert.Kernel6Ideal.Project.argW m c) (Cert.Kernel6Ideal.Project.argQ m c) := by
  have key : ∀ (e : Fin 512) (n : Fin 16384), Cert.Kernel6Ideal.Project.turned m c (ix2 e n)
      = Cert.Reference6Ideal.Read.val_main_v68 (F := Ideal) (Cert.Kernel6Ideal.Project.argX m c) (Cert.Kernel6Ideal.Project.argG m c)
          (Cert.Kernel6Ideal.Project.argW m c) (Cert.Kernel6Ideal.Project.argQ m c) (ix2 e n) := fun e n =>
    (query_norm m hpre c _ _ e).trans (Cert.Reference6Ideal.Reading.turned_apply _ _ _ _ e n).symm
  funext i
  rw [Cert.ReferenceIdeal.Reading.ix2_ext i (i 0) (i 1) rfl rfl]
  exact key _ _

end

theorem algebraic6 : Cert.algebraic_Kernel6Ideal_Reference6Ideal_pre_head_weights_finite := fun m ρ m' ρ' hpre hagree =>
  ⟨Cert.Kernel6Ideal.Project.queries m, Cert.Kernel6Ideal.Project.pairs m, Cert.Kernel6Ideal.Project.keys m, Cert.Kernel6Ideal.Project.gates m,
    Cert.Kernel6Ideal.Project.inputs m, Cert.Kernel6Ideal.Project.turned m, Cert.Kernel6Ideal.Project.values m, Cert.Kernel6Ideal.Project.run m ρ,
    θ_run_mono (Cert.Reference6Ideal.Value.run m' ρ') fun _ h c => by
      obtain ⟨hq, hp, hk, hg, hu, ht, hv, hargs⟩ := h c
      obtain ⟨e0, e1, e2, e3, e4, e5⟩ := hagree c
      refine ⟨hq.trans ?_, hp.trans ?_, hk.trans ?_, hg.trans ?_, hu.trans ?_, ht.trans ?_, hv.trans ?_, hargs⟩
      · rw [equation_queries m hpre c, Cert.Reference6Ideal.Read.val_main_v63_eq, e0, e1, e2, e3]
        rfl
      · rw [equation_pairs m hpre c, Cert.Reference6Ideal.Read.val_main_v64_eq, e0, e1, e2, e4]
        rfl
      · rw [equation_keys m hpre c, Cert.Reference6Ideal.Read.val_main_v65_eq, e0, e1, e2, e4]
        rfl
      · rw [equation_gates m c, Cert.Reference6Ideal.Read.val_main_v53_eq, e0, e1, e2, e5]
        rfl
      · rw [equation_inputs m c, Cert.Reference6Ideal.Read.val_main_v62_eq, e0, e1, e2]
        rfl
      · rw [equation_turned m hpre c, Cert.Reference6Ideal.Read.val_main_v68_eq, e0, e1, e2, e3]
        rfl
      · rw [equation_values m c, Cert.Reference6Ideal.Read.val_main_v71_eq, e0, e1, e2]
        rfl⟩

/-- Everything claimed. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Pre_key_weights_finite.Gen.facts, Cert.Pre_query_weights_finite.Gen.facts, Cert.Pre_head_weights_finite.Gen.facts,
    frame_kernel, frame_kernelIdeal, frame_referenceIdeal, frame_kernel2, frame_kernel2Ideal, frame_reference2Ideal,
    frame_kernel3, frame_kernel3Ideal, frame_reference3Ideal, frame_kernel4, frame_kernel4Ideal, frame_kernel4Ideal_pre, frame_reference4Ideal,
    frame_reference4Ideal_pre, frame_kernel5, frame_kernel5Ideal, frame_kernel5Ideal_pre, frame_reference5Ideal, frame_reference5Ideal_pre,
    frame_kernel6, frame_kernel6Ideal, frame_kernel6Ideal_pre, frame_reference6Ideal, frame_reference6Ideal_pre,
    preserves, algebraic, trivial, algebraic2, trivial, algebraic3, trivial, algebraic4, trivial, algebraic5,
    trivial, algebraic6⟩

end Cert.Proof

end
